-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4x10x5x5 : Shape := ⟨4, ![4, 10, 5, 5]⟩
abbrev S64x10x3x3 : Shape := ⟨4, ![64, 10, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S512x256x3x3 : Shape := ⟨4, ![512, 256, 3, 3]⟩
abbrev S512 : Shape := ⟨1, ![512]⟩
abbrev S9216x512 : Shape := ⟨2, ![9216, 512]⟩
abbrev S512x256 : Shape := ⟨2, ![512, 256]⟩
abbrev S256x1 : Shape := ⟨2, ![256, 1]⟩
abbrev S1 : Shape := ⟨1, ![1]⟩
abbrev S4608x512 : Shape := ⟨2, ![4608, 512]⟩
abbrev S512x250 : Shape := ⟨2, ![512, 250]⟩
abbrev S250 : Shape := ⟨1, ![250]⟩
abbrev S8192x4608 : Shape := ⟨2, ![8192, 4608]⟩
abbrev S8192x5x5 : Shape := ⟨3, ![8192, 5, 5]⟩
abbrev S_ : Shape := ⟨0, ![]⟩
abbrev S4x10x7x7 : Shape := ⟨4, ![4, 10, 7, 7]⟩
abbrev S64x10x1x1 : Shape := ⟨4, ![64, 10, 1, 1]⟩
abbrev S64x10 : Shape := ⟨2, ![64, 10]⟩
abbrev S64x4x5x5 : Shape := ⟨4, ![64, 4, 5, 5]⟩
abbrev S4x64x5x5 : Shape := ⟨4, ![4, 64, 5, 5]⟩
abbrev S1x64x1x1 : Shape := ⟨4, ![1, 64, 1, 1]⟩
abbrev S4x64x7x7 : Shape := ⟨4, ![4, 64, 7, 7]⟩
abbrev S128x64x1x1 : Shape := ⟨4, ![128, 64, 1, 1]⟩
abbrev S128x64 : Shape := ⟨2, ![128, 64]⟩
abbrev S128x4x5x5 : Shape := ⟨4, ![128, 4, 5, 5]⟩
abbrev S4x128x5x5 : Shape := ⟨4, ![4, 128, 5, 5]⟩
abbrev S1x128x1x1 : Shape := ⟨4, ![1, 128, 1, 1]⟩
abbrev S4x128x7x7 : Shape := ⟨4, ![4, 128, 7, 7]⟩
abbrev S256x128x1x1 : Shape := ⟨4, ![256, 128, 1, 1]⟩
abbrev S256x128 : Shape := ⟨2, ![256, 128]⟩
abbrev S256x4x5x5 : Shape := ⟨4, ![256, 4, 5, 5]⟩
abbrev S4x256x5x5 : Shape := ⟨4, ![4, 256, 5, 5]⟩
abbrev S1x256x1x1 : Shape := ⟨4, ![1, 256, 1, 1]⟩
abbrev S4x256x2x2 : Shape := ⟨4, ![4, 256, 2, 2]⟩
abbrev S4x256 : Shape := ⟨2, ![4, 256]⟩
abbrev S4x256x2x3 : Shape := ⟨4, ![4, 256, 2, 3]⟩
abbrev S4x256x1 : Shape := ⟨3, ![4, 256, 1]⟩
abbrev S4x256x3 : Shape := ⟨3, ![4, 256, 3]⟩
abbrev S4x256x3x2 : Shape := ⟨4, ![4, 256, 3, 2]⟩
abbrev S4x256x3x3 : Shape := ⟨4, ![4, 256, 3, 3]⟩
abbrev S4x256x1x3 : Shape := ⟨4, ![4, 256, 1, 3]⟩
abbrev S512x256x1x1 : Shape := ⟨4, ![512, 256, 1, 1]⟩
abbrev S512x4x3x3 : Shape := ⟨4, ![512, 4, 3, 3]⟩
abbrev S4x512x3x3 : Shape := ⟨4, ![4, 512, 3, 3]⟩
abbrev S1x512x1x1 : Shape := ⟨4, ![1, 512, 1, 1]⟩
abbrev S4x4608 : Shape := ⟨2, ![4, 4608]⟩
abbrev S4x512 : Shape := ⟨2, ![4, 512]⟩
abbrev S8192x512 : Shape := ⟨2, ![8192, 512]⟩
abbrev S4x1x512 : Shape := ⟨3, ![4, 1, 512]⟩
abbrev S1x8192x512 : Shape := ⟨3, ![1, 8192, 512]⟩
abbrev S4x8192x512 : Shape := ⟨3, ![4, 8192, 512]⟩
abbrev S1x1x512 : Shape := ⟨3, ![1, 1, 512]⟩
abbrev S4x8192x256 : Shape := ⟨3, ![4, 8192, 256]⟩
abbrev S1x1x256 : Shape := ⟨3, ![1, 1, 256]⟩
abbrev S4x8192x1 : Shape := ⟨3, ![4, 8192, 1]⟩
abbrev S1x1x1 : Shape := ⟨3, ![1, 1, 1]⟩
abbrev S4x8192 : Shape := ⟨2, ![4, 8192]⟩
abbrev S4x51 : Shape := ⟨2, ![4, 51]⟩
abbrev S4x50 : Shape := ⟨2, ![4, 50]⟩
abbrev S4x1 : Shape := ⟨2, ![4, 1]⟩

class Facts : Prop where
  pads_S4x10x5x5_S4x10x7x7_000_000_110_110 : S4x10x5x5.Pads (![0, 0, 1, 1] : Fin 4 → Nat) ![0, 0, 1, 1] ![0, 0, 0, 0] S4x10x7x7
  h_S_ : 0 < S_.numel
  slices_S4x10x7x7_S4x10x5x5_0_0_0_0 : S4x10x7x7.Slices ![0, 0, 0, 0] S4x10x5x5
  slices_S64x10x3x3_S64x10x1x1_0_0_0_0 : S64x10x3x3.Slices ![0, 0, 0, 0] S64x10x1x1
  shapeCasts_S64x10x1x1_S64x10 : S64x10x1x1.ShapeCasts S64x10
  transposes_S64x4x5x5_S4x64x5x5_1_0_2_3 : S64x4x5x5.Transposes [1, 0, 2, 3] S4x64x5x5
  bcast_S_S4x64x5x5 : S_.BroadcastsInDim S4x64x5x5 (![] : Fin 0 → Fin S4x64x5x5.rank)
  slices_S4x10x7x7_S4x10x5x5_0_0_0_1 : S4x10x7x7.Slices ![0, 0, 0, 1] S4x10x5x5
  slices_S64x10x3x3_S64x10x1x1_0_0_0_1 : S64x10x3x3.Slices ![0, 0, 0, 1] S64x10x1x1
  slices_S4x10x7x7_S4x10x5x5_0_0_0_2 : S4x10x7x7.Slices ![0, 0, 0, 2] S4x10x5x5
  slices_S64x10x3x3_S64x10x1x1_0_0_0_2 : S64x10x3x3.Slices ![0, 0, 0, 2] S64x10x1x1
  slices_S4x10x7x7_S4x10x5x5_0_0_1_0 : S4x10x7x7.Slices ![0, 0, 1, 0] S4x10x5x5
  slices_S64x10x3x3_S64x10x1x1_0_0_1_0 : S64x10x3x3.Slices ![0, 0, 1, 0] S64x10x1x1
  slices_S4x10x7x7_S4x10x5x5_0_0_1_1 : S4x10x7x7.Slices ![0, 0, 1, 1] S4x10x5x5
  slices_S64x10x3x3_S64x10x1x1_0_0_1_1 : S64x10x3x3.Slices ![0, 0, 1, 1] S64x10x1x1
  slices_S4x10x7x7_S4x10x5x5_0_0_1_2 : S4x10x7x7.Slices ![0, 0, 1, 2] S4x10x5x5
  slices_S64x10x3x3_S64x10x1x1_0_0_1_2 : S64x10x3x3.Slices ![0, 0, 1, 2] S64x10x1x1
  slices_S4x10x7x7_S4x10x5x5_0_0_2_0 : S4x10x7x7.Slices ![0, 0, 2, 0] S4x10x5x5
  slices_S64x10x3x3_S64x10x1x1_0_0_2_0 : S64x10x3x3.Slices ![0, 0, 2, 0] S64x10x1x1
  slices_S4x10x7x7_S4x10x5x5_0_0_2_1 : S4x10x7x7.Slices ![0, 0, 2, 1] S4x10x5x5
  slices_S64x10x3x3_S64x10x1x1_0_0_2_1 : S64x10x3x3.Slices ![0, 0, 2, 1] S64x10x1x1
  slices_S4x10x7x7_S4x10x5x5_0_0_2_2 : S4x10x7x7.Slices ![0, 0, 2, 2] S4x10x5x5
  slices_S64x10x3x3_S64x10x1x1_0_0_2_2 : S64x10x3x3.Slices ![0, 0, 2, 2] S64x10x1x1
  bcast_S64_S1x64x1x1_1 : S64.BroadcastsInDim S1x64x1x1 (![1] : Fin 1 → Fin S1x64x1x1.rank)
  bcast_S1x64x1x1_S4x64x5x5_0_1_2_3 : S1x64x1x1.BroadcastsInDim S4x64x5x5 (![0, 1, 2, 3] : Fin 4 → Fin S4x64x5x5.rank)
  pads_S4x64x5x5_S4x64x7x7_000_000_110_110 : S4x64x5x5.Pads (![0, 0, 1, 1] : Fin 4 → Nat) ![0, 0, 1, 1] ![0, 0, 0, 0] S4x64x7x7
  slices_S4x64x7x7_S4x64x5x5_0_0_0_0 : S4x64x7x7.Slices ![0, 0, 0, 0] S4x64x5x5
  slices_S128x64x3x3_S128x64x1x1_0_0_0_0 : S128x64x3x3.Slices ![0, 0, 0, 0] S128x64x1x1
  shapeCasts_S128x64x1x1_S128x64 : S128x64x1x1.ShapeCasts S128x64
  transposes_S128x4x5x5_S4x128x5x5_1_0_2_3 : S128x4x5x5.Transposes [1, 0, 2, 3] S4x128x5x5
  bcast_S_S4x128x5x5 : S_.BroadcastsInDim S4x128x5x5 (![] : Fin 0 → Fin S4x128x5x5.rank)
  slices_S4x64x7x7_S4x64x5x5_0_0_0_1 : S4x64x7x7.Slices ![0, 0, 0, 1] S4x64x5x5
  slices_S128x64x3x3_S128x64x1x1_0_0_0_1 : S128x64x3x3.Slices ![0, 0, 0, 1] S128x64x1x1
  slices_S4x64x7x7_S4x64x5x5_0_0_0_2 : S4x64x7x7.Slices ![0, 0, 0, 2] S4x64x5x5
  slices_S128x64x3x3_S128x64x1x1_0_0_0_2 : S128x64x3x3.Slices ![0, 0, 0, 2] S128x64x1x1
  slices_S4x64x7x7_S4x64x5x5_0_0_1_0 : S4x64x7x7.Slices ![0, 0, 1, 0] S4x64x5x5
  slices_S128x64x3x3_S128x64x1x1_0_0_1_0 : S128x64x3x3.Slices ![0, 0, 1, 0] S128x64x1x1
  slices_S4x64x7x7_S4x64x5x5_0_0_1_1 : S4x64x7x7.Slices ![0, 0, 1, 1] S4x64x5x5
  slices_S128x64x3x3_S128x64x1x1_0_0_1_1 : S128x64x3x3.Slices ![0, 0, 1, 1] S128x64x1x1
  slices_S4x64x7x7_S4x64x5x5_0_0_1_2 : S4x64x7x7.Slices ![0, 0, 1, 2] S4x64x5x5
  slices_S128x64x3x3_S128x64x1x1_0_0_1_2 : S128x64x3x3.Slices ![0, 0, 1, 2] S128x64x1x1
  slices_S4x64x7x7_S4x64x5x5_0_0_2_0 : S4x64x7x7.Slices ![0, 0, 2, 0] S4x64x5x5
  slices_S128x64x3x3_S128x64x1x1_0_0_2_0 : S128x64x3x3.Slices ![0, 0, 2, 0] S128x64x1x1
  slices_S4x64x7x7_S4x64x5x5_0_0_2_1 : S4x64x7x7.Slices ![0, 0, 2, 1] S4x64x5x5
  slices_S128x64x3x3_S128x64x1x1_0_0_2_1 : S128x64x3x3.Slices ![0, 0, 2, 1] S128x64x1x1
  slices_S4x64x7x7_S4x64x5x5_0_0_2_2 : S4x64x7x7.Slices ![0, 0, 2, 2] S4x64x5x5
  slices_S128x64x3x3_S128x64x1x1_0_0_2_2 : S128x64x3x3.Slices ![0, 0, 2, 2] S128x64x1x1
  bcast_S128_S1x128x1x1_1 : S128.BroadcastsInDim S1x128x1x1 (![1] : Fin 1 → Fin S1x128x1x1.rank)
  bcast_S1x128x1x1_S4x128x5x5_0_1_2_3 : S1x128x1x1.BroadcastsInDim S4x128x5x5 (![0, 1, 2, 3] : Fin 4 → Fin S4x128x5x5.rank)
  pads_S4x128x5x5_S4x128x7x7_000_000_110_110 : S4x128x5x5.Pads (![0, 0, 1, 1] : Fin 4 → Nat) ![0, 0, 1, 1] ![0, 0, 0, 0] S4x128x7x7
  slices_S4x128x7x7_S4x128x5x5_0_0_0_0 : S4x128x7x7.Slices ![0, 0, 0, 0] S4x128x5x5
  slices_S256x128x3x3_S256x128x1x1_0_0_0_0 : S256x128x3x3.Slices ![0, 0, 0, 0] S256x128x1x1
  shapeCasts_S256x128x1x1_S256x128 : S256x128x1x1.ShapeCasts S256x128
  transposes_S256x4x5x5_S4x256x5x5_1_0_2_3 : S256x4x5x5.Transposes [1, 0, 2, 3] S4x256x5x5
  bcast_S_S4x256x5x5 : S_.BroadcastsInDim S4x256x5x5 (![] : Fin 0 → Fin S4x256x5x5.rank)
  slices_S4x128x7x7_S4x128x5x5_0_0_0_1 : S4x128x7x7.Slices ![0, 0, 0, 1] S4x128x5x5
  slices_S256x128x3x3_S256x128x1x1_0_0_0_1 : S256x128x3x3.Slices ![0, 0, 0, 1] S256x128x1x1
  slices_S4x128x7x7_S4x128x5x5_0_0_0_2 : S4x128x7x7.Slices ![0, 0, 0, 2] S4x128x5x5
  slices_S256x128x3x3_S256x128x1x1_0_0_0_2 : S256x128x3x3.Slices ![0, 0, 0, 2] S256x128x1x1
  slices_S4x128x7x7_S4x128x5x5_0_0_1_0 : S4x128x7x7.Slices ![0, 0, 1, 0] S4x128x5x5
  slices_S256x128x3x3_S256x128x1x1_0_0_1_0 : S256x128x3x3.Slices ![0, 0, 1, 0] S256x128x1x1
  slices_S4x128x7x7_S4x128x5x5_0_0_1_1 : S4x128x7x7.Slices ![0, 0, 1, 1] S4x128x5x5
  slices_S256x128x3x3_S256x128x1x1_0_0_1_1 : S256x128x3x3.Slices ![0, 0, 1, 1] S256x128x1x1
  slices_S4x128x7x7_S4x128x5x5_0_0_1_2 : S4x128x7x7.Slices ![0, 0, 1, 2] S4x128x5x5
  slices_S256x128x3x3_S256x128x1x1_0_0_1_2 : S256x128x3x3.Slices ![0, 0, 1, 2] S256x128x1x1
  slices_S4x128x7x7_S4x128x5x5_0_0_2_0 : S4x128x7x7.Slices ![0, 0, 2, 0] S4x128x5x5
  slices_S256x128x3x3_S256x128x1x1_0_0_2_0 : S256x128x3x3.Slices ![0, 0, 2, 0] S256x128x1x1
  slices_S4x128x7x7_S4x128x5x5_0_0_2_1 : S4x128x7x7.Slices ![0, 0, 2, 1] S4x128x5x5
  slices_S256x128x3x3_S256x128x1x1_0_0_2_1 : S256x128x3x3.Slices ![0, 0, 2, 1] S256x128x1x1
  slices_S4x128x7x7_S4x128x5x5_0_0_2_2 : S4x128x7x7.Slices ![0, 0, 2, 2] S4x128x5x5
  slices_S256x128x3x3_S256x128x1x1_0_0_2_2 : S256x128x3x3.Slices ![0, 0, 2, 2] S256x128x1x1
  bcast_S256_S1x256x1x1_1 : S256.BroadcastsInDim S1x256x1x1 (![1] : Fin 1 → Fin S1x256x1x1.rank)
  bcast_S1x256x1x1_S4x256x5x5_0_1_2_3 : S1x256x1x1.BroadcastsInDim S4x256x5x5 (![0, 1, 2, 3] : Fin 4 → Fin S4x256x5x5.rank)
  slices_S4x256x5x5_S4x256x2x2_0_0_0_0 : S4x256x5x5.Slices ![0, 0, 0, 0] S4x256x2x2
  reducesTo_S4x256x2x2_S4x256_d2_3 : S4x256x2x2.ReducesTo [2, 3] S4x256
  bcast_S_S4x256 : S_.BroadcastsInDim S4x256 (![] : Fin 0 → Fin S4x256.rank)
  slices_S4x256x5x5_S4x256x2x3_0_0_0_1 : S4x256x5x5.Slices ![0, 0, 0, 1] S4x256x2x3
  reducesTo_S4x256x2x3_S4x256_d2_3 : S4x256x2x3.ReducesTo [2, 3] S4x256
  slices_S4x256x5x5_S4x256x2x2_0_0_0_3 : S4x256x5x5.Slices ![0, 0, 0, 3] S4x256x2x2
  bcast_S4x256_S4x256x1_0_1 : S4x256.BroadcastsInDim S4x256x1 (![0, 1] : Fin 2 → Fin S4x256x1.rank)
  concatenates_S4x256x1_S4x256x1_S4x256x1_S4x256x3_d2 : Shape.Concatenates [S4x256x1, S4x256x1, S4x256x1] S4x256x3 2
  slices_S4x256x5x5_S4x256x3x2_0_0_1_0 : S4x256x5x5.Slices ![0, 0, 1, 0] S4x256x3x2
  reducesTo_S4x256x3x2_S4x256_d2_3 : S4x256x3x2.ReducesTo [2, 3] S4x256
  slices_S4x256x5x5_S4x256x3x3_0_0_1_1 : S4x256x5x5.Slices ![0, 0, 1, 1] S4x256x3x3
  reducesTo_S4x256x3x3_S4x256_d2_3 : S4x256x3x3.ReducesTo [2, 3] S4x256
  slices_S4x256x5x5_S4x256x3x2_0_0_1_3 : S4x256x5x5.Slices ![0, 0, 1, 3] S4x256x3x2
  slices_S4x256x5x5_S4x256x2x2_0_0_3_0 : S4x256x5x5.Slices ![0, 0, 3, 0] S4x256x2x2
  slices_S4x256x5x5_S4x256x2x3_0_0_3_1 : S4x256x5x5.Slices ![0, 0, 3, 1] S4x256x2x3
  slices_S4x256x5x5_S4x256x2x2_0_0_3_3 : S4x256x5x5.Slices ![0, 0, 3, 3] S4x256x2x2
  bcast_S4x256x3_S4x256x1x3_0_1_3 : S4x256x3.BroadcastsInDim S4x256x1x3 (![0, 1, 3] : Fin 3 → Fin S4x256x1x3.rank)
  concatenates_S4x256x1x3_S4x256x1x3_S4x256x1x3_S4x256x3x3_d2 : Shape.Concatenates [S4x256x1x3, S4x256x1x3, S4x256x1x3] S4x256x3x3 2
  pads_S4x256x3x3_S4x256x5x5_000_000_110_110 : S4x256x3x3.Pads (![0, 0, 1, 1] : Fin 4 → Nat) ![0, 0, 1, 1] ![0, 0, 0, 0] S4x256x5x5
  slices_S4x256x5x5_S4x256x3x3_0_0_0_0 : S4x256x5x5.Slices ![0, 0, 0, 0] S4x256x3x3
  slices_S512x256x3x3_S512x256x1x1_0_0_0_0 : S512x256x3x3.Slices ![0, 0, 0, 0] S512x256x1x1
  shapeCasts_S512x256x1x1_S512x256 : S512x256x1x1.ShapeCasts S512x256
  transposes_S512x4x3x3_S4x512x3x3_1_0_2_3 : S512x4x3x3.Transposes [1, 0, 2, 3] S4x512x3x3
  bcast_S_S4x512x3x3 : S_.BroadcastsInDim S4x512x3x3 (![] : Fin 0 → Fin S4x512x3x3.rank)
  slices_S4x256x5x5_S4x256x3x3_0_0_0_1 : S4x256x5x5.Slices ![0, 0, 0, 1] S4x256x3x3
  slices_S512x256x3x3_S512x256x1x1_0_0_0_1 : S512x256x3x3.Slices ![0, 0, 0, 1] S512x256x1x1
  slices_S4x256x5x5_S4x256x3x3_0_0_0_2 : S4x256x5x5.Slices ![0, 0, 0, 2] S4x256x3x3
  slices_S512x256x3x3_S512x256x1x1_0_0_0_2 : S512x256x3x3.Slices ![0, 0, 0, 2] S512x256x1x1
  slices_S4x256x5x5_S4x256x3x3_0_0_1_0 : S4x256x5x5.Slices ![0, 0, 1, 0] S4x256x3x3
  slices_S512x256x3x3_S512x256x1x1_0_0_1_0 : S512x256x3x3.Slices ![0, 0, 1, 0] S512x256x1x1
  slices_S512x256x3x3_S512x256x1x1_0_0_1_1 : S512x256x3x3.Slices ![0, 0, 1, 1] S512x256x1x1
  slices_S4x256x5x5_S4x256x3x3_0_0_1_2 : S4x256x5x5.Slices ![0, 0, 1, 2] S4x256x3x3
  slices_S512x256x3x3_S512x256x1x1_0_0_1_2 : S512x256x3x3.Slices ![0, 0, 1, 2] S512x256x1x1
  slices_S4x256x5x5_S4x256x3x3_0_0_2_0 : S4x256x5x5.Slices ![0, 0, 2, 0] S4x256x3x3
  slices_S512x256x3x3_S512x256x1x1_0_0_2_0 : S512x256x3x3.Slices ![0, 0, 2, 0] S512x256x1x1
  slices_S4x256x5x5_S4x256x3x3_0_0_2_1 : S4x256x5x5.Slices ![0, 0, 2, 1] S4x256x3x3
  slices_S512x256x3x3_S512x256x1x1_0_0_2_1 : S512x256x3x3.Slices ![0, 0, 2, 1] S512x256x1x1
  slices_S4x256x5x5_S4x256x3x3_0_0_2_2 : S4x256x5x5.Slices ![0, 0, 2, 2] S4x256x3x3
  slices_S512x256x3x3_S512x256x1x1_0_0_2_2 : S512x256x3x3.Slices ![0, 0, 2, 2] S512x256x1x1
  bcast_S512_S1x512x1x1_1 : S512.BroadcastsInDim S1x512x1x1 (![1] : Fin 1 → Fin S1x512x1x1.rank)
  bcast_S1x512x1x1_S4x512x3x3_0_1_2_3 : S1x512x1x1.BroadcastsInDim S4x512x3x3 (![0, 1, 2, 3] : Fin 4 → Fin S4x512x3x3.rank)
  shapeCasts_S4x512x3x3_S4x4608 : S4x512x3x3.ShapeCasts S4x4608
  slices_S9216x512_S4608x512_0_0 : S9216x512.Slices ![0, 0] S4608x512
  slices_S9216x512_S4608x512_4608_0 : S9216x512.Slices ![4608, 0] S4608x512
  bcast_S4x512_S4x1x512_0_2 : S4x512.BroadcastsInDim S4x1x512 (![0, 2] : Fin 2 → Fin S4x1x512.rank)
  bcast_S8192x512_S1x8192x512_1_2 : S8192x512.BroadcastsInDim S1x8192x512 (![1, 2] : Fin 2 → Fin S1x8192x512.rank)
  bcast_S4x1x512_S4x8192x512_0_1_2 : S4x1x512.BroadcastsInDim S4x8192x512 (![0, 1, 2] : Fin 3 → Fin S4x8192x512.rank)
  bcast_S1x8192x512_S4x8192x512_0_1_2 : S1x8192x512.BroadcastsInDim S4x8192x512 (![0, 1, 2] : Fin 3 → Fin S4x8192x512.rank)
  bcast_S512_S1x1x512_2 : S512.BroadcastsInDim S1x1x512 (![2] : Fin 1 → Fin S1x1x512.rank)
  bcast_S1x1x512_S4x8192x512_0_1_2 : S1x1x512.BroadcastsInDim S4x8192x512 (![0, 1, 2] : Fin 3 → Fin S4x8192x512.rank)
  bcast_S_S4x8192x512 : S_.BroadcastsInDim S4x8192x512 (![] : Fin 0 → Fin S4x8192x512.rank)
  bcast_S256_S1x1x256_2 : S256.BroadcastsInDim S1x1x256 (![2] : Fin 1 → Fin S1x1x256.rank)
  bcast_S1x1x256_S4x8192x256_0_1_2 : S1x1x256.BroadcastsInDim S4x8192x256 (![0, 1, 2] : Fin 3 → Fin S4x8192x256.rank)
  bcast_S_S4x8192x256 : S_.BroadcastsInDim S4x8192x256 (![] : Fin 0 → Fin S4x8192x256.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  shapeCasts_S4x8192x1_S4x8192 : S4x8192x1.ShapeCasts S4x8192
  sliceFits_S4x8192_S4x51 : S4x8192.Slices (fun _ => 0) S4x51
  slices_S4x51_S4x50_0_0 : S4x51.Slices ![0, 0] S4x50
  slices_S4x51_S4x50_0_1 : S4x51.Slices ![0, 1] S4x50
  slices_S4x51_S4x1_0_0 : S4x51.Slices ![0, 0] S4x1
  bcast_S_S4x1 : S_.BroadcastsInDim S4x1 (![] : Fin 0 → Fin S4x1.rank)
  bcast_S4x1_S4x50_0_1 : S4x1.BroadcastsInDim S4x50 (![0, 1] : Fin 2 → Fin S4x50.rank)
  dot_S64x10_S4x10x5x5_S64x4x5x5_1_1_0_023_n_n_wf : DotDims.WF S64x10 S4x10x5x5 S64x4x5x5 [1] [1] [0] [0, 2, 3] [] []
  dot_S128x64_S4x64x5x5_S128x4x5x5_1_1_0_023_n_n_wf : DotDims.WF S128x64 S4x64x5x5 S128x4x5x5 [1] [1] [0] [0, 2, 3] [] []
  dot_S256x128_S4x128x5x5_S256x4x5x5_1_1_0_023_n_n_wf : DotDims.WF S256x128 S4x128x5x5 S256x4x5x5 [1] [1] [0] [0, 2, 3] [] []
  dot_S512x256_S4x256x3x3_S512x4x3x3_1_1_0_023_n_n_wf : DotDims.WF S512x256 S4x256x3x3 S512x4x3x3 [1] [1] [0] [0, 2, 3] [] []
  dot_S4x4608_S4608x512_S4x512_1_0_0_1_n_n_wf : DotDims.WF S4x4608 S4608x512 S4x512 [1] [0] [0] [1] [] []
  dot_S8192x4608_S4608x512_S8192x512_1_0_0_1_n_n_wf : DotDims.WF S8192x4608 S4608x512 S8192x512 [1] [0] [0] [1] [] []
  dot_S4x8192x512_S512x256_S4x8192x256_2_0_01_1_n_n_wf : DotDims.WF S4x8192x512 S512x256 S4x8192x256 [2] [0] [0, 1] [1] [] []
  dot_S4x8192x256_S256x1_S4x8192x1_2_0_01_1_n_n_wf : DotDims.WF S4x8192x256 S256x1 S4x8192x1 [2] [0] [0, 1] [1] [] []

variable [Facts]

def dot_S64x10_S4x10x5x5_S64x4x5x5_1_1_0_023_n_n : DotDims S64x10 S4x10x5x5 S64x4x5x5 where
  lhsContracting := [1]
  rhsContracting := [1]
  lhsNonContracting := [0]
  rhsNonContracting := [0, 2, 3]
  lhsBatch := []
  rhsBatch := []
  wf := dot_S64x10_S4x10x5x5_S64x4x5x5_1_1_0_023_n_n_wf
def dot_S128x64_S4x64x5x5_S128x4x5x5_1_1_0_023_n_n : DotDims S128x64 S4x64x5x5 S128x4x5x5 where
  lhsContracting := [1]
  rhsContracting := [1]
  lhsNonContracting := [0]
  rhsNonContracting := [0, 2, 3]
  lhsBatch := []
  rhsBatch := []
  wf := dot_S128x64_S4x64x5x5_S128x4x5x5_1_1_0_023_n_n_wf
def dot_S256x128_S4x128x5x5_S256x4x5x5_1_1_0_023_n_n : DotDims S256x128 S4x128x5x5 S256x4x5x5 where
  lhsContracting := [1]
  rhsContracting := [1]
  lhsNonContracting := [0]
  rhsNonContracting := [0, 2, 3]
  lhsBatch := []
  rhsBatch := []
  wf := dot_S256x128_S4x128x5x5_S256x4x5x5_1_1_0_023_n_n_wf
def dot_S512x256_S4x256x3x3_S512x4x3x3_1_1_0_023_n_n : DotDims S512x256 S4x256x3x3 S512x4x3x3 where
  lhsContracting := [1]
  rhsContracting := [1]
  lhsNonContracting := [0]
  rhsNonContracting := [0, 2, 3]
  lhsBatch := []
  rhsBatch := []
  wf := dot_S512x256_S4x256x3x3_S512x4x3x3_1_1_0_023_n_n_wf
def dot_S4x4608_S4608x512_S4x512_1_0_0_1_n_n : DotDims S4x4608 S4608x512 S4x512 where
  lhsContracting := [1]
  rhsContracting := [0]
  lhsNonContracting := [0]
  rhsNonContracting := [1]
  lhsBatch := []
  rhsBatch := []
  wf := dot_S4x4608_S4608x512_S4x512_1_0_0_1_n_n_wf
def dot_S8192x4608_S4608x512_S8192x512_1_0_0_1_n_n : DotDims S8192x4608 S4608x512 S8192x512 where
  lhsContracting := [1]
  rhsContracting := [0]
  lhsNonContracting := [0]
  rhsNonContracting := [1]
  lhsBatch := []
  rhsBatch := []
  wf := dot_S8192x4608_S4608x512_S8192x512_1_0_0_1_n_n_wf
def dot_S4x8192x512_S512x256_S4x8192x256_2_0_01_1_n_n : DotDims S4x8192x512 S512x256 S4x8192x256 where
  lhsContracting := [2]
  rhsContracting := [0]
  lhsNonContracting := [0, 1]
  rhsNonContracting := [1]
  lhsBatch := []
  rhsBatch := []
  wf := dot_S4x8192x512_S512x256_S4x8192x256_2_0_01_1_n_n_wf
def dot_S4x8192x256_S256x1_S4x8192x1_2_0_01_1_n_n : DotDims S4x8192x256 S256x1 S4x8192x1 where
  lhsContracting := [2]
  rhsContracting := [0]
  lhsNonContracting := [0, 1]
  rhsNonContracting := [1]
  lhsBatch := []
  rhsBatch := []
  wf := dot_S4x8192x256_S256x1_S4x8192x1_2_0_01_1_n_n_wf
def fn_pad {F : FTy → Type} [FloatOps F] (arg0 : FVec F S4x10x5x5 .f32) (arg1 : IVec S_ 32) : FVec F S4x10x7x7 .f32 :=
  let v0 : FVec F S_ .f32 := sitofp .f32 arg1
  let v1 : FVec F S4x10x7x7 .f32 := (fun x v => pad S4x10x7x7 ![0, 0, 1, 1] ![0, 0, 1, 1] ![0, 0, 0, 0] x v pads_S4x10x5x5_S4x10x7x7_000_000_110_110 h_S_) arg0 v0
  v1

def fn_relu {F : FTy → Type} [FloatOps F] (arg0 : FVec F S4x64x5x5 .f32) : FVec F S4x64x5x5 .f32 :=
  let cst : FVec F S_ .f32 := constant S_ .f32 0x00000000#32
  let v0 : FVec F S4x64x5x5 .f32 := broadcastInDim S4x64x5x5 ![] bcast_S_S4x64x5x5 cst
  let v1 : FVec F S4x64x5x5 .f32 := maximumf arg0 v0
  v1

def fn_pad_0 {F : FTy → Type} [FloatOps F] (arg0 : FVec F S4x64x5x5 .f32) (arg1 : IVec S_ 32) : FVec F S4x64x7x7 .f32 :=
  let v0 : FVec F S_ .f32 := sitofp .f32 arg1
  let v1 : FVec F S4x64x7x7 .f32 := (fun x v => pad S4x64x7x7 ![0, 0, 1, 1] ![0, 0, 1, 1] ![0, 0, 0, 0] x v pads_S4x64x5x5_S4x64x7x7_000_000_110_110 h_S_) arg0 v0
  v1

def fn_relu_1 {F : FTy → Type} [FloatOps F] (arg0 : FVec F S4x128x5x5 .f32) : FVec F S4x128x5x5 .f32 :=
  let cst : FVec F S_ .f32 := constant S_ .f32 0x00000000#32
  let v0 : FVec F S4x128x5x5 .f32 := broadcastInDim S4x128x5x5 ![] bcast_S_S4x128x5x5 cst
  let v1 : FVec F S4x128x5x5 .f32 := maximumf arg0 v0
  v1

def fn_pad_2 {F : FTy → Type} [FloatOps F] (arg0 : FVec F S4x128x5x5 .f32) (arg1 : IVec S_ 32) : FVec F S4x128x7x7 .f32 :=
  let v0 : FVec F S_ .f32 := sitofp .f32 arg1
  let v1 : FVec F S4x128x7x7 .f32 := (fun x v => pad S4x128x7x7 ![0, 0, 1, 1] ![0, 0, 1, 1] ![0, 0, 0, 0] x v pads_S4x128x5x5_S4x128x7x7_000_000_110_110 h_S_) arg0 v0
  v1

def fn_relu_3 {F : FTy → Type} [FloatOps F] (arg0 : FVec F S4x256x5x5 .f32) : FVec F S4x256x5x5 .f32 :=
  let cst : FVec F S_ .f32 := constant S_ .f32 0x00000000#32
  let v0 : FVec F S4x256x5x5 .f32 := broadcastInDim S4x256x5x5 ![] bcast_S_S4x256x5x5 cst
  let v1 : FVec F S4x256x5x5 .f32 := maximumf arg0 v0
  v1

def fn_pad_4 {F : FTy → Type} [FloatOps F] (arg0 : FVec F S4x256x3x3 .f32) (arg1 : IVec S_ 32) : FVec F S4x256x5x5 .f32 :=
  let v0 : FVec F S_ .f32 := sitofp .f32 arg1
  let v1 : FVec F S4x256x5x5 .f32 := (fun x v => pad S4x256x5x5 ![0, 0, 1, 1] ![0, 0, 1, 1] ![0, 0, 0, 0] x v pads_S4x256x3x3_S4x256x5x5_000_000_110_110 h_S_) arg0 v0
  v1

def fn_relu_5 {F : FTy → Type} [FloatOps F] (arg0 : FVec F S4x512x3x3 .f32) : FVec F S4x512x3x3 .f32 :=
  let cst : FVec F S_ .f32 := constant S_ .f32 0x00000000#32
  let v0 : FVec F S4x512x3x3 .f32 := broadcastInDim S4x512x3x3 ![] bcast_S_S4x512x3x3 cst
  let v1 : FVec F S4x512x3x3 .f32 := maximumf arg0 v0
  v1

def fn_relu_6 {F : FTy → Type} [FloatOps F] (arg0 : FVec F S4x8192x512 .f32) : FVec F S4x8192x512 .f32 :=
  let cst : FVec F S_ .f32 := constant S_ .f32 0x00000000#32
  let v0 : FVec F S4x8192x512 .f32 := broadcastInDim S4x8192x512 ![] bcast_S_S4x8192x512 cst
  let v1 : FVec F S4x8192x512 .f32 := maximumf arg0 v0
  v1

def fn_relu_7 {F : FTy → Type} [FloatOps F] (arg0 : FVec F S4x8192x256 .f32) : FVec F S4x8192x256 .f32 :=
  let cst : FVec F S_ .f32 := constant S_ .f32 0x00000000#32
  let v0 : FVec F S4x8192x256 .f32 := broadcastInDim S4x8192x256 ![] bcast_S_S4x8192x256 cst
  let v1 : FVec F S4x8192x256 .f32 := maximumf arg0 v0
  v1

def fn_part14 {F : FTy → Type} [FloatOps F] (main_arg13 : FVec F S256x1 .f32) (main_arg14 : FVec F S1 .f32) (main_v309 : FVec F S4x8192x256 .f32) : IVec S4x50 1 :=
  let main_v310 : FVec F S4x8192x256 .f32 := fn_relu_7 (F := F) main_v309
  let main_v311 : FVec F S4x8192x1 .f32 := (fun l r => Host.dotGeneral dot_S4x8192x256_S256x1_S4x8192x1_2_0_01_1_n_n none l r) main_v310 main_arg13
  let main_v312 : FVec F S1x1x1 .f32 := broadcastInDim S1x1x1 ![2] bcast_S1_S1x1x1_2 main_arg14
  let main_v313 : FVec F S4x8192x1 .f32 := broadcastInDim S4x8192x1 ![0, 1, 2] bcast_S1x1x1_S4x8192x1_0_1_2 main_v312
  let main_v314 : FVec F S4x8192x1 .f32 := addf main_v311 main_v313
  let main_v315 : FVec F S4x8192 .f32 := shapeCast S4x8192 main_v314 shapeCasts_S4x8192x1_S4x8192
  let main_values : FVec F S4x51 .f32 := (fun x => (Host.topK S4x51 1 (FloatOps.cmpfTotal .gt) x sliceFits_S4x8192_S4x51).1) main_v315
  let main_indices : IVec S4x51 32 := (fun x => (Host.topK S4x51 1 (FloatOps.cmpfTotal .gt) x sliceFits_S4x8192_S4x51).2) main_v315
  let main_v316 : FVec F S4x50 .f32 := (extractStridedSlice S4x50 ![0, 0] · slices_S4x51_S4x50_0_0) main_values
  let main_v317 : FVec F S4x50 .f32 := (extractStridedSlice S4x50 ![0, 1] · slices_S4x51_S4x50_0_1) main_values
  let main_v318 : IVec S4x50 1 := cmpf .ogt main_v316 main_v317
  let main_v319 : FVec F S4x1 .f32 := (extractStridedSlice S4x1 ![0, 0] · slices_S4x51_S4x1_0_0) main_values
  let main_cst_24 : FVec F S_ .f32 := constant S_ .f32 0x7F800000#32
  let main_v320 : FVec F S4x1 .f32 := broadcastInDim S4x1 ![] bcast_S_S4x1 main_cst_24
  let main_v321 : IVec S4x1 1 := cmpf .olt main_v319 main_v320
  let main_v322 : IVec S4x50 1 := broadcastInDim S4x50 ![0, 1] bcast_S4x1_S4x50_0_1 main_v321
  let main_v323 : IVec S4x50 1 := andi main_v318 main_v322
  main_v323

def fn_part13 {F : FTy → Type} [FloatOps F] (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v281 : FVec F S4x512x3x3 .f32) (main_v285 : FVec F S512x4x3x3 .f32) : IVec S4x50 1 :=
  let main_v286 : FVec F S4x512x3x3 .f32 := (transpose S4x512x3x3 [1, 0, 2, 3] · transposes_S512x4x3x3_S4x512x3x3_1_0_2_3) main_v285
  let main_v287 : FVec F S4x512x3x3 .f32 := addf main_v281 main_v286
  let main_v288 : FVec F S1x512x1x1 .f32 := broadcastInDim S1x512x1x1 ![1] bcast_S512_S1x512x1x1_1 main_arg8
  let main_v289 : FVec F S4x512x3x3 .f32 := broadcastInDim S4x512x3x3 ![0, 1, 2, 3] bcast_S1x512x1x1_S4x512x3x3_0_1_2_3 main_v288
  let main_v290 : FVec F S4x512x3x3 .f32 := addf main_v287 main_v289
  let main_v291 : FVec F S4x512x3x3 .f32 := fn_relu_5 (F := F) main_v290
  let main_v292 : FVec F S4x4608 .f32 := shapeCast S4x4608 main_v291 shapeCasts_S4x512x3x3_S4x4608
  let main_v293 : FVec F S4608x512 .f32 := (extractStridedSlice S4608x512 ![0, 0] · slices_S9216x512_S4608x512_0_0) main_arg9
  let main_v294 : FVec F S4x512 .f32 := (fun l r => Host.dotGeneral dot_S4x4608_S4608x512_S4x512_1_0_0_1_n_n none l r) main_v292 main_v293
  let main_v295 : FVec F S4608x512 .f32 := (extractStridedSlice S4608x512 ![4608, 0] · slices_S9216x512_S4608x512_4608_0) main_arg9
  let main_v296 : FVec F S8192x512 .f32 := (fun l r => Host.dotGeneral dot_S8192x4608_S4608x512_S8192x512_1_0_0_1_n_n none l r) main_arg19 main_v295
  let main_v297 : FVec F S4x1x512 .f32 := broadcastInDim S4x1x512 ![0, 2] bcast_S4x512_S4x1x512_0_2 main_v294
  let main_v298 : FVec F S1x8192x512 .f32 := broadcastInDim S1x8192x512 ![1, 2] bcast_S8192x512_S1x8192x512_1_2 main_v296
  let main_v299 : FVec F S4x8192x512 .f32 := broadcastInDim S4x8192x512 ![0, 1, 2] bcast_S4x1x512_S4x8192x512_0_1_2 main_v297
  let main_v300 : FVec F S4x8192x512 .f32 := broadcastInDim S4x8192x512 ![0, 1, 2] bcast_S1x8192x512_S4x8192x512_0_1_2 main_v298
  let main_v301 : FVec F S4x8192x512 .f32 := addf main_v299 main_v300
  let main_v302 : FVec F S1x1x512 .f32 := broadcastInDim S1x1x512 ![2] bcast_S512_S1x1x512_2 main_arg10
  let main_v303 : FVec F S4x8192x512 .f32 := broadcastInDim S4x8192x512 ![0, 1, 2] bcast_S1x1x512_S4x8192x512_0_1_2 main_v302
  let main_v304 : FVec F S4x8192x512 .f32 := addf main_v301 main_v303
  let main_v305 : FVec F S4x8192x512 .f32 := fn_relu_6 (F := F) main_v304
  let main_v306 : FVec F S4x8192x256 .f32 := (fun l r => Host.dotGeneral dot_S4x8192x512_S512x256_S4x8192x256_2_0_01_1_n_n none l r) main_v305 main_arg11
  let main_v307 : FVec F S1x1x256 .f32 := broadcastInDim S1x1x256 ![2] bcast_S256_S1x1x256_2 main_arg12
  let main_v308 : FVec F S4x8192x256 .f32 := broadcastInDim S4x8192x256 ![0, 1, 2] bcast_S1x1x256_S4x8192x256_0_1_2 main_v307
  let main_v309 : FVec F S4x8192x256 .f32 := addf main_v306 main_v308
  fn_part14 (F := F) main_arg13 main_arg14 main_v309

def fn_part12 {F : FTy → Type} [FloatOps F] (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v232 : FVec F S4x256x5x5 .f32) (main_v257 : FVec F S4x512x3x3 .f32) (main_v261 : FVec F S512x4x3x3 .f32) : IVec S4x50 1 :=
  let main_v262 : FVec F S4x512x3x3 .f32 := (transpose S4x512x3x3 [1, 0, 2, 3] · transposes_S512x4x3x3_S4x512x3x3_1_0_2_3) main_v261
  let main_v263 : FVec F S4x512x3x3 .f32 := addf main_v257 main_v262
  let main_v264 : FVec F S4x256x3x3 .f32 := (extractStridedSlice S4x256x3x3 ![0, 0, 1, 2] · slices_S4x256x5x5_S4x256x3x3_0_0_1_2) main_v232
  let main_v265 : FVec F S512x256x1x1 .f32 := (extractStridedSlice S512x256x1x1 ![0, 0, 1, 2] · slices_S512x256x3x3_S512x256x1x1_0_0_1_2) main_arg7
  let main_v266 : FVec F S512x256 .f32 := shapeCast S512x256 main_v265 shapeCasts_S512x256x1x1_S512x256
  let main_v267 : FVec F S512x4x3x3 .f32 := (fun l r => Host.dotGeneral dot_S512x256_S4x256x3x3_S512x4x3x3_1_1_0_023_n_n none l r) main_v266 main_v264
  let main_v268 : FVec F S4x512x3x3 .f32 := (transpose S4x512x3x3 [1, 0, 2, 3] · transposes_S512x4x3x3_S4x512x3x3_1_0_2_3) main_v267
  let main_v269 : FVec F S4x512x3x3 .f32 := addf main_v263 main_v268
  let main_v270 : FVec F S4x256x3x3 .f32 := (extractStridedSlice S4x256x3x3 ![0, 0, 2, 0] · slices_S4x256x5x5_S4x256x3x3_0_0_2_0) main_v232
  let main_v271 : FVec F S512x256x1x1 .f32 := (extractStridedSlice S512x256x1x1 ![0, 0, 2, 0] · slices_S512x256x3x3_S512x256x1x1_0_0_2_0) main_arg7
  let main_v272 : FVec F S512x256 .f32 := shapeCast S512x256 main_v271 shapeCasts_S512x256x1x1_S512x256
  let main_v273 : FVec F S512x4x3x3 .f32 := (fun l r => Host.dotGeneral dot_S512x256_S4x256x3x3_S512x4x3x3_1_1_0_023_n_n none l r) main_v272 main_v270
  let main_v274 : FVec F S4x512x3x3 .f32 := (transpose S4x512x3x3 [1, 0, 2, 3] · transposes_S512x4x3x3_S4x512x3x3_1_0_2_3) main_v273
  let main_v275 : FVec F S4x512x3x3 .f32 := addf main_v269 main_v274
  let main_v276 : FVec F S4x256x3x3 .f32 := (extractStridedSlice S4x256x3x3 ![0, 0, 2, 1] · slices_S4x256x5x5_S4x256x3x3_0_0_2_1) main_v232
  let main_v277 : FVec F S512x256x1x1 .f32 := (extractStridedSlice S512x256x1x1 ![0, 0, 2, 1] · slices_S512x256x3x3_S512x256x1x1_0_0_2_1) main_arg7
  let main_v278 : FVec F S512x256 .f32 := shapeCast S512x256 main_v277 shapeCasts_S512x256x1x1_S512x256
  let main_v279 : FVec F S512x4x3x3 .f32 := (fun l r => Host.dotGeneral dot_S512x256_S4x256x3x3_S512x4x3x3_1_1_0_023_n_n none l r) main_v278 main_v276
  let main_v280 : FVec F S4x512x3x3 .f32 := (transpose S4x512x3x3 [1, 0, 2, 3] · transposes_S512x4x3x3_S4x512x3x3_1_0_2_3) main_v279
  let main_v281 : FVec F S4x512x3x3 .f32 := addf main_v275 main_v280
  let main_v282 : FVec F S4x256x3x3 .f32 := (extractStridedSlice S4x256x3x3 ![0, 0, 2, 2] · slices_S4x256x5x5_S4x256x3x3_0_0_2_2) main_v232
  let main_v283 : FVec F S512x256x1x1 .f32 := (extractStridedSlice S512x256x1x1 ![0, 0, 2, 2] · slices_S512x256x3x3_S512x256x1x1_0_0_2_2) main_arg7
  let main_v284 : FVec F S512x256 .f32 := shapeCast S512x256 main_v283 shapeCasts_S512x256x1x1_S512x256
  let main_v285 : FVec F S512x4x3x3 .f32 := (fun l r => Host.dotGeneral dot_S512x256_S4x256x3x3_S512x4x3x3_1_1_0_023_n_n none l r) main_v284 main_v282
  fn_part13 (F := F) main_arg8 main_arg9 main_arg10 main_arg11 main_arg12 main_arg13 main_arg14 main_arg19 main_v281 main_v285

def fn_part11 {F : FTy → Type} [FloatOps F] (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v232 : FVec F S4x256x5x5 .f32) (main_v237 : FVec F S4x512x3x3 .f32) (main_cst_23 : FVec F S_ .f32) : IVec S4x50 1 :=
  let main_v238 : FVec F S4x512x3x3 .f32 := broadcastInDim S4x512x3x3 ![] bcast_S_S4x512x3x3 main_cst_23
  let main_v239 : FVec F S4x512x3x3 .f32 := addf main_v238 main_v237
  let main_v240 : FVec F S4x256x3x3 .f32 := (extractStridedSlice S4x256x3x3 ![0, 0, 0, 1] · slices_S4x256x5x5_S4x256x3x3_0_0_0_1) main_v232
  let main_v241 : FVec F S512x256x1x1 .f32 := (extractStridedSlice S512x256x1x1 ![0, 0, 0, 1] · slices_S512x256x3x3_S512x256x1x1_0_0_0_1) main_arg7
  let main_v242 : FVec F S512x256 .f32 := shapeCast S512x256 main_v241 shapeCasts_S512x256x1x1_S512x256
  let main_v243 : FVec F S512x4x3x3 .f32 := (fun l r => Host.dotGeneral dot_S512x256_S4x256x3x3_S512x4x3x3_1_1_0_023_n_n none l r) main_v242 main_v240
  let main_v244 : FVec F S4x512x3x3 .f32 := (transpose S4x512x3x3 [1, 0, 2, 3] · transposes_S512x4x3x3_S4x512x3x3_1_0_2_3) main_v243
  let main_v245 : FVec F S4x512x3x3 .f32 := addf main_v239 main_v244
  let main_v246 : FVec F S4x256x3x3 .f32 := (extractStridedSlice S4x256x3x3 ![0, 0, 0, 2] · slices_S4x256x5x5_S4x256x3x3_0_0_0_2) main_v232
  let main_v247 : FVec F S512x256x1x1 .f32 := (extractStridedSlice S512x256x1x1 ![0, 0, 0, 2] · slices_S512x256x3x3_S512x256x1x1_0_0_0_2) main_arg7
  let main_v248 : FVec F S512x256 .f32 := shapeCast S512x256 main_v247 shapeCasts_S512x256x1x1_S512x256
  let main_v249 : FVec F S512x4x3x3 .f32 := (fun l r => Host.dotGeneral dot_S512x256_S4x256x3x3_S512x4x3x3_1_1_0_023_n_n none l r) main_v248 main_v246
  let main_v250 : FVec F S4x512x3x3 .f32 := (transpose S4x512x3x3 [1, 0, 2, 3] · transposes_S512x4x3x3_S4x512x3x3_1_0_2_3) main_v249
  let main_v251 : FVec F S4x512x3x3 .f32 := addf main_v245 main_v250
  let main_v252 : FVec F S4x256x3x3 .f32 := (extractStridedSlice S4x256x3x3 ![0, 0, 1, 0] · slices_S4x256x5x5_S4x256x3x3_0_0_1_0) main_v232
  let main_v253 : FVec F S512x256x1x1 .f32 := (extractStridedSlice S512x256x1x1 ![0, 0, 1, 0] · slices_S512x256x3x3_S512x256x1x1_0_0_1_0) main_arg7
  let main_v254 : FVec F S512x256 .f32 := shapeCast S512x256 main_v253 shapeCasts_S512x256x1x1_S512x256
  let main_v255 : FVec F S512x4x3x3 .f32 := (fun l r => Host.dotGeneral dot_S512x256_S4x256x3x3_S512x4x3x3_1_1_0_023_n_n none l r) main_v254 main_v252
  let main_v256 : FVec F S4x512x3x3 .f32 := (transpose S4x512x3x3 [1, 0, 2, 3] · transposes_S512x4x3x3_S4x512x3x3_1_0_2_3) main_v255
  let main_v257 : FVec F S4x512x3x3 .f32 := addf main_v251 main_v256
  let main_v258 : FVec F S4x256x3x3 .f32 := (extractStridedSlice S4x256x3x3 ![0, 0, 1, 1] · slices_S4x256x5x5_S4x256x3x3_0_0_1_1) main_v232
  let main_v259 : FVec F S512x256x1x1 .f32 := (extractStridedSlice S512x256x1x1 ![0, 0, 1, 1] · slices_S512x256x3x3_S512x256x1x1_0_0_1_1) main_arg7
  let main_v260 : FVec F S512x256 .f32 := shapeCast S512x256 main_v259 shapeCasts_S512x256x1x1_S512x256
  let main_v261 : FVec F S512x4x3x3 .f32 := (fun l r => Host.dotGeneral dot_S512x256_S4x256x3x3_S512x4x3x3_1_1_0_023_n_n none l r) main_v260 main_v258
  fn_part12 (F := F) main_arg7 main_arg8 main_arg9 main_arg10 main_arg11 main_arg12 main_arg13 main_arg14 main_arg19 main_v232 main_v257 main_v261

def fn_part10 {F : FTy → Type} [FloatOps F] (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v179 : FVec F S4x256x5x5 .f32) (main_v195 : FVec F S4x256x3 .f32) (main_v211 : FVec F S4x256x3 .f32) (main_v215 : FVec F S4x256 .f32) (main_v217 : FVec F S4x256 .f32) (main_cst_19 : FVec F S_ .f32) : IVec S4x50 1 :=
  let main_v218 : FVec F S4x256 .f32 := broadcastInDim S4x256 ![] bcast_S_S4x256 main_cst_19
  let main_v219 : FVec F S4x256 .f32 := Host.divf main_v217 main_v218
  let main_v220 : FVec F S4x256x2x2 .f32 := (extractStridedSlice S4x256x2x2 ![0, 0, 3, 3] · slices_S4x256x5x5_S4x256x2x2_0_0_3_3) main_v179
  let main_cst_20 : FVec F S_ .f32 := constant S_ .f32 0x00000000#32
  let main_v221 : FVec F S4x256 .f32 := (fun x v => Host.reduceAdd x v reducesTo_S4x256x2x2_S4x256_d2_3 h_S_) main_v220 main_cst_20
  let main_cst_21 : FVec F S_ .f32 := constant S_ .f32 0x40800000#32
  let main_v222 : FVec F S4x256 .f32 := broadcastInDim S4x256 ![] bcast_S_S4x256 main_cst_21
  let main_v223 : FVec F S4x256 .f32 := Host.divf main_v221 main_v222
  let main_v224 : FVec F S4x256x1 .f32 := broadcastInDim S4x256x1 ![0, 1] bcast_S4x256_S4x256x1_0_1 main_v215
  let main_v225 : FVec F S4x256x1 .f32 := broadcastInDim S4x256x1 ![0, 1] bcast_S4x256_S4x256x1_0_1 main_v219
  let main_v226 : FVec F S4x256x1 .f32 := broadcastInDim S4x256x1 ![0, 1] bcast_S4x256_S4x256x1_0_1 main_v223
  let main_v227 : FVec F S4x256x3 .f32 := concatenate S4x256x3 2 [⟨S4x256x1, main_v224⟩, ⟨S4x256x1, main_v225⟩, ⟨S4x256x1, main_v226⟩] concatenates_S4x256x1_S4x256x1_S4x256x1_S4x256x3_d2
  let main_v228 : FVec F S4x256x1x3 .f32 := broadcastInDim S4x256x1x3 ![0, 1, 3] bcast_S4x256x3_S4x256x1x3_0_1_3 main_v195
  let main_v229 : FVec F S4x256x1x3 .f32 := broadcastInDim S4x256x1x3 ![0, 1, 3] bcast_S4x256x3_S4x256x1x3_0_1_3 main_v211
  let main_v230 : FVec F S4x256x1x3 .f32 := broadcastInDim S4x256x1x3 ![0, 1, 3] bcast_S4x256x3_S4x256x1x3_0_1_3 main_v227
  let main_v231 : FVec F S4x256x3x3 .f32 := concatenate S4x256x3x3 2 [⟨S4x256x1x3, main_v228⟩, ⟨S4x256x1x3, main_v229⟩, ⟨S4x256x1x3, main_v230⟩] concatenates_S4x256x1x3_S4x256x1x3_S4x256x1x3_S4x256x3x3_d2
  let main_c_22 : IVec S_ 32 := constantI S_ 32 0#32
  let main_v232 : FVec F S4x256x5x5 .f32 := fn_pad_4 (F := F) main_v231 main_c_22
  let main_v233 : FVec F S4x256x3x3 .f32 := (extractStridedSlice S4x256x3x3 ![0, 0, 0, 0] · slices_S4x256x5x5_S4x256x3x3_0_0_0_0) main_v232
  let main_v234 : FVec F S512x256x1x1 .f32 := (extractStridedSlice S512x256x1x1 ![0, 0, 0, 0] · slices_S512x256x3x3_S512x256x1x1_0_0_0_0) main_arg7
  let main_v235 : FVec F S512x256 .f32 := shapeCast S512x256 main_v234 shapeCasts_S512x256x1x1_S512x256
  let main_v236 : FVec F S512x4x3x3 .f32 := (fun l r => Host.dotGeneral dot_S512x256_S4x256x3x3_S512x4x3x3_1_1_0_023_n_n none l r) main_v235 main_v233
  let main_v237 : FVec F S4x512x3x3 .f32 := (transpose S4x512x3x3 [1, 0, 2, 3] · transposes_S512x4x3x3_S4x512x3x3_1_0_2_3) main_v236
  let main_cst_23 : FVec F S_ .f32 := constant S_ .f32 0x00000000#32
  fn_part11 (F := F) main_arg7 main_arg8 main_arg9 main_arg10 main_arg11 main_arg12 main_arg13 main_arg14 main_arg19 main_v232 main_v237 main_cst_23

def fn_part9 {F : FTy → Type} [FloatOps F] (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v179 : FVec F S4x256x5x5 .f32) (main_v195 : FVec F S4x256x3 .f32) (main_v199 : FVec F S4x256 .f32) (main_v200 : FVec F S4x256x3x3 .f32) (main_cst_12 : FVec F S_ .f32) : IVec S4x50 1 :=
  let main_v201 : FVec F S4x256 .f32 := (fun x v => Host.reduceAdd x v reducesTo_S4x256x3x3_S4x256_d2_3 h_S_) main_v200 main_cst_12
  let main_cst_13 : FVec F S_ .f32 := constant S_ .f32 0x41100000#32
  let main_v202 : FVec F S4x256 .f32 := broadcastInDim S4x256 ![] bcast_S_S4x256 main_cst_13
  let main_v203 : FVec F S4x256 .f32 := Host.divf main_v201 main_v202
  let main_v204 : FVec F S4x256x3x2 .f32 := (extractStridedSlice S4x256x3x2 ![0, 0, 1, 3] · slices_S4x256x5x5_S4x256x3x2_0_0_1_3) main_v179
  let main_cst_14 : FVec F S_ .f32 := constant S_ .f32 0x00000000#32
  let main_v205 : FVec F S4x256 .f32 := (fun x v => Host.reduceAdd x v reducesTo_S4x256x3x2_S4x256_d2_3 h_S_) main_v204 main_cst_14
  let main_cst_15 : FVec F S_ .f32 := constant S_ .f32 0x40C00000#32
  let main_v206 : FVec F S4x256 .f32 := broadcastInDim S4x256 ![] bcast_S_S4x256 main_cst_15
  let main_v207 : FVec F S4x256 .f32 := Host.divf main_v205 main_v206
  let main_v208 : FVec F S4x256x1 .f32 := broadcastInDim S4x256x1 ![0, 1] bcast_S4x256_S4x256x1_0_1 main_v199
  let main_v209 : FVec F S4x256x1 .f32 := broadcastInDim S4x256x1 ![0, 1] bcast_S4x256_S4x256x1_0_1 main_v203
  let main_v210 : FVec F S4x256x1 .f32 := broadcastInDim S4x256x1 ![0, 1] bcast_S4x256_S4x256x1_0_1 main_v207
  let main_v211 : FVec F S4x256x3 .f32 := concatenate S4x256x3 2 [⟨S4x256x1, main_v208⟩, ⟨S4x256x1, main_v209⟩, ⟨S4x256x1, main_v210⟩] concatenates_S4x256x1_S4x256x1_S4x256x1_S4x256x3_d2
  let main_v212 : FVec F S4x256x2x2 .f32 := (extractStridedSlice S4x256x2x2 ![0, 0, 3, 0] · slices_S4x256x5x5_S4x256x2x2_0_0_3_0) main_v179
  let main_cst_16 : FVec F S_ .f32 := constant S_ .f32 0x00000000#32
  let main_v213 : FVec F S4x256 .f32 := (fun x v => Host.reduceAdd x v reducesTo_S4x256x2x2_S4x256_d2_3 h_S_) main_v212 main_cst_16
  let main_cst_17 : FVec F S_ .f32 := constant S_ .f32 0x40800000#32
  let main_v214 : FVec F S4x256 .f32 := broadcastInDim S4x256 ![] bcast_S_S4x256 main_cst_17
  let main_v215 : FVec F S4x256 .f32 := Host.divf main_v213 main_v214
  let main_v216 : FVec F S4x256x2x3 .f32 := (extractStridedSlice S4x256x2x3 ![0, 0, 3, 1] · slices_S4x256x5x5_S4x256x2x3_0_0_3_1) main_v179
  let main_cst_18 : FVec F S_ .f32 := constant S_ .f32 0x00000000#32
  let main_v217 : FVec F S4x256 .f32 := (fun x v => Host.reduceAdd x v reducesTo_S4x256x2x3_S4x256_d2_3 h_S_) main_v216 main_cst_18
  let main_cst_19 : FVec F S_ .f32 := constant S_ .f32 0x40C00000#32
  fn_part10 (F := F) main_arg7 main_arg8 main_arg9 main_arg10 main_arg11 main_arg12 main_arg13 main_arg14 main_arg19 main_v179 main_v195 main_v211 main_v215 main_v217 main_cst_19

def fn_part8 {F : FTy → Type} [FloatOps F] (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v179 : FVec F S4x256x5x5 .f32) (main_v183 : FVec F S4x256 .f32) : IVec S4x50 1 :=
  let main_v184 : FVec F S4x256x2x3 .f32 := (extractStridedSlice S4x256x2x3 ![0, 0, 0, 1] · slices_S4x256x5x5_S4x256x2x3_0_0_0_1) main_v179
  let main_cst_6 : FVec F S_ .f32 := constant S_ .f32 0x00000000#32
  let main_v185 : FVec F S4x256 .f32 := (fun x v => Host.reduceAdd x v reducesTo_S4x256x2x3_S4x256_d2_3 h_S_) main_v184 main_cst_6
  let main_cst_7 : FVec F S_ .f32 := constant S_ .f32 0x40C00000#32
  let main_v186 : FVec F S4x256 .f32 := broadcastInDim S4x256 ![] bcast_S_S4x256 main_cst_7
  let main_v187 : FVec F S4x256 .f32 := Host.divf main_v185 main_v186
  let main_v188 : FVec F S4x256x2x2 .f32 := (extractStridedSlice S4x256x2x2 ![0, 0, 0, 3] · slices_S4x256x5x5_S4x256x2x2_0_0_0_3) main_v179
  let main_cst_8 : FVec F S_ .f32 := constant S_ .f32 0x00000000#32
  let main_v189 : FVec F S4x256 .f32 := (fun x v => Host.reduceAdd x v reducesTo_S4x256x2x2_S4x256_d2_3 h_S_) main_v188 main_cst_8
  let main_cst_9 : FVec F S_ .f32 := constant S_ .f32 0x40800000#32
  let main_v190 : FVec F S4x256 .f32 := broadcastInDim S4x256 ![] bcast_S_S4x256 main_cst_9
  let main_v191 : FVec F S4x256 .f32 := Host.divf main_v189 main_v190
  let main_v192 : FVec F S4x256x1 .f32 := broadcastInDim S4x256x1 ![0, 1] bcast_S4x256_S4x256x1_0_1 main_v183
  let main_v193 : FVec F S4x256x1 .f32 := broadcastInDim S4x256x1 ![0, 1] bcast_S4x256_S4x256x1_0_1 main_v187
  let main_v194 : FVec F S4x256x1 .f32 := broadcastInDim S4x256x1 ![0, 1] bcast_S4x256_S4x256x1_0_1 main_v191
  let main_v195 : FVec F S4x256x3 .f32 := concatenate S4x256x3 2 [⟨S4x256x1, main_v192⟩, ⟨S4x256x1, main_v193⟩, ⟨S4x256x1, main_v194⟩] concatenates_S4x256x1_S4x256x1_S4x256x1_S4x256x3_d2
  let main_v196 : FVec F S4x256x3x2 .f32 := (extractStridedSlice S4x256x3x2 ![0, 0, 1, 0] · slices_S4x256x5x5_S4x256x3x2_0_0_1_0) main_v179
  let main_cst_10 : FVec F S_ .f32 := constant S_ .f32 0x00000000#32
  let main_v197 : FVec F S4x256 .f32 := (fun x v => Host.reduceAdd x v reducesTo_S4x256x3x2_S4x256_d2_3 h_S_) main_v196 main_cst_10
  let main_cst_11 : FVec F S_ .f32 := constant S_ .f32 0x40C00000#32
  let main_v198 : FVec F S4x256 .f32 := broadcastInDim S4x256 ![] bcast_S_S4x256 main_cst_11
  let main_v199 : FVec F S4x256 .f32 := Host.divf main_v197 main_v198
  let main_v200 : FVec F S4x256x3x3 .f32 := (extractStridedSlice S4x256x3x3 ![0, 0, 1, 1] · slices_S4x256x5x5_S4x256x3x3_0_0_1_1) main_v179
  let main_cst_12 : FVec F S_ .f32 := constant S_ .f32 0x00000000#32
  fn_part9 (F := F) main_arg7 main_arg8 main_arg9 main_arg10 main_arg11 main_arg12 main_arg13 main_arg14 main_arg19 main_v179 main_v195 main_v199 main_v200 main_cst_12

def fn_part7 {F : FTy → Type} [FloatOps F] (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v120 : FVec F S4x128x7x7 .f32) (main_v157 : FVec F S4x256x5x5 .f32) (main_v161 : FVec F S256x4x5x5 .f32) : IVec S4x50 1 :=
  let main_v162 : FVec F S4x256x5x5 .f32 := (transpose S4x256x5x5 [1, 0, 2, 3] · transposes_S256x4x5x5_S4x256x5x5_1_0_2_3) main_v161
  let main_v163 : FVec F S4x256x5x5 .f32 := addf main_v157 main_v162
  let main_v164 : FVec F S4x128x5x5 .f32 := (extractStridedSlice S4x128x5x5 ![0, 0, 2, 1] · slices_S4x128x7x7_S4x128x5x5_0_0_2_1) main_v120
  let main_v165 : FVec F S256x128x1x1 .f32 := (extractStridedSlice S256x128x1x1 ![0, 0, 2, 1] · slices_S256x128x3x3_S256x128x1x1_0_0_2_1) main_arg5
  let main_v166 : FVec F S256x128 .f32 := shapeCast S256x128 main_v165 shapeCasts_S256x128x1x1_S256x128
  let main_v167 : FVec F S256x4x5x5 .f32 := (fun l r => Host.dotGeneral dot_S256x128_S4x128x5x5_S256x4x5x5_1_1_0_023_n_n none l r) main_v166 main_v164
  let main_v168 : FVec F S4x256x5x5 .f32 := (transpose S4x256x5x5 [1, 0, 2, 3] · transposes_S256x4x5x5_S4x256x5x5_1_0_2_3) main_v167
  let main_v169 : FVec F S4x256x5x5 .f32 := addf main_v163 main_v168
  let main_v170 : FVec F S4x128x5x5 .f32 := (extractStridedSlice S4x128x5x5 ![0, 0, 2, 2] · slices_S4x128x7x7_S4x128x5x5_0_0_2_2) main_v120
  let main_v171 : FVec F S256x128x1x1 .f32 := (extractStridedSlice S256x128x1x1 ![0, 0, 2, 2] · slices_S256x128x3x3_S256x128x1x1_0_0_2_2) main_arg5
  let main_v172 : FVec F S256x128 .f32 := shapeCast S256x128 main_v171 shapeCasts_S256x128x1x1_S256x128
  let main_v173 : FVec F S256x4x5x5 .f32 := (fun l r => Host.dotGeneral dot_S256x128_S4x128x5x5_S256x4x5x5_1_1_0_023_n_n none l r) main_v172 main_v170
  let main_v174 : FVec F S4x256x5x5 .f32 := (transpose S4x256x5x5 [1, 0, 2, 3] · transposes_S256x4x5x5_S4x256x5x5_1_0_2_3) main_v173
  let main_v175 : FVec F S4x256x5x5 .f32 := addf main_v169 main_v174
  let main_v176 : FVec F S1x256x1x1 .f32 := broadcastInDim S1x256x1x1 ![1] bcast_S256_S1x256x1x1_1 main_arg6
  let main_v177 : FVec F S4x256x5x5 .f32 := broadcastInDim S4x256x5x5 ![0, 1, 2, 3] bcast_S1x256x1x1_S4x256x5x5_0_1_2_3 main_v176
  let main_v178 : FVec F S4x256x5x5 .f32 := addf main_v175 main_v177
  let main_v179 : FVec F S4x256x5x5 .f32 := fn_relu_3 (F := F) main_v178
  let main_v180 : FVec F S4x256x2x2 .f32 := (extractStridedSlice S4x256x2x2 ![0, 0, 0, 0] · slices_S4x256x5x5_S4x256x2x2_0_0_0_0) main_v179
  let main_cst_4 : FVec F S_ .f32 := constant S_ .f32 0x00000000#32
  let main_v181 : FVec F S4x256 .f32 := (fun x v => Host.reduceAdd x v reducesTo_S4x256x2x2_S4x256_d2_3 h_S_) main_v180 main_cst_4
  let main_cst_5 : FVec F S_ .f32 := constant S_ .f32 0x40800000#32
  let main_v182 : FVec F S4x256 .f32 := broadcastInDim S4x256 ![] bcast_S_S4x256 main_cst_5
  let main_v183 : FVec F S4x256 .f32 := Host.divf main_v181 main_v182
  fn_part8 (F := F) main_arg7 main_arg8 main_arg9 main_arg10 main_arg11 main_arg12 main_arg13 main_arg14 main_arg19 main_v179 main_v183

def fn_part6 {F : FTy → Type} [FloatOps F] (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v120 : FVec F S4x128x7x7 .f32) (main_v133 : FVec F S4x256x5x5 .f32) (main_v137 : FVec F S256x4x5x5 .f32) : IVec S4x50 1 :=
  let main_v138 : FVec F S4x256x5x5 .f32 := (transpose S4x256x5x5 [1, 0, 2, 3] · transposes_S256x4x5x5_S4x256x5x5_1_0_2_3) main_v137
  let main_v139 : FVec F S4x256x5x5 .f32 := addf main_v133 main_v138
  let main_v140 : FVec F S4x128x5x5 .f32 := (extractStridedSlice S4x128x5x5 ![0, 0, 1, 0] · slices_S4x128x7x7_S4x128x5x5_0_0_1_0) main_v120
  let main_v141 : FVec F S256x128x1x1 .f32 := (extractStridedSlice S256x128x1x1 ![0, 0, 1, 0] · slices_S256x128x3x3_S256x128x1x1_0_0_1_0) main_arg5
  let main_v142 : FVec F S256x128 .f32 := shapeCast S256x128 main_v141 shapeCasts_S256x128x1x1_S256x128
  let main_v143 : FVec F S256x4x5x5 .f32 := (fun l r => Host.dotGeneral dot_S256x128_S4x128x5x5_S256x4x5x5_1_1_0_023_n_n none l r) main_v142 main_v140
  let main_v144 : FVec F S4x256x5x5 .f32 := (transpose S4x256x5x5 [1, 0, 2, 3] · transposes_S256x4x5x5_S4x256x5x5_1_0_2_3) main_v143
  let main_v145 : FVec F S4x256x5x5 .f32 := addf main_v139 main_v144
  let main_v146 : FVec F S4x128x5x5 .f32 := (extractStridedSlice S4x128x5x5 ![0, 0, 1, 1] · slices_S4x128x7x7_S4x128x5x5_0_0_1_1) main_v120
  let main_v147 : FVec F S256x128x1x1 .f32 := (extractStridedSlice S256x128x1x1 ![0, 0, 1, 1] · slices_S256x128x3x3_S256x128x1x1_0_0_1_1) main_arg5
  let main_v148 : FVec F S256x128 .f32 := shapeCast S256x128 main_v147 shapeCasts_S256x128x1x1_S256x128
  let main_v149 : FVec F S256x4x5x5 .f32 := (fun l r => Host.dotGeneral dot_S256x128_S4x128x5x5_S256x4x5x5_1_1_0_023_n_n none l r) main_v148 main_v146
  let main_v150 : FVec F S4x256x5x5 .f32 := (transpose S4x256x5x5 [1, 0, 2, 3] · transposes_S256x4x5x5_S4x256x5x5_1_0_2_3) main_v149
  let main_v151 : FVec F S4x256x5x5 .f32 := addf main_v145 main_v150
  let main_v152 : FVec F S4x128x5x5 .f32 := (extractStridedSlice S4x128x5x5 ![0, 0, 1, 2] · slices_S4x128x7x7_S4x128x5x5_0_0_1_2) main_v120
  let main_v153 : FVec F S256x128x1x1 .f32 := (extractStridedSlice S256x128x1x1 ![0, 0, 1, 2] · slices_S256x128x3x3_S256x128x1x1_0_0_1_2) main_arg5
  let main_v154 : FVec F S256x128 .f32 := shapeCast S256x128 main_v153 shapeCasts_S256x128x1x1_S256x128
  let main_v155 : FVec F S256x4x5x5 .f32 := (fun l r => Host.dotGeneral dot_S256x128_S4x128x5x5_S256x4x5x5_1_1_0_023_n_n none l r) main_v154 main_v152
  let main_v156 : FVec F S4x256x5x5 .f32 := (transpose S4x256x5x5 [1, 0, 2, 3] · transposes_S256x4x5x5_S4x256x5x5_1_0_2_3) main_v155
  let main_v157 : FVec F S4x256x5x5 .f32 := addf main_v151 main_v156
  let main_v158 : FVec F S4x128x5x5 .f32 := (extractStridedSlice S4x128x5x5 ![0, 0, 2, 0] · slices_S4x128x7x7_S4x128x5x5_0_0_2_0) main_v120
  let main_v159 : FVec F S256x128x1x1 .f32 := (extractStridedSlice S256x128x1x1 ![0, 0, 2, 0] · slices_S256x128x3x3_S256x128x1x1_0_0_2_0) main_arg5
  let main_v160 : FVec F S256x128 .f32 := shapeCast S256x128 main_v159 shapeCasts_S256x128x1x1_S256x128
  let main_v161 : FVec F S256x4x5x5 .f32 := (fun l r => Host.dotGeneral dot_S256x128_S4x128x5x5_S256x4x5x5_1_1_0_023_n_n none l r) main_v160 main_v158
  fn_part7 (F := F) main_arg5 main_arg6 main_arg7 main_arg8 main_arg9 main_arg10 main_arg11 main_arg12 main_arg13 main_arg14 main_arg19 main_v120 main_v157 main_v161

def fn_part5 {F : FTy → Type} [FloatOps F] (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v115 : FVec F S4x128x5x5 .f32) : IVec S4x50 1 :=
  let main_v116 : FVec F S1x128x1x1 .f32 := broadcastInDim S1x128x1x1 ![1] bcast_S128_S1x128x1x1_1 main_arg4
  let main_v117 : FVec F S4x128x5x5 .f32 := broadcastInDim S4x128x5x5 ![0, 1, 2, 3] bcast_S1x128x1x1_S4x128x5x5_0_1_2_3 main_v116
  let main_v118 : FVec F S4x128x5x5 .f32 := addf main_v115 main_v117
  let main_v119 : FVec F S4x128x5x5 .f32 := fn_relu_1 (F := F) main_v118
  let main_c_2 : IVec S_ 32 := constantI S_ 32 0#32
  let main_v120 : FVec F S4x128x7x7 .f32 := fn_pad_2 (F := F) main_v119 main_c_2
  let main_v121 : FVec F S4x128x5x5 .f32 := (extractStridedSlice S4x128x5x5 ![0, 0, 0, 0] · slices_S4x128x7x7_S4x128x5x5_0_0_0_0) main_v120
  let main_v122 : FVec F S256x128x1x1 .f32 := (extractStridedSlice S256x128x1x1 ![0, 0, 0, 0] · slices_S256x128x3x3_S256x128x1x1_0_0_0_0) main_arg5
  let main_v123 : FVec F S256x128 .f32 := shapeCast S256x128 main_v122 shapeCasts_S256x128x1x1_S256x128
  let main_v124 : FVec F S256x4x5x5 .f32 := (fun l r => Host.dotGeneral dot_S256x128_S4x128x5x5_S256x4x5x5_1_1_0_023_n_n none l r) main_v123 main_v121
  let main_v125 : FVec F S4x256x5x5 .f32 := (transpose S4x256x5x5 [1, 0, 2, 3] · transposes_S256x4x5x5_S4x256x5x5_1_0_2_3) main_v124
  let main_cst_3 : FVec F S_ .f32 := constant S_ .f32 0x00000000#32
  let main_v126 : FVec F S4x256x5x5 .f32 := broadcastInDim S4x256x5x5 ![] bcast_S_S4x256x5x5 main_cst_3
  let main_v127 : FVec F S4x256x5x5 .f32 := addf main_v126 main_v125
  let main_v128 : FVec F S4x128x5x5 .f32 := (extractStridedSlice S4x128x5x5 ![0, 0, 0, 1] · slices_S4x128x7x7_S4x128x5x5_0_0_0_1) main_v120
  let main_v129 : FVec F S256x128x1x1 .f32 := (extractStridedSlice S256x128x1x1 ![0, 0, 0, 1] · slices_S256x128x3x3_S256x128x1x1_0_0_0_1) main_arg5
  let main_v130 : FVec F S256x128 .f32 := shapeCast S256x128 main_v129 shapeCasts_S256x128x1x1_S256x128
  let main_v131 : FVec F S256x4x5x5 .f32 := (fun l r => Host.dotGeneral dot_S256x128_S4x128x5x5_S256x4x5x5_1_1_0_023_n_n none l r) main_v130 main_v128
  let main_v132 : FVec F S4x256x5x5 .f32 := (transpose S4x256x5x5 [1, 0, 2, 3] · transposes_S256x4x5x5_S4x256x5x5_1_0_2_3) main_v131
  let main_v133 : FVec F S4x256x5x5 .f32 := addf main_v127 main_v132
  let main_v134 : FVec F S4x128x5x5 .f32 := (extractStridedSlice S4x128x5x5 ![0, 0, 0, 2] · slices_S4x128x7x7_S4x128x5x5_0_0_0_2) main_v120
  let main_v135 : FVec F S256x128x1x1 .f32 := (extractStridedSlice S256x128x1x1 ![0, 0, 0, 2] · slices_S256x128x3x3_S256x128x1x1_0_0_0_2) main_arg5
  let main_v136 : FVec F S256x128 .f32 := shapeCast S256x128 main_v135 shapeCasts_S256x128x1x1_S256x128
  let main_v137 : FVec F S256x4x5x5 .f32 := (fun l r => Host.dotGeneral dot_S256x128_S4x128x5x5_S256x4x5x5_1_1_0_023_n_n none l r) main_v136 main_v134
  fn_part6 (F := F) main_arg5 main_arg6 main_arg7 main_arg8 main_arg9 main_arg10 main_arg11 main_arg12 main_arg13 main_arg14 main_arg19 main_v120 main_v133 main_v137

def fn_part4 {F : FTy → Type} [FloatOps F] (main_arg3 : FVec F S128x64x3x3 .f32) (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v60 : FVec F S4x64x7x7 .f32) (main_v91 : FVec F S4x128x5x5 .f32) : IVec S4x50 1 :=
  let main_v92 : FVec F S4x64x5x5 .f32 := (extractStridedSlice S4x64x5x5 ![0, 0, 1, 2] · slices_S4x64x7x7_S4x64x5x5_0_0_1_2) main_v60
  let main_v93 : FVec F S128x64x1x1 .f32 := (extractStridedSlice S128x64x1x1 ![0, 0, 1, 2] · slices_S128x64x3x3_S128x64x1x1_0_0_1_2) main_arg3
  let main_v94 : FVec F S128x64 .f32 := shapeCast S128x64 main_v93 shapeCasts_S128x64x1x1_S128x64
  let main_v95 : FVec F S128x4x5x5 .f32 := (fun l r => Host.dotGeneral dot_S128x64_S4x64x5x5_S128x4x5x5_1_1_0_023_n_n none l r) main_v94 main_v92
  let main_v96 : FVec F S4x128x5x5 .f32 := (transpose S4x128x5x5 [1, 0, 2, 3] · transposes_S128x4x5x5_S4x128x5x5_1_0_2_3) main_v95
  let main_v97 : FVec F S4x128x5x5 .f32 := addf main_v91 main_v96
  let main_v98 : FVec F S4x64x5x5 .f32 := (extractStridedSlice S4x64x5x5 ![0, 0, 2, 0] · slices_S4x64x7x7_S4x64x5x5_0_0_2_0) main_v60
  let main_v99 : FVec F S128x64x1x1 .f32 := (extractStridedSlice S128x64x1x1 ![0, 0, 2, 0] · slices_S128x64x3x3_S128x64x1x1_0_0_2_0) main_arg3
  let main_v100 : FVec F S128x64 .f32 := shapeCast S128x64 main_v99 shapeCasts_S128x64x1x1_S128x64
  let main_v101 : FVec F S128x4x5x5 .f32 := (fun l r => Host.dotGeneral dot_S128x64_S4x64x5x5_S128x4x5x5_1_1_0_023_n_n none l r) main_v100 main_v98
  let main_v102 : FVec F S4x128x5x5 .f32 := (transpose S4x128x5x5 [1, 0, 2, 3] · transposes_S128x4x5x5_S4x128x5x5_1_0_2_3) main_v101
  let main_v103 : FVec F S4x128x5x5 .f32 := addf main_v97 main_v102
  let main_v104 : FVec F S4x64x5x5 .f32 := (extractStridedSlice S4x64x5x5 ![0, 0, 2, 1] · slices_S4x64x7x7_S4x64x5x5_0_0_2_1) main_v60
  let main_v105 : FVec F S128x64x1x1 .f32 := (extractStridedSlice S128x64x1x1 ![0, 0, 2, 1] · slices_S128x64x3x3_S128x64x1x1_0_0_2_1) main_arg3
  let main_v106 : FVec F S128x64 .f32 := shapeCast S128x64 main_v105 shapeCasts_S128x64x1x1_S128x64
  let main_v107 : FVec F S128x4x5x5 .f32 := (fun l r => Host.dotGeneral dot_S128x64_S4x64x5x5_S128x4x5x5_1_1_0_023_n_n none l r) main_v106 main_v104
  let main_v108 : FVec F S4x128x5x5 .f32 := (transpose S4x128x5x5 [1, 0, 2, 3] · transposes_S128x4x5x5_S4x128x5x5_1_0_2_3) main_v107
  let main_v109 : FVec F S4x128x5x5 .f32 := addf main_v103 main_v108
  let main_v110 : FVec F S4x64x5x5 .f32 := (extractStridedSlice S4x64x5x5 ![0, 0, 2, 2] · slices_S4x64x7x7_S4x64x5x5_0_0_2_2) main_v60
  let main_v111 : FVec F S128x64x1x1 .f32 := (extractStridedSlice S128x64x1x1 ![0, 0, 2, 2] · slices_S128x64x3x3_S128x64x1x1_0_0_2_2) main_arg3
  let main_v112 : FVec F S128x64 .f32 := shapeCast S128x64 main_v111 shapeCasts_S128x64x1x1_S128x64
  let main_v113 : FVec F S128x4x5x5 .f32 := (fun l r => Host.dotGeneral dot_S128x64_S4x64x5x5_S128x4x5x5_1_1_0_023_n_n none l r) main_v112 main_v110
  let main_v114 : FVec F S4x128x5x5 .f32 := (transpose S4x128x5x5 [1, 0, 2, 3] · transposes_S128x4x5x5_S4x128x5x5_1_0_2_3) main_v113
  let main_v115 : FVec F S4x128x5x5 .f32 := addf main_v109 main_v114
  fn_part5 (F := F) main_arg4 main_arg5 main_arg6 main_arg7 main_arg8 main_arg9 main_arg10 main_arg11 main_arg12 main_arg13 main_arg14 main_arg19 main_v115

def fn_part3 {F : FTy → Type} [FloatOps F] (main_arg3 : FVec F S128x64x3x3 .f32) (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v60 : FVec F S4x64x7x7 .f32) (main_v67 : FVec F S4x128x5x5 .f32) : IVec S4x50 1 :=
  let main_v68 : FVec F S4x64x5x5 .f32 := (extractStridedSlice S4x64x5x5 ![0, 0, 0, 1] · slices_S4x64x7x7_S4x64x5x5_0_0_0_1) main_v60
  let main_v69 : FVec F S128x64x1x1 .f32 := (extractStridedSlice S128x64x1x1 ![0, 0, 0, 1] · slices_S128x64x3x3_S128x64x1x1_0_0_0_1) main_arg3
  let main_v70 : FVec F S128x64 .f32 := shapeCast S128x64 main_v69 shapeCasts_S128x64x1x1_S128x64
  let main_v71 : FVec F S128x4x5x5 .f32 := (fun l r => Host.dotGeneral dot_S128x64_S4x64x5x5_S128x4x5x5_1_1_0_023_n_n none l r) main_v70 main_v68
  let main_v72 : FVec F S4x128x5x5 .f32 := (transpose S4x128x5x5 [1, 0, 2, 3] · transposes_S128x4x5x5_S4x128x5x5_1_0_2_3) main_v71
  let main_v73 : FVec F S4x128x5x5 .f32 := addf main_v67 main_v72
  let main_v74 : FVec F S4x64x5x5 .f32 := (extractStridedSlice S4x64x5x5 ![0, 0, 0, 2] · slices_S4x64x7x7_S4x64x5x5_0_0_0_2) main_v60
  let main_v75 : FVec F S128x64x1x1 .f32 := (extractStridedSlice S128x64x1x1 ![0, 0, 0, 2] · slices_S128x64x3x3_S128x64x1x1_0_0_0_2) main_arg3
  let main_v76 : FVec F S128x64 .f32 := shapeCast S128x64 main_v75 shapeCasts_S128x64x1x1_S128x64
  let main_v77 : FVec F S128x4x5x5 .f32 := (fun l r => Host.dotGeneral dot_S128x64_S4x64x5x5_S128x4x5x5_1_1_0_023_n_n none l r) main_v76 main_v74
  let main_v78 : FVec F S4x128x5x5 .f32 := (transpose S4x128x5x5 [1, 0, 2, 3] · transposes_S128x4x5x5_S4x128x5x5_1_0_2_3) main_v77
  let main_v79 : FVec F S4x128x5x5 .f32 := addf main_v73 main_v78
  let main_v80 : FVec F S4x64x5x5 .f32 := (extractStridedSlice S4x64x5x5 ![0, 0, 1, 0] · slices_S4x64x7x7_S4x64x5x5_0_0_1_0) main_v60
  let main_v81 : FVec F S128x64x1x1 .f32 := (extractStridedSlice S128x64x1x1 ![0, 0, 1, 0] · slices_S128x64x3x3_S128x64x1x1_0_0_1_0) main_arg3
  let main_v82 : FVec F S128x64 .f32 := shapeCast S128x64 main_v81 shapeCasts_S128x64x1x1_S128x64
  let main_v83 : FVec F S128x4x5x5 .f32 := (fun l r => Host.dotGeneral dot_S128x64_S4x64x5x5_S128x4x5x5_1_1_0_023_n_n none l r) main_v82 main_v80
  let main_v84 : FVec F S4x128x5x5 .f32 := (transpose S4x128x5x5 [1, 0, 2, 3] · transposes_S128x4x5x5_S4x128x5x5_1_0_2_3) main_v83
  let main_v85 : FVec F S4x128x5x5 .f32 := addf main_v79 main_v84
  let main_v86 : FVec F S4x64x5x5 .f32 := (extractStridedSlice S4x64x5x5 ![0, 0, 1, 1] · slices_S4x64x7x7_S4x64x5x5_0_0_1_1) main_v60
  let main_v87 : FVec F S128x64x1x1 .f32 := (extractStridedSlice S128x64x1x1 ![0, 0, 1, 1] · slices_S128x64x3x3_S128x64x1x1_0_0_1_1) main_arg3
  let main_v88 : FVec F S128x64 .f32 := shapeCast S128x64 main_v87 shapeCasts_S128x64x1x1_S128x64
  let main_v89 : FVec F S128x4x5x5 .f32 := (fun l r => Host.dotGeneral dot_S128x64_S4x64x5x5_S128x4x5x5_1_1_0_023_n_n none l r) main_v88 main_v86
  let main_v90 : FVec F S4x128x5x5 .f32 := (transpose S4x128x5x5 [1, 0, 2, 3] · transposes_S128x4x5x5_S4x128x5x5_1_0_2_3) main_v89
  let main_v91 : FVec F S4x128x5x5 .f32 := addf main_v85 main_v90
  fn_part4 (F := F) main_arg3 main_arg4 main_arg5 main_arg6 main_arg7 main_arg8 main_arg9 main_arg10 main_arg11 main_arg12 main_arg13 main_arg14 main_arg19 main_v60 main_v91

def fn_part2 {F : FTy → Type} [FloatOps F] (main_arg1 : FVec F S64x10x3x3 .f32) (main_arg2 : FVec F S64 .f32) (main_arg3 : FVec F S128x64x3x3 .f32) (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v0 : FVec F S4x10x7x7 .f32) (main_v43 : FVec F S4x64x5x5 .f32) (main_v44 : FVec F S4x10x5x5 .f32) (main_v45 : FVec F S64x10x1x1 .f32) : IVec S4x50 1 :=
  let main_v46 : FVec F S64x10 .f32 := shapeCast S64x10 main_v45 shapeCasts_S64x10x1x1_S64x10
  let main_v47 : FVec F S64x4x5x5 .f32 := (fun l r => Host.dotGeneral dot_S64x10_S4x10x5x5_S64x4x5x5_1_1_0_023_n_n none l r) main_v46 main_v44
  let main_v48 : FVec F S4x64x5x5 .f32 := (transpose S4x64x5x5 [1, 0, 2, 3] · transposes_S64x4x5x5_S4x64x5x5_1_0_2_3) main_v47
  let main_v49 : FVec F S4x64x5x5 .f32 := addf main_v43 main_v48
  let main_v50 : FVec F S4x10x5x5 .f32 := (extractStridedSlice S4x10x5x5 ![0, 0, 2, 2] · slices_S4x10x7x7_S4x10x5x5_0_0_2_2) main_v0
  let main_v51 : FVec F S64x10x1x1 .f32 := (extractStridedSlice S64x10x1x1 ![0, 0, 2, 2] · slices_S64x10x3x3_S64x10x1x1_0_0_2_2) main_arg1
  let main_v52 : FVec F S64x10 .f32 := shapeCast S64x10 main_v51 shapeCasts_S64x10x1x1_S64x10
  let main_v53 : FVec F S64x4x5x5 .f32 := (fun l r => Host.dotGeneral dot_S64x10_S4x10x5x5_S64x4x5x5_1_1_0_023_n_n none l r) main_v52 main_v50
  let main_v54 : FVec F S4x64x5x5 .f32 := (transpose S4x64x5x5 [1, 0, 2, 3] · transposes_S64x4x5x5_S4x64x5x5_1_0_2_3) main_v53
  let main_v55 : FVec F S4x64x5x5 .f32 := addf main_v49 main_v54
  let main_v56 : FVec F S1x64x1x1 .f32 := broadcastInDim S1x64x1x1 ![1] bcast_S64_S1x64x1x1_1 main_arg2
  let main_v57 : FVec F S4x64x5x5 .f32 := broadcastInDim S4x64x5x5 ![0, 1, 2, 3] bcast_S1x64x1x1_S4x64x5x5_0_1_2_3 main_v56
  let main_v58 : FVec F S4x64x5x5 .f32 := addf main_v55 main_v57
  let main_v59 : FVec F S4x64x5x5 .f32 := fn_relu (F := F) main_v58
  let main_c_0 : IVec S_ 32 := constantI S_ 32 0#32
  let main_v60 : FVec F S4x64x7x7 .f32 := fn_pad_0 (F := F) main_v59 main_c_0
  let main_v61 : FVec F S4x64x5x5 .f32 := (extractStridedSlice S4x64x5x5 ![0, 0, 0, 0] · slices_S4x64x7x7_S4x64x5x5_0_0_0_0) main_v60
  let main_v62 : FVec F S128x64x1x1 .f32 := (extractStridedSlice S128x64x1x1 ![0, 0, 0, 0] · slices_S128x64x3x3_S128x64x1x1_0_0_0_0) main_arg3
  let main_v63 : FVec F S128x64 .f32 := shapeCast S128x64 main_v62 shapeCasts_S128x64x1x1_S128x64
  let main_v64 : FVec F S128x4x5x5 .f32 := (fun l r => Host.dotGeneral dot_S128x64_S4x64x5x5_S128x4x5x5_1_1_0_023_n_n none l r) main_v63 main_v61
  let main_v65 : FVec F S4x128x5x5 .f32 := (transpose S4x128x5x5 [1, 0, 2, 3] · transposes_S128x4x5x5_S4x128x5x5_1_0_2_3) main_v64
  let main_cst_1 : FVec F S_ .f32 := constant S_ .f32 0x00000000#32
  let main_v66 : FVec F S4x128x5x5 .f32 := broadcastInDim S4x128x5x5 ![] bcast_S_S4x128x5x5 main_cst_1
  let main_v67 : FVec F S4x128x5x5 .f32 := addf main_v66 main_v65
  fn_part3 (F := F) main_arg3 main_arg4 main_arg5 main_arg6 main_arg7 main_arg8 main_arg9 main_arg10 main_arg11 main_arg12 main_arg13 main_arg14 main_arg19 main_v60 main_v67

def fn_part1 {F : FTy → Type} [FloatOps F] (main_arg1 : FVec F S64x10x3x3 .f32) (main_arg2 : FVec F S64 .f32) (main_arg3 : FVec F S128x64x3x3 .f32) (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg19 : FVec F S8192x4608 .f32) (main_v0 : FVec F S4x10x7x7 .f32) (main_v19 : FVec F S4x64x5x5 .f32) (main_v20 : FVec F S4x10x5x5 .f32) (main_v21 : FVec F S64x10x1x1 .f32) : IVec S4x50 1 :=
  let main_v22 : FVec F S64x10 .f32 := shapeCast S64x10 main_v21 shapeCasts_S64x10x1x1_S64x10
  let main_v23 : FVec F S64x4x5x5 .f32 := (fun l r => Host.dotGeneral dot_S64x10_S4x10x5x5_S64x4x5x5_1_1_0_023_n_n none l r) main_v22 main_v20
  let main_v24 : FVec F S4x64x5x5 .f32 := (transpose S4x64x5x5 [1, 0, 2, 3] · transposes_S64x4x5x5_S4x64x5x5_1_0_2_3) main_v23
  let main_v25 : FVec F S4x64x5x5 .f32 := addf main_v19 main_v24
  let main_v26 : FVec F S4x10x5x5 .f32 := (extractStridedSlice S4x10x5x5 ![0, 0, 1, 1] · slices_S4x10x7x7_S4x10x5x5_0_0_1_1) main_v0
  let main_v27 : FVec F S64x10x1x1 .f32 := (extractStridedSlice S64x10x1x1 ![0, 0, 1, 1] · slices_S64x10x3x3_S64x10x1x1_0_0_1_1) main_arg1
  let main_v28 : FVec F S64x10 .f32 := shapeCast S64x10 main_v27 shapeCasts_S64x10x1x1_S64x10
  let main_v29 : FVec F S64x4x5x5 .f32 := (fun l r => Host.dotGeneral dot_S64x10_S4x10x5x5_S64x4x5x5_1_1_0_023_n_n none l r) main_v28 main_v26
  let main_v30 : FVec F S4x64x5x5 .f32 := (transpose S4x64x5x5 [1, 0, 2, 3] · transposes_S64x4x5x5_S4x64x5x5_1_0_2_3) main_v29
  let main_v31 : FVec F S4x64x5x5 .f32 := addf main_v25 main_v30
  let main_v32 : FVec F S4x10x5x5 .f32 := (extractStridedSlice S4x10x5x5 ![0, 0, 1, 2] · slices_S4x10x7x7_S4x10x5x5_0_0_1_2) main_v0
  let main_v33 : FVec F S64x10x1x1 .f32 := (extractStridedSlice S64x10x1x1 ![0, 0, 1, 2] · slices_S64x10x3x3_S64x10x1x1_0_0_1_2) main_arg1
  let main_v34 : FVec F S64x10 .f32 := shapeCast S64x10 main_v33 shapeCasts_S64x10x1x1_S64x10
  let main_v35 : FVec F S64x4x5x5 .f32 := (fun l r => Host.dotGeneral dot_S64x10_S4x10x5x5_S64x4x5x5_1_1_0_023_n_n none l r) main_v34 main_v32
  let main_v36 : FVec F S4x64x5x5 .f32 := (transpose S4x64x5x5 [1, 0, 2, 3] · transposes_S64x4x5x5_S4x64x5x5_1_0_2_3) main_v35
  let main_v37 : FVec F S4x64x5x5 .f32 := addf main_v31 main_v36
  let main_v38 : FVec F S4x10x5x5 .f32 := (extractStridedSlice S4x10x5x5 ![0, 0, 2, 0] · slices_S4x10x7x7_S4x10x5x5_0_0_2_0) main_v0
  let main_v39 : FVec F S64x10x1x1 .f32 := (extractStridedSlice S64x10x1x1 ![0, 0, 2, 0] · slices_S64x10x3x3_S64x10x1x1_0_0_2_0) main_arg1
  let main_v40 : FVec F S64x10 .f32 := shapeCast S64x10 main_v39 shapeCasts_S64x10x1x1_S64x10
  let main_v41 : FVec F S64x4x5x5 .f32 := (fun l r => Host.dotGeneral dot_S64x10_S4x10x5x5_S64x4x5x5_1_1_0_023_n_n none l r) main_v40 main_v38
  let main_v42 : FVec F S4x64x5x5 .f32 := (transpose S4x64x5x5 [1, 0, 2, 3] · transposes_S64x4x5x5_S4x64x5x5_1_0_2_3) main_v41
  let main_v43 : FVec F S4x64x5x5 .f32 := addf main_v37 main_v42
  let main_v44 : FVec F S4x10x5x5 .f32 := (extractStridedSlice S4x10x5x5 ![0, 0, 2, 1] · slices_S4x10x7x7_S4x10x5x5_0_0_2_1) main_v0
  let main_v45 : FVec F S64x10x1x1 .f32 := (extractStridedSlice S64x10x1x1 ![0, 0, 2, 1] · slices_S64x10x3x3_S64x10x1x1_0_0_2_1) main_arg1
  fn_part2 (F := F) main_arg1 main_arg2 main_arg3 main_arg4 main_arg5 main_arg6 main_arg7 main_arg8 main_arg9 main_arg10 main_arg11 main_arg12 main_arg13 main_arg14 main_arg19 main_v0 main_v43 main_v44 main_v45

def fn {F : FTy → Type} [FloatOps F] (main_arg0 : FVec F S4x10x5x5 .f32) (main_arg1 : FVec F S64x10x3x3 .f32) (main_arg2 : FVec F S64 .f32) (main_arg3 : FVec F S128x64x3x3 .f32) (main_arg4 : FVec F S128 .f32) (main_arg5 : FVec F S256x128x3x3 .f32) (main_arg6 : FVec F S256 .f32) (main_arg7 : FVec F S512x256x3x3 .f32) (main_arg8 : FVec F S512 .f32) (main_arg9 : FVec F S9216x512 .f32) (main_arg10 : FVec F S512 .f32) (main_arg11 : FVec F S512x256 .f32) (main_arg12 : FVec F S256 .f32) (main_arg13 : FVec F S256x1 .f32) (main_arg14 : FVec F S1 .f32) (main_arg15 : FVec F S4608x512 .f32) (main_arg16 : FVec F S512 .f32) (main_arg17 : FVec F S512x250 .f32) (main_arg18 : FVec F S250 .f32) (main_arg19 : FVec F S8192x4608 .f32) (main_arg20 : IVec S8192x5x5 32) : IVec S4x50 1 :=
  let main_c : IVec S_ 32 := constantI S_ 32 0#32
  let main_v0 : FVec F S4x10x7x7 .f32 := fn_pad (F := F) main_arg0 main_c
  let main_v1 : FVec F S4x10x5x5 .f32 := (extractStridedSlice S4x10x5x5 ![0, 0, 0, 0] · slices_S4x10x7x7_S4x10x5x5_0_0_0_0) main_v0
  let main_v2 : FVec F S64x10x1x1 .f32 := (extractStridedSlice S64x10x1x1 ![0, 0, 0, 0] · slices_S64x10x3x3_S64x10x1x1_0_0_0_0) main_arg1
  let main_v3 : FVec F S64x10 .f32 := shapeCast S64x10 main_v2 shapeCasts_S64x10x1x1_S64x10
  let main_v4 : FVec F S64x4x5x5 .f32 := (fun l r => Host.dotGeneral dot_S64x10_S4x10x5x5_S64x4x5x5_1_1_0_023_n_n none l r) main_v3 main_v1
  let main_v5 : FVec F S4x64x5x5 .f32 := (transpose S4x64x5x5 [1, 0, 2, 3] · transposes_S64x4x5x5_S4x64x5x5_1_0_2_3) main_v4
  let main_cst : FVec F S_ .f32 := constant S_ .f32 0x00000000#32
  let main_v6 : FVec F S4x64x5x5 .f32 := broadcastInDim S4x64x5x5 ![] bcast_S_S4x64x5x5 main_cst
  let main_v7 : FVec F S4x64x5x5 .f32 := addf main_v6 main_v5
  let main_v8 : FVec F S4x10x5x5 .f32 := (extractStridedSlice S4x10x5x5 ![0, 0, 0, 1] · slices_S4x10x7x7_S4x10x5x5_0_0_0_1) main_v0
  let main_v9 : FVec F S64x10x1x1 .f32 := (extractStridedSlice S64x10x1x1 ![0, 0, 0, 1] · slices_S64x10x3x3_S64x10x1x1_0_0_0_1) main_arg1
  let main_v10 : FVec F S64x10 .f32 := shapeCast S64x10 main_v9 shapeCasts_S64x10x1x1_S64x10
  let main_v11 : FVec F S64x4x5x5 .f32 := (fun l r => Host.dotGeneral dot_S64x10_S4x10x5x5_S64x4x5x5_1_1_0_023_n_n none l r) main_v10 main_v8
  let main_v12 : FVec F S4x64x5x5 .f32 := (transpose S4x64x5x5 [1, 0, 2, 3] · transposes_S64x4x5x5_S4x64x5x5_1_0_2_3) main_v11
  let main_v13 : FVec F S4x64x5x5 .f32 := addf main_v7 main_v12
  let main_v14 : FVec F S4x10x5x5 .f32 := (extractStridedSlice S4x10x5x5 ![0, 0, 0, 2] · slices_S4x10x7x7_S4x10x5x5_0_0_0_2) main_v0
  let main_v15 : FVec F S64x10x1x1 .f32 := (extractStridedSlice S64x10x1x1 ![0, 0, 0, 2] · slices_S64x10x3x3_S64x10x1x1_0_0_0_2) main_arg1
  let main_v16 : FVec F S64x10 .f32 := shapeCast S64x10 main_v15 shapeCasts_S64x10x1x1_S64x10
  let main_v17 : FVec F S64x4x5x5 .f32 := (fun l r => Host.dotGeneral dot_S64x10_S4x10x5x5_S64x4x5x5_1_1_0_023_n_n none l r) main_v16 main_v14
  let main_v18 : FVec F S4x64x5x5 .f32 := (transpose S4x64x5x5 [1, 0, 2, 3] · transposes_S64x4x5x5_S4x64x5x5_1_0_2_3) main_v17
  let main_v19 : FVec F S4x64x5x5 .f32 := addf main_v13 main_v18
  let main_v20 : FVec F S4x10x5x5 .f32 := (extractStridedSlice S4x10x5x5 ![0, 0, 1, 0] · slices_S4x10x7x7_S4x10x5x5_0_0_1_0) main_v0
  let main_v21 : FVec F S64x10x1x1 .f32 := (extractStridedSlice S64x10x1x1 ![0, 0, 1, 0] · slices_S64x10x3x3_S64x10x1x1_0_0_1_0) main_arg1
  fn_part1 (F := F) main_arg1 main_arg2 main_arg3 main_arg4 main_arg5 main_arg6 main_arg7 main_arg8 main_arg9 main_arg10 main_arg11 main_arg12 main_arg13 main_arg14 main_arg19 main_v0 main_v19 main_v20 main_v21
-- ==== Kernel.lean ====
abbrev S4x10x5x5 : Shape := ⟨4, ![4, 10, 5, 5]⟩
abbrev S64x10x3x3 : Shape := ⟨4, ![64, 10, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S512x256x3x3 : Shape := ⟨4, ![512, 256, 3, 3]⟩
abbrev S512 : Shape := ⟨1, ![512]⟩
abbrev S9216x512 : Shape := ⟨2, ![9216, 512]⟩
abbrev S512x256 : Shape := ⟨2, ![512, 256]⟩
abbrev S256x1 : Shape := ⟨2, ![256, 1]⟩
abbrev S1 : Shape := ⟨1, ![1]⟩
abbrev S4608x512 : Shape := ⟨2, ![4608, 512]⟩
abbrev S512x250 : Shape := ⟨2, ![512, 250]⟩
abbrev S250 : Shape := ⟨1, ![250]⟩
abbrev S8192x4608 : Shape := ⟨2, ![8192, 4608]⟩
abbrev S8192x5x5 : Shape := ⟨3, ![8192, 5, 5]⟩
abbrev S9x100x100 : Shape := ⟨3, ![9, 100, 100]⟩
abbrev S9x36x36 : Shape := ⟨3, ![9, 36, 36]⟩
abbrev S36x100 : Shape := ⟨2, ![36, 100]⟩
abbrev S36 : Shape := ⟨1, ![36]⟩
abbrev S36x1 : Shape := ⟨2, ![36, 1]⟩
abbrev S4x5x5x10 : Shape := ⟨4, ![4, 5, 5, 10]⟩
abbrev S100x10 : Shape := ⟨2, ![100, 10]⟩
abbrev S3x3x10x64 : Shape := ⟨4, ![3, 3, 10, 64]⟩
abbrev S9x10x64 : Shape := ⟨3, ![9, 10, 64]⟩
abbrev S1x64 : Shape := ⟨2, ![1, 64]⟩
abbrev S3x3x64x128 : Shape := ⟨4, ![3, 3, 64, 128]⟩
abbrev S9x64x128 : Shape := ⟨3, ![9, 64, 128]⟩
abbrev S1x128 : Shape := ⟨2, ![1, 128]⟩
abbrev S3x3x128x256 : Shape := ⟨4, ![3, 3, 128, 256]⟩
abbrev S9x128x256 : Shape := ⟨3, ![9, 128, 256]⟩
abbrev S1x256 : Shape := ⟨2, ![1, 256]⟩
abbrev S3x3x256x512 : Shape := ⟨4, ![3, 3, 256, 512]⟩
abbrev S9x256x512 : Shape := ⟨3, ![9, 256, 512]⟩
abbrev S1x512 : Shape := ⟨2, ![1, 512]⟩
abbrev S36x512 : Shape := ⟨2, ![36, 512]⟩
abbrev S1x100x100 : Shape := ⟨3, ![1, 100, 100]⟩
abbrev S100x100 : Shape := ⟨2, ![100, 100]⟩
abbrev S1x10x64 : Shape := ⟨3, ![1, 10, 64]⟩
abbrev S10x64 : Shape := ⟨2, ![10, 64]⟩
abbrev S100x64 : Shape := ⟨2, ![100, 64]⟩
abbrev S1x64x128 : Shape := ⟨3, ![1, 64, 128]⟩
abbrev S64x128 : Shape := ⟨2, ![64, 128]⟩
abbrev S100x128 : Shape := ⟨2, ![100, 128]⟩
abbrev S1x128x256 : Shape := ⟨3, ![1, 128, 256]⟩
abbrev S128x256 : Shape := ⟨2, ![128, 256]⟩
abbrev S100x256 : Shape := ⟨2, ![100, 256]⟩
abbrev S36x256 : Shape := ⟨2, ![36, 256]⟩
abbrev S1x36x36 : Shape := ⟨3, ![1, 36, 36]⟩
abbrev S36x36 : Shape := ⟨2, ![36, 36]⟩
abbrev S1x256x512 : Shape := ⟨3, ![1, 256, 512]⟩
abbrev S256x512 : Shape := ⟨2, ![256, 512]⟩
abbrev S4x9x512 : Shape := ⟨3, ![4, 9, 512]⟩
abbrev S4x512x9 : Shape := ⟨3, ![4, 512, 9]⟩
abbrev S4x4608 : Shape := ⟨2, ![4, 4608]⟩
abbrev S4x512 : Shape := ⟨2, ![4, 512]⟩
abbrev S1x250 : Shape := ⟨2, ![1, 250]⟩
abbrev S4x250 : Shape := ⟨2, ![4, 250]⟩
abbrev S16x4x512 : Shape := ⟨3, ![16, 4, 512]⟩
abbrev S512x4608 : Shape := ⟨2, ![512, 4608]⟩
abbrev S1x4x512 : Shape := ⟨3, ![1, 4, 512]⟩
abbrev S512x512 : Shape := ⟨2, ![512, 512]⟩
abbrev S1x1x512 : Shape := ⟨3, ![1, 1, 512]⟩
abbrev S4x16x512 : Shape := ⟨3, ![4, 16, 512]⟩
abbrev S4x8192 : Shape := ⟨2, ![4, 8192]⟩
abbrev S8192x25 : Shape := ⟨2, ![8192, 25]⟩
abbrev S4x10x25 : Shape := ⟨3, ![4, 10, 25]⟩
abbrev S4 : Shape := ⟨1, ![4]⟩
abbrev S4x1 : Shape := ⟨2, ![4, 1]⟩
abbrev S4x25 : Shape := ⟨2, ![4, 25]⟩
abbrev S4x1x25 : Shape := ⟨3, ![4, 1, 25]⟩

abbrev nBuf : Space → Nat
  | .hbm => 61
  | .vmem => 33
  | .smem => 0
  | _ => 0

abbrev bufTy : (tb : Table) → Fin (tcTables nBuf tb) → BufTy
  | .hbm, ⟨0, _⟩ => ⟨S4x10x5x5, .f32⟩
  | .hbm, ⟨1, _⟩ => ⟨S64x10x3x3, .f32⟩
  | .hbm, ⟨2, _⟩ => ⟨S64, .f32⟩
  | .hbm, ⟨3, _⟩ => ⟨S128x64x3x3, .f32⟩
  | .hbm, ⟨4, _⟩ => ⟨S128, .f32⟩
  | .hbm, ⟨5, _⟩ => ⟨S256x128x3x3, .f32⟩
  | .hbm, ⟨6, _⟩ => ⟨S256, .f32⟩
  | .hbm, ⟨7, _⟩ => ⟨S512x256x3x3, .f32⟩
  | .hbm, ⟨8, _⟩ => ⟨S512, .f32⟩
  | .hbm, ⟨9, _⟩ => ⟨S9216x512, .f32⟩
  | .hbm, ⟨10, _⟩ => ⟨S512, .f32⟩
  | .hbm, ⟨11, _⟩ => ⟨S512x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S4608x512, .f32⟩
  | .hbm, ⟨16, _⟩ => ⟨S512, .f32⟩
  | .hbm, ⟨17, _⟩ => ⟨S512x250, .f32⟩
  | .hbm, ⟨18, _⟩ => ⟨S250, .f32⟩
  | .hbm, ⟨19, _⟩ => ⟨S8192x4608, .f32⟩
  | .hbm, ⟨20, _⟩ => ⟨S8192x5x5, .i32⟩
  | .hbm, ⟨21, _⟩ => ⟨S9x100x100, .f32⟩
  | .hbm, ⟨22, _⟩ => ⟨S9x36x36, .f32⟩
  | .hbm, ⟨23, _⟩ => ⟨S36x100, .f32⟩
  | .hbm, ⟨24, _⟩ => ⟨S36, .f32⟩
  | .hbm, ⟨25, _⟩ => ⟨S36x1, .f32⟩
  | .hbm, ⟨26, _⟩ => ⟨S4x5x5x10, .f32⟩
  | .hbm, ⟨27, _⟩ => ⟨S100x10, .f32⟩
  | .hbm, ⟨28, _⟩ => ⟨S36x100, .f32⟩
  | .hbm, ⟨29, _⟩ => ⟨S36x100, .f32⟩
  | .hbm, ⟨30, _⟩ => ⟨S3x3x10x64, .f32⟩
  | .hbm, ⟨31, _⟩ => ⟨S9x10x64, .f32⟩
  | .hbm, ⟨32, _⟩ => ⟨S1x64, .f32⟩
  | .hbm, ⟨33, _⟩ => ⟨S3x3x64x128, .f32⟩
  | .hbm, ⟨34, _⟩ => ⟨S9x64x128, .f32⟩
  | .hbm, ⟨35, _⟩ => ⟨S1x128, .f32⟩
  | .hbm, ⟨36, _⟩ => ⟨S3x3x128x256, .f32⟩
  | .hbm, ⟨37, _⟩ => ⟨S9x128x256, .f32⟩
  | .hbm, ⟨38, _⟩ => ⟨S1x256, .f32⟩
  | .hbm, ⟨39, _⟩ => ⟨S3x3x256x512, .f32⟩
  | .hbm, ⟨40, _⟩ => ⟨S9x256x512, .f32⟩
  | .hbm, ⟨41, _⟩ => ⟨S1x512, .f32⟩
  | .hbm, ⟨42, _⟩ => ⟨S36x512, .f32⟩
  | .hbm, ⟨43, _⟩ => ⟨S4x9x512, .f32⟩
  | .hbm, ⟨44, _⟩ => ⟨S4x512x9, .f32⟩
  | .hbm, ⟨45, _⟩ => ⟨S4x4608, .f32⟩
  | .hbm, ⟨46, _⟩ => ⟨S4608x512, .f32⟩
  | .hbm, ⟨47, _⟩ => ⟨S4x512, .f32⟩
  | .hbm, ⟨48, _⟩ => ⟨S1x512, .f32⟩
  | .hbm, ⟨49, _⟩ => ⟨S1x250, .f32⟩
  | .hbm, ⟨50, _⟩ => ⟨S4x250, .f32⟩
  | .hbm, ⟨51, _⟩ => ⟨S1x512, .f32⟩
  | .hbm, ⟨52, _⟩ => ⟨S1x256, .f32⟩
  | .hbm, ⟨53, _⟩ => ⟨S1x256, .f32⟩
  | .hbm, ⟨54, _⟩ => ⟨S16x4x512, .f32⟩
  | .hbm, ⟨55, _⟩ => ⟨S4x16x512, .f32⟩
  | .hbm, ⟨56, _⟩ => ⟨S4x8192, .f32⟩
  | .hbm, ⟨57, _⟩ => ⟨S8192x25, .i32⟩
  | .hbm, ⟨58, _⟩ => ⟨S4x10x25, .f32⟩
  | .hbm, ⟨59, _⟩ => ⟨S4x10x25, .f32⟩
  | .hbm, ⟨60, _⟩ => ⟨S4x10x5x5, .f32⟩
  | .local _ .vmem, ⟨0, _⟩ => ⟨S100x10, .f32⟩
  | .local _ .vmem, ⟨1, _⟩ => ⟨S9x100x100, .f32⟩
  | .local _ .vmem, ⟨2, _⟩ => ⟨S9x36x36, .f32⟩
  | .local _ .vmem, ⟨3, _⟩ => ⟨S36x100, .f32⟩
  | .local _ .vmem, ⟨4, _⟩ => ⟨S9x10x64, .f32⟩
  | .local _ .vmem, ⟨5, _⟩ => ⟨S1x64, .f32⟩
  | .local _ .vmem, ⟨6, _⟩ => ⟨S9x64x128, .f32⟩
  | .local _ .vmem, ⟨7, _⟩ => ⟨S1x128, .f32⟩
  | .local _ .vmem, ⟨8, _⟩ => ⟨S9x128x256, .f32⟩
  | .local _ .vmem, ⟨9, _⟩ => ⟨S1x256, .f32⟩
  | .local _ .vmem, ⟨10, _⟩ => ⟨S9x256x512, .f32⟩
  | .local _ .vmem, ⟨11, _⟩ => ⟨S1x512, .f32⟩
  | .local _ .vmem, ⟨12, _⟩ => ⟨S36x512, .f32⟩
  | .local _ .vmem, ⟨13, _⟩ => ⟨S4x4608, .f32⟩
  | .local _ .vmem, ⟨14, _⟩ => ⟨S4608x512, .f32⟩
  | .local _ .vmem, ⟨15, _⟩ => ⟨S1x512, .f32⟩
  | .local _ .vmem, ⟨16, _⟩ => ⟨S512x250, .f32⟩
  | .local _ .vmem, ⟨17, _⟩ => ⟨S1x250, .f32⟩
  | .local _ .vmem, ⟨18, _⟩ => ⟨S4x250, .f32⟩
  | .local _ .vmem, ⟨19, _⟩ => ⟨S512x4608, .f32⟩
  | .local _ .vmem, ⟨20, _⟩ => ⟨S512x4608, .f32⟩
  | .local _ .vmem, ⟨21, _⟩ => ⟨S4608x512, .f32⟩
  | .local _ .vmem, ⟨22, _⟩ => ⟨S4x512, .f32⟩
  | .local _ .vmem, ⟨23, _⟩ => ⟨S1x512, .f32⟩
  | .local _ .vmem, ⟨24, _⟩ => ⟨S512x256, .f32⟩
  | .local _ .vmem, ⟨25, _⟩ => ⟨S1x256, .f32⟩
  | .local _ .vmem, ⟨26, _⟩ => ⟨S1x256, .f32⟩
  | .local _ .vmem, ⟨27, _⟩ => ⟨S1x4x512, .f32⟩
  | .local _ .vmem, ⟨28, _⟩ => ⟨S1x4x512, .f32⟩
  | .local _ .vmem, ⟨29, _⟩ => ⟨S4x8192, .f32⟩
  | .local _ .vmem, ⟨30, _⟩ => ⟨S8192x25, .i32⟩
  | .local _ .vmem, ⟨31, _⟩ => ⟨S4x10x25, .f32⟩
  | .local _ .vmem, ⟨32, _⟩ => ⟨S4x10x25, .f32⟩
  | _, _ => ⟨S4x10x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_cst_0 : Ref sig .tc := ⟨.hbm, 22, rfl⟩
abbrev main_cst_1 : Ref sig .tc := ⟨.hbm, 23, rfl⟩
abbrev main_cst_2 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem2_0 : DmaSem sig := 31
abbrev cc3_sem3_0 : DmaSem sig := 32

abbrev nD : Nat := 1
abbrev τ : Topo := Topo.v7x

variable {F : FTy → Type} [FloatOps F]

abbrev grid0 : Pipeline.Grid := .none

abbrev stage0_0 : Fin 1 → Memref sig .tc .vmem S100x10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x36x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S9x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S36x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := .none

abbrev stage1_0 : Fin 1 → Memref sig .tc .vmem S4x4608 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4608x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x250 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x250 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x250 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x4608 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4608x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x4x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := .none

@[reducible] def k3_t1_loop : Scf.Loop 32 :=
  let c0_i32 : BitVec 32 := 0#32
  let c49_i32 : BitVec 32 := 49#32
  let v4 : BitVec 32 := Scalar.addi c0_i32 c49_i32
  let c1_i32 : BitVec 32 := 1#32
  ⟨c0_i32, v4, c1_i32⟩
abbrev stage3_0 : Fin 1 → Memref sig .tc .vmem S4x8192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8192x25 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4x10x25 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S4x10x25 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x10x5x5 : Shape := ⟨4, ![4, 10, 5, 5]⟩
abbrev S64x10x3x3 : Shape := ⟨4, ![64, 10, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S512x256x3x3 : Shape := ⟨4, ![512, 256, 3, 3]⟩
abbrev S512 : Shape := ⟨1, ![512]⟩
abbrev S9216x512 : Shape := ⟨2, ![9216, 512]⟩
abbrev S512x256 : Shape := ⟨2, ![512, 256]⟩
abbrev S256x1 : Shape := ⟨2, ![256, 1]⟩
abbrev S1 : Shape := ⟨1, ![1]⟩
abbrev S4608x512 : Shape := ⟨2, ![4608, 512]⟩
abbrev S512x250 : Shape := ⟨2, ![512, 250]⟩
abbrev S250 : Shape := ⟨1, ![250]⟩
abbrev S8192x4608 : Shape := ⟨2, ![8192, 4608]⟩
abbrev S8192x5x5 : Shape := ⟨3, ![8192, 5, 5]⟩
abbrev S_ : Shape := ⟨0, ![]⟩
abbrev S4x10x7x7 : Shape := ⟨4, ![4, 10, 7, 7]⟩
abbrev S64x10x1x1 : Shape := ⟨4, ![64, 10, 1, 1]⟩
abbrev S64x10 : Shape := ⟨2, ![64, 10]⟩
abbrev S64x4x5x5 : Shape := ⟨4, ![64, 4, 5, 5]⟩
abbrev S4x64x5x5 : Shape := ⟨4, ![4, 64, 5, 5]⟩
abbrev S1x64x1x1 : Shape := ⟨4, ![1, 64, 1, 1]⟩
abbrev S4x64x7x7 : Shape := ⟨4, ![4, 64, 7, 7]⟩
abbrev S128x64x1x1 : Shape := ⟨4, ![128, 64, 1, 1]⟩
abbrev S128x64 : Shape := ⟨2, ![128, 64]⟩
abbrev S128x4x5x5 : Shape := ⟨4, ![128, 4, 5, 5]⟩
abbrev S4x128x5x5 : Shape := ⟨4, ![4, 128, 5, 5]⟩
abbrev S1x128x1x1 : Shape := ⟨4, ![1, 128, 1, 1]⟩
abbrev S4x128x7x7 : Shape := ⟨4, ![4, 128, 7, 7]⟩
abbrev S256x128x1x1 : Shape := ⟨4, ![256, 128, 1, 1]⟩
abbrev S256x128 : Shape := ⟨2, ![256, 128]⟩
abbrev S256x4x5x5 : Shape := ⟨4, ![256, 4, 5, 5]⟩
abbrev S4x256x5x5 : Shape := ⟨4, ![4, 256, 5, 5]⟩
abbrev S1x256x1x1 : Shape := ⟨4, ![1, 256, 1, 1]⟩
abbrev S4x256x2x2 : Shape := ⟨4, ![4, 256, 2, 2]⟩
abbrev S4x256 : Shape := ⟨2, ![4, 256]⟩
abbrev S4x256x2x3 : Shape := ⟨4, ![4, 256, 2, 3]⟩
abbrev S4x256x1 : Shape := ⟨3, ![4, 256, 1]⟩
abbrev S4x256x3 : Shape := ⟨3, ![4, 256, 3]⟩
abbrev S4x256x3x2 : Shape := ⟨4, ![4, 256, 3, 2]⟩
abbrev S4x256x3x3 : Shape := ⟨4, ![4, 256, 3, 3]⟩
abbrev S4x256x1x3 : Shape := ⟨4, ![4, 256, 1, 3]⟩
abbrev S512x256x1x1 : Shape := ⟨4, ![512, 256, 1, 1]⟩
abbrev S512x4x3x3 : Shape := ⟨4, ![512, 4, 3, 3]⟩
abbrev S4x512x3x3 : Shape := ⟨4, ![4, 512, 3, 3]⟩
abbrev S1x512x1x1 : Shape := ⟨4, ![1, 512, 1, 1]⟩
abbrev S4x4608 : Shape := ⟨2, ![4, 4608]⟩
abbrev S4x512 : Shape := ⟨2, ![4, 512]⟩
abbrev S8192x512 : Shape := ⟨2, ![8192, 512]⟩
abbrev S4x1x512 : Shape := ⟨3, ![4, 1, 512]⟩
abbrev S1x8192x512 : Shape := ⟨3, ![1, 8192, 512]⟩
abbrev S4x8192x512 : Shape := ⟨3, ![4, 8192, 512]⟩
abbrev S1x1x512 : Shape := ⟨3, ![1, 1, 512]⟩
abbrev S4x8192x256 : Shape := ⟨3, ![4, 8192, 256]⟩
abbrev S1x1x256 : Shape := ⟨3, ![1, 1, 256]⟩
abbrev S4x8192x1 : Shape := ⟨3, ![4, 8192, 1]⟩
abbrev S1x1x1 : Shape := ⟨3, ![1, 1, 1]⟩
abbrev S4x8192 : Shape := ⟨2, ![4, 8192]⟩
abbrev S4x50 : Shape := ⟨2, ![4, 50]⟩
abbrev S4 : Shape := ⟨1, ![4]⟩
abbrev S4x1 : Shape := ⟨2, ![4, 1]⟩
abbrev S4x50x1 : Shape := ⟨3, ![4, 50, 1]⟩
abbrev S4x50x5x5 : Shape := ⟨4, ![4, 50, 5, 5]⟩
abbrev S4x50x5x5x1 : Shape := ⟨5, ![4, 50, 5, 5, 1]⟩
abbrev S1x1x1x1x10 : Shape := ⟨5, ![1, 1, 1, 1, 10]⟩
abbrev S4x50x5x5x10 : Shape := ⟨5, ![4, 50, 5, 5, 10]⟩
abbrev S4x50x10x5x5 : Shape := ⟨5, ![4, 50, 10, 5, 5]⟩
abbrev S4x50x1x1x1 : Shape := ⟨5, ![4, 50, 1, 1, 1]⟩
abbrev S1x512 : Shape := ⟨2, ![1, 512]⟩
abbrev S4x250 : Shape := ⟨2, ![4, 250]⟩
abbrev S1x250 : Shape := ⟨2, ![1, 250]⟩

abbrev nBuf : Space → Nat
  | .hbm => 452
  | .vmem => 0
  | .smem => 0
  | _ => 0

abbrev hbmTy0_0 (i : Nat) : BufTy := match i % 128 with
  | 0 => ⟨S4x10x5x5, .f32⟩
  | 1 => ⟨S64x10x3x3, .f32⟩
  | 2 => ⟨S64, .f32⟩
  | 3 => ⟨S128x64x3x3, .f32⟩
  | 4 => ⟨S128, .f32⟩
  | 5 => ⟨S256x128x3x3, .f32⟩
  | 6 => ⟨S256, .f32⟩
  | 7 => ⟨S512x256x3x3, .f32⟩
  | 8 => ⟨S512, .f32⟩
  | 9 => ⟨S9216x512, .f32⟩
  | 10 => ⟨S512, .f32⟩
  | 11 => ⟨S512x256, .f32⟩
  | 12 => ⟨S256, .f32⟩
  | 13 => ⟨S256x1, .f32⟩
  | 14 => ⟨S1, .f32⟩
  | 15 => ⟨S4608x512, .f32⟩
  | 16 => ⟨S512, .f32⟩
  | 17 => ⟨S512x250, .f32⟩
  | 18 => ⟨S250, .f32⟩
  | 19 => ⟨S8192x4608, .f32⟩
  | 20 => ⟨S8192x5x5, .i32⟩
  | 21 => ⟨S_, .i32⟩
  | 22 => ⟨S_, .f32⟩
  | 23 => ⟨S4x10x7x7, .f32⟩
  | 24 => ⟨S4x10x5x5, .f32⟩
  | 25 => ⟨S64x10x1x1, .f32⟩
  | 26 => ⟨S64x10, .f32⟩
  | 27 => ⟨S64x4x5x5, .f32⟩
  | 28 => ⟨S4x64x5x5, .f32⟩
  | 29 => ⟨S_, .f32⟩
  | 30 => ⟨S4x64x5x5, .f32⟩
  | 31 => ⟨S4x64x5x5, .f32⟩
  | 32 => ⟨S4x10x5x5, .f32⟩
  | 33 => ⟨S64x10x1x1, .f32⟩
  | 34 => ⟨S64x10, .f32⟩
  | 35 => ⟨S64x4x5x5, .f32⟩
  | 36 => ⟨S4x64x5x5, .f32⟩
  | 37 => ⟨S4x64x5x5, .f32⟩
  | 38 => ⟨S4x10x5x5, .f32⟩
  | 39 => ⟨S64x10x1x1, .f32⟩
  | 40 => ⟨S64x10, .f32⟩
  | 41 => ⟨S64x4x5x5, .f32⟩
  | 42 => ⟨S4x64x5x5, .f32⟩
  | 43 => ⟨S4x64x5x5, .f32⟩
  | 44 => ⟨S4x10x5x5, .f32⟩
  | 45 => ⟨S64x10x1x1, .f32⟩
  | 46 => ⟨S64x10, .f32⟩
  | 47 => ⟨S64x4x5x5, .f32⟩
  | 48 => ⟨S4x64x5x5, .f32⟩
  | 49 => ⟨S4x64x5x5, .f32⟩
  | 50 => ⟨S4x10x5x5, .f32⟩
  | 51 => ⟨S64x10x1x1, .f32⟩
  | 52 => ⟨S64x10, .f32⟩
  | 53 => ⟨S64x4x5x5, .f32⟩
  | 54 => ⟨S4x64x5x5, .f32⟩
  | 55 => ⟨S4x64x5x5, .f32⟩
  | 56 => ⟨S4x10x5x5, .f32⟩
  | 57 => ⟨S64x10x1x1, .f32⟩
  | 58 => ⟨S64x10, .f32⟩
  | 59 => ⟨S64x4x5x5, .f32⟩
  | 60 => ⟨S4x64x5x5, .f32⟩
  | 61 => ⟨S4x64x5x5, .f32⟩
  | 62 => ⟨S4x10x5x5, .f32⟩
  | 63 => ⟨S64x10x1x1, .f32⟩
  | 64 => ⟨S64x10, .f32⟩
  | 65 => ⟨S64x4x5x5, .f32⟩
  | 66 => ⟨S4x64x5x5, .f32⟩
  | 67 => ⟨S4x64x5x5, .f32⟩
  | 68 => ⟨S4x10x5x5, .f32⟩
  | 69 => ⟨S64x10x1x1, .f32⟩
  | 70 => ⟨S64x10, .f32⟩
  | 71 => ⟨S64x4x5x5, .f32⟩
  | 72 => ⟨S4x64x5x5, .f32⟩
  | 73 => ⟨S4x64x5x5, .f32⟩
  | 74 => ⟨S4x10x5x5, .f32⟩
  | 75 => ⟨S64x10x1x1, .f32⟩
  | 76 => ⟨S64x10, .f32⟩
  | 77 => ⟨S64x4x5x5, .f32⟩
  | 78 => ⟨S4x64x5x5, .f32⟩
  | 79 => ⟨S4x64x5x5, .f32⟩
  | 80 => ⟨S1x64x1x1, .f32⟩
  | 81 => ⟨S4x64x5x5, .f32⟩
  | 82 => ⟨S4x64x5x5, .f32⟩
  | 83 => ⟨S_, .f32⟩
  | 84 => ⟨S4x64x5x5, .f32⟩
  | 85 => ⟨S4x64x5x5, .f32⟩
  | 86 => ⟨S_, .i32⟩
  | 87 => ⟨S_, .f32⟩
  | 88 => ⟨S4x64x7x7, .f32⟩
  | 89 => ⟨S4x64x5x5, .f32⟩
  | 90 => ⟨S128x64x1x1, .f32⟩
  | 91 => ⟨S128x64, .f32⟩
  | 92 => ⟨S128x4x5x5, .f32⟩
  | 93 => ⟨S4x128x5x5, .f32⟩
  | 94 => ⟨S_, .f32⟩
  | 95 => ⟨S4x128x5x5, .f32⟩
  | 96 => ⟨S4x128x5x5, .f32⟩
  | 97 => ⟨S4x64x5x5, .f32⟩
  | 98 => ⟨S128x64x1x1, .f32⟩
  | 99 => ⟨S128x64, .f32⟩
  | 100 => ⟨S128x4x5x5, .f32⟩
  | 101 => ⟨S4x128x5x5, .f32⟩
  | 102 => ⟨S4x128x5x5, .f32⟩
  | 103 => ⟨S4x64x5x5, .f32⟩
  | 104 => ⟨S128x64x1x1, .f32⟩
  | 105 => ⟨S128x64, .f32⟩
  | 106 => ⟨S128x4x5x5, .f32⟩
  | 107 => ⟨S4x128x5x5, .f32⟩
  | 108 => ⟨S4x128x5x5, .f32⟩
  | 109 => ⟨S4x64x5x5, .f32⟩
  | 110 => ⟨S128x64x1x1, .f32⟩
  | 111 => ⟨S128x64, .f32⟩
  | 112 => ⟨S128x4x5x5, .f32⟩
  | 113 => ⟨S4x128x5x5, .f32⟩
  | 114 => ⟨S4x128x5x5, .f32⟩
  | 115 => ⟨S4x64x5x5, .f32⟩
  | 116 => ⟨S128x64x1x1, .f32⟩
  | 117 => ⟨S128x64, .f32⟩
  | 118 => ⟨S128x4x5x5, .f32⟩
  | 119 => ⟨S4x128x5x5, .f32⟩
  | 120 => ⟨S4x128x5x5, .f32⟩
  | 121 => ⟨S4x64x5x5, .f32⟩
  | 122 => ⟨S128x64x1x1, .f32⟩
  | 123 => ⟨S128x64, .f32⟩
  | 124 => ⟨S128x4x5x5, .f32⟩
  | 125 => ⟨S4x128x5x5, .f32⟩
  | 126 => ⟨S4x128x5x5, .f32⟩
  | 127 => ⟨S4x64x5x5, .f32⟩
  | _ => ⟨S4x10x5x5, .f32⟩

abbrev hbmTy0_1 (i : Nat) : BufTy := match i % 128 with
  | 0 => ⟨S128x64x1x1, .f32⟩
  | 1 => ⟨S128x64, .f32⟩
  | 2 => ⟨S128x4x5x5, .f32⟩
  | 3 => ⟨S4x128x5x5, .f32⟩
  | 4 => ⟨S4x128x5x5, .f32⟩
  | 5 => ⟨S4x64x5x5, .f32⟩
  | 6 => ⟨S128x64x1x1, .f32⟩
  | 7 => ⟨S128x64, .f32⟩
  | 8 => ⟨S128x4x5x5, .f32⟩
  | 9 => ⟨S4x128x5x5, .f32⟩
  | 10 => ⟨S4x128x5x5, .f32⟩
  | 11 => ⟨S4x64x5x5, .f32⟩
  | 12 => ⟨S128x64x1x1, .f32⟩
  | 13 => ⟨S128x64, .f32⟩
  | 14 => ⟨S128x4x5x5, .f32⟩
  | 15 => ⟨S4x128x5x5, .f32⟩
  | 16 => ⟨S4x128x5x5, .f32⟩
  | 17 => ⟨S1x128x1x1, .f32⟩
  | 18 => ⟨S4x128x5x5, .f32⟩
  | 19 => ⟨S4x128x5x5, .f32⟩
  | 20 => ⟨S_, .f32⟩
  | 21 => ⟨S4x128x5x5, .f32⟩
  | 22 => ⟨S4x128x5x5, .f32⟩
  | 23 => ⟨S_, .i32⟩
  | 24 => ⟨S_, .f32⟩
  | 25 => ⟨S4x128x7x7, .f32⟩
  | 26 => ⟨S4x128x5x5, .f32⟩
  | 27 => ⟨S256x128x1x1, .f32⟩
  | 28 => ⟨S256x128, .f32⟩
  | 29 => ⟨S256x4x5x5, .f32⟩
  | 30 => ⟨S4x256x5x5, .f32⟩
  | 31 => ⟨S_, .f32⟩
  | 32 => ⟨S4x256x5x5, .f32⟩
  | 33 => ⟨S4x256x5x5, .f32⟩
  | 34 => ⟨S4x128x5x5, .f32⟩
  | 35 => ⟨S256x128x1x1, .f32⟩
  | 36 => ⟨S256x128, .f32⟩
  | 37 => ⟨S256x4x5x5, .f32⟩
  | 38 => ⟨S4x256x5x5, .f32⟩
  | 39 => ⟨S4x256x5x5, .f32⟩
  | 40 => ⟨S4x128x5x5, .f32⟩
  | 41 => ⟨S256x128x1x1, .f32⟩
  | 42 => ⟨S256x128, .f32⟩
  | 43 => ⟨S256x4x5x5, .f32⟩
  | 44 => ⟨S4x256x5x5, .f32⟩
  | 45 => ⟨S4x256x5x5, .f32⟩
  | 46 => ⟨S4x128x5x5, .f32⟩
  | 47 => ⟨S256x128x1x1, .f32⟩
  | 48 => ⟨S256x128, .f32⟩
  | 49 => ⟨S256x4x5x5, .f32⟩
  | 50 => ⟨S4x256x5x5, .f32⟩
  | 51 => ⟨S4x256x5x5, .f32⟩
  | 52 => ⟨S4x128x5x5, .f32⟩
  | 53 => ⟨S256x128x1x1, .f32⟩
  | 54 => ⟨S256x128, .f32⟩
  | 55 => ⟨S256x4x5x5, .f32⟩
  | 56 => ⟨S4x256x5x5, .f32⟩
  | 57 => ⟨S4x256x5x5, .f32⟩
  | 58 => ⟨S4x128x5x5, .f32⟩
  | 59 => ⟨S256x128x1x1, .f32⟩
  | 60 => ⟨S256x128, .f32⟩
  | 61 => ⟨S256x4x5x5, .f32⟩
  | 62 => ⟨S4x256x5x5, .f32⟩
  | 63 => ⟨S4x256x5x5, .f32⟩
  | 64 => ⟨S4x128x5x5, .f32⟩
  | 65 => ⟨S256x128x1x1, .f32⟩
  | 66 => ⟨S256x128, .f32⟩
  | 67 => ⟨S256x4x5x5, .f32⟩
  | 68 => ⟨S4x256x5x5, .f32⟩
  | 69 => ⟨S4x256x5x5, .f32⟩
  | 70 => ⟨S4x128x5x5, .f32⟩
  | 71 => ⟨S256x128x1x1, .f32⟩
  | 72 => ⟨S256x128, .f32⟩
  | 73 => ⟨S256x4x5x5, .f32⟩
  | 74 => ⟨S4x256x5x5, .f32⟩
  | 75 => ⟨S4x256x5x5, .f32⟩
  | 76 => ⟨S4x128x5x5, .f32⟩
  | 77 => ⟨S256x128x1x1, .f32⟩
  | 78 => ⟨S256x128, .f32⟩
  | 79 => ⟨S256x4x5x5, .f32⟩
  | 80 => ⟨S4x256x5x5, .f32⟩
  | 81 => ⟨S4x256x5x5, .f32⟩
  | 82 => ⟨S1x256x1x1, .f32⟩
  | 83 => ⟨S4x256x5x5, .f32⟩
  | 84 => ⟨S4x256x5x5, .f32⟩
  | 85 => ⟨S_, .f32⟩
  | 86 => ⟨S4x256x5x5, .f32⟩
  | 87 => ⟨S4x256x5x5, .f32⟩
  | 88 => ⟨S4x256x2x2, .f32⟩
  | 89 => ⟨S_, .f32⟩
  | 90 => ⟨S4x256, .f32⟩
  | 91 => ⟨S_, .f32⟩
  | 92 => ⟨S4x256, .f32⟩
  | 93 => ⟨S4x256, .f32⟩
  | 94 => ⟨S4x256x2x3, .f32⟩
  | 95 => ⟨S_, .f32⟩
  | 96 => ⟨S4x256, .f32⟩
  | 97 => ⟨S_, .f32⟩
  | 98 => ⟨S4x256, .f32⟩
  | 99 => ⟨S4x256, .f32⟩
  | 100 => ⟨S4x256x2x2, .f32⟩
  | 101 => ⟨S_, .f32⟩
  | 102 => ⟨S4x256, .f32⟩
  | 103 => ⟨S_, .f32⟩
  | 104 => ⟨S4x256, .f32⟩
  | 105 => ⟨S4x256, .f32⟩
  | 106 => ⟨S4x256x1, .f32⟩
  | 107 => ⟨S4x256x1, .f32⟩
  | 108 => ⟨S4x256x1, .f32⟩
  | 109 => ⟨S4x256x3, .f32⟩
  | 110 => ⟨S4x256x3x2, .f32⟩
  | 111 => ⟨S_, .f32⟩
  | 112 => ⟨S4x256, .f32⟩
  | 113 => ⟨S_, .f32⟩
  | 114 => ⟨S4x256, .f32⟩
  | 115 => ⟨S4x256, .f32⟩
  | 116 => ⟨S4x256x3x3, .f32⟩
  | 117 => ⟨S_, .f32⟩
  | 118 => ⟨S4x256, .f32⟩
  | 119 => ⟨S_, .f32⟩
  | 120 => ⟨S4x256, .f32⟩
  | 121 => ⟨S4x256, .f32⟩
  | 122 => ⟨S4x256x3x2, .f32⟩
  | 123 => ⟨S_, .f32⟩
  | 124 => ⟨S4x256, .f32⟩
  | 125 => ⟨S_, .f32⟩
  | 126 => ⟨S4x256, .f32⟩
  | 127 => ⟨S4x256, .f32⟩
  | _ => ⟨S4x10x5x5, .f32⟩

abbrev hbmTy0_2 (i : Nat) : BufTy := match i % 128 with
  | 0 => ⟨S4x256x1, .f32⟩
  | 1 => ⟨S4x256x1, .f32⟩
  | 2 => ⟨S4x256x1, .f32⟩
  | 3 => ⟨S4x256x3, .f32⟩
  | 4 => ⟨S4x256x2x2, .f32⟩
  | 5 => ⟨S_, .f32⟩
  | 6 => ⟨S4x256, .f32⟩
  | 7 => ⟨S_, .f32⟩
  | 8 => ⟨S4x256, .f32⟩
  | 9 => ⟨S4x256, .f32⟩
  | 10 => ⟨S4x256x2x3, .f32⟩
  | 11 => ⟨S_, .f32⟩
  | 12 => ⟨S4x256, .f32⟩
  | 13 => ⟨S_, .f32⟩
  | 14 => ⟨S4x256, .f32⟩
  | 15 => ⟨S4x256, .f32⟩
  | 16 => ⟨S4x256x2x2, .f32⟩
  | 17 => ⟨S_, .f32⟩
  | 18 => ⟨S4x256, .f32⟩
  | 19 => ⟨S_, .f32⟩
  | 20 => ⟨S4x256, .f32⟩
  | 21 => ⟨S4x256, .f32⟩
  | 22 => ⟨S4x256x1, .f32⟩
  | 23 => ⟨S4x256x1, .f32⟩
  | 24 => ⟨S4x256x1, .f32⟩
  | 25 => ⟨S4x256x3, .f32⟩
  | 26 => ⟨S4x256x1x3, .f32⟩
  | 27 => ⟨S4x256x1x3, .f32⟩
  | 28 => ⟨S4x256x1x3, .f32⟩
  | 29 => ⟨S4x256x3x3, .f32⟩
  | 30 => ⟨S_, .i32⟩
  | 31 => ⟨S_, .f32⟩
  | 32 => ⟨S4x256x5x5, .f32⟩
  | 33 => ⟨S4x256x3x3, .f32⟩
  | 34 => ⟨S512x256x1x1, .f32⟩
  | 35 => ⟨S512x256, .f32⟩
  | 36 => ⟨S512x4x3x3, .f32⟩
  | 37 => ⟨S4x512x3x3, .f32⟩
  | 38 => ⟨S_, .f32⟩
  | 39 => ⟨S4x512x3x3, .f32⟩
  | 40 => ⟨S4x512x3x3, .f32⟩
  | 41 => ⟨S4x256x3x3, .f32⟩
  | 42 => ⟨S512x256x1x1, .f32⟩
  | 43 => ⟨S512x256, .f32⟩
  | 44 => ⟨S512x4x3x3, .f32⟩
  | 45 => ⟨S4x512x3x3, .f32⟩
  | 46 => ⟨S4x512x3x3, .f32⟩
  | 47 => ⟨S4x256x3x3, .f32⟩
  | 48 => ⟨S512x256x1x1, .f32⟩
  | 49 => ⟨S512x256, .f32⟩
  | 50 => ⟨S512x4x3x3, .f32⟩
  | 51 => ⟨S4x512x3x3, .f32⟩
  | 52 => ⟨S4x512x3x3, .f32⟩
  | 53 => ⟨S4x256x3x3, .f32⟩
  | 54 => ⟨S512x256x1x1, .f32⟩
  | 55 => ⟨S512x256, .f32⟩
  | 56 => ⟨S512x4x3x3, .f32⟩
  | 57 => ⟨S4x512x3x3, .f32⟩
  | 58 => ⟨S4x512x3x3, .f32⟩
  | 59 => ⟨S4x256x3x3, .f32⟩
  | 60 => ⟨S512x256x1x1, .f32⟩
  | 61 => ⟨S512x256, .f32⟩
  | 62 => ⟨S512x4x3x3, .f32⟩
  | 63 => ⟨S4x512x3x3, .f32⟩
  | 64 => ⟨S4x512x3x3, .f32⟩
  | 65 => ⟨S4x256x3x3, .f32⟩
  | 66 => ⟨S512x256x1x1, .f32⟩
  | 67 => ⟨S512x256, .f32⟩
  | 68 => ⟨S512x4x3x3, .f32⟩
  | 69 => ⟨S4x512x3x3, .f32⟩
  | 70 => ⟨S4x512x3x3, .f32⟩
  | 71 => ⟨S4x256x3x3, .f32⟩
  | 72 => ⟨S512x256x1x1, .f32⟩
  | 73 => ⟨S512x256, .f32⟩
  | 74 => ⟨S512x4x3x3, .f32⟩
  | 75 => ⟨S4x512x3x3, .f32⟩
  | 76 => ⟨S4x512x3x3, .f32⟩
  | 77 => ⟨S4x256x3x3, .f32⟩
  | 78 => ⟨S512x256x1x1, .f32⟩
  | 79 => ⟨S512x256, .f32⟩
  | 80 => ⟨S512x4x3x3, .f32⟩
  | 81 => ⟨S4x512x3x3, .f32⟩
  | 82 => ⟨S4x512x3x3, .f32⟩
  | 83 => ⟨S4x256x3x3, .f32⟩
  | 84 => ⟨S512x256x1x1, .f32⟩
  | 85 => ⟨S512x256, .f32⟩
  | 86 => ⟨S512x4x3x3, .f32⟩
  | 87 => ⟨S4x512x3x3, .f32⟩
  | 88 => ⟨S4x512x3x3, .f32⟩
  | 89 => ⟨S1x512x1x1, .f32⟩
  | 90 => ⟨S4x512x3x3, .f32⟩
  | 91 => ⟨S4x512x3x3, .f32⟩
  | 92 => ⟨S_, .f32⟩
  | 93 => ⟨S4x512x3x3, .f32⟩
  | 94 => ⟨S4x512x3x3, .f32⟩
  | 95 => ⟨S4x4608, .f32⟩
  | 96 => ⟨S4608x512, .f32⟩
  | 97 => ⟨S4x512, .f32⟩
  | 98 => ⟨S4608x512, .f32⟩
  | 99 => ⟨S8192x512, .f32⟩
  | 100 => ⟨S4x1x512, .f32⟩
  | 101 => ⟨S1x8192x512, .f32⟩
  | 102 => ⟨S4x8192x512, .f32⟩
  | 103 => ⟨S4x8192x512, .f32⟩
  | 104 => ⟨S4x8192x512, .f32⟩
  | 105 => ⟨S1x1x512, .f32⟩
  | 106 => ⟨S4x8192x512, .f32⟩
  | 107 => ⟨S4x8192x512, .f32⟩
  | 108 => ⟨S_, .f32⟩
  | 109 => ⟨S4x8192x512, .f32⟩
  | 110 => ⟨S4x8192x512, .f32⟩
  | 111 => ⟨S4x8192x256, .f32⟩
  | 112 => ⟨S1x1x256, .f32⟩
  | 113 => ⟨S4x8192x256, .f32⟩
  | 114 => ⟨S4x8192x256, .f32⟩
  | 115 => ⟨S_, .f32⟩
  | 116 => ⟨S4x8192x256, .f32⟩
  | 117 => ⟨S4x8192x256, .f32⟩
  | 118 => ⟨S4x8192x1, .f32⟩
  | 119 => ⟨S1x1x1, .f32⟩
  | 120 => ⟨S4x8192x1, .f32⟩
  | 121 => ⟨S4x8192x1, .f32⟩
  | 122 => ⟨S4x8192, .f32⟩
  | 123 => ⟨S4x50, .f32⟩
  | 124 => ⟨S4x50, .i32⟩
  | 125 => ⟨S_, .f32⟩
  | 126 => ⟨S4x50, .f32⟩
  | 127 => ⟨S4x50, .f32⟩
  | _ => ⟨S4x10x5x5, .f32⟩

abbrev hbmTy0_3 (i : Nat) : BufTy := match i % 128 with
  | 0 => ⟨S_, .f32⟩
  | 1 => ⟨S4, .f32⟩
  | 2 => ⟨S_, .f32⟩
  | 3 => ⟨S4, .f32⟩
  | 4 => ⟨S4, .f32⟩
  | 5 => ⟨S4x1, .f32⟩
  | 6 => ⟨S4x50, .f32⟩
  | 7 => ⟨S4x50, .f32⟩
  | 8 => ⟨S4x50, .f32⟩
  | 9 => ⟨S_, .f32⟩
  | 10 => ⟨S4, .f32⟩
  | 11 => ⟨S4x1, .f32⟩
  | 12 => ⟨S4x50, .f32⟩
  | 13 => ⟨S4x50, .f32⟩
  | 14 => ⟨S_, .i32⟩
  | 15 => ⟨S4x50, .i32⟩
  | 16 => ⟨S4x50, .i1⟩
  | 17 => ⟨S_, .i32⟩
  | 18 => ⟨S4x50, .i32⟩
  | 19 => ⟨S4x50, .i32⟩
  | 20 => ⟨S4x50, .i32⟩
  | 21 => ⟨S4x50x1, .i32⟩
  | 22 => ⟨S1, .i32⟩
  | 23 => ⟨S_, .i32⟩
  | 24 => ⟨S4x50x1, .i32⟩
  | 25 => ⟨S4x50x1, .i1⟩
  | 26 => ⟨S1x1x1, .i32⟩
  | 27 => ⟨S4x50x1, .i32⟩
  | 28 => ⟨S4x50x1, .i1⟩
  | 29 => ⟨S4x50x1, .i1⟩
  | 30 => ⟨S_, .i1⟩
  | 31 => ⟨S4x50, .i1⟩
  | 32 => ⟨S4x50x5x5, .i32⟩
  | 33 => ⟨S4x50x5x5, .i1⟩
  | 34 => ⟨S_, .i32⟩
  | 35 => ⟨S4x50x5x5, .i32⟩
  | 36 => ⟨S4x50x5x5, .i32⟩
  | 37 => ⟨S4x50x5x5x1, .i32⟩
  | 38 => ⟨S1x1x1x1x10, .i32⟩
  | 39 => ⟨S4x50x5x5x10, .i32⟩
  | 40 => ⟨S4x50x5x5x10, .i32⟩
  | 41 => ⟨S4x50x5x5x10, .i1⟩
  | 42 => ⟨S4x50x5x5x10, .f32⟩
  | 43 => ⟨S4x50x10x5x5, .f32⟩
  | 44 => ⟨S4x50x1x1x1, .f32⟩
  | 45 => ⟨S4x50x10x5x5, .f32⟩
  | 46 => ⟨S4x50x10x5x5, .f32⟩
  | 47 => ⟨S_, .f32⟩
  | 48 => ⟨S4x10x5x5, .f32⟩
  | 49 => ⟨S4x512, .f32⟩
  | 50 => ⟨S1x512, .f32⟩
  | 51 => ⟨S4x512, .f32⟩
  | 52 => ⟨S4x512, .f32⟩
  | 53 => ⟨S_, .f32⟩
  | 54 => ⟨S4x512, .f32⟩
  | 55 => ⟨S4x512, .f32⟩
  | 56 => ⟨S4x250, .f32⟩
  | 57 => ⟨S1x250, .f32⟩
  | 58 => ⟨S4x250, .f32⟩
  | 59 => ⟨S4x250, .f32⟩
  | 60 => ⟨S4x10x5x5, .f32⟩
  | 61 => ⟨S_, .f32⟩
  | 62 => ⟨S4x10x5x5, .f32⟩
  | 63 => ⟨S4x10x5x5, .f32⟩
  | 64 => ⟨S_, .f32⟩
  | 65 => ⟨S4x10x5x5, .f32⟩
  | 66 => ⟨S4x10x5x5, .f32⟩
  | 67 => ⟨S4x10x5x5, .f32⟩
  | _ => ⟨S4x10x5x5, .f32⟩

abbrev hbmTy (i : Nat) : BufTy := match i / 128 with
  | 0 => hbmTy0_0 i
  | 1 => hbmTy0_1 i
  | 2 => hbmTy0_2 i
  | 3 => hbmTy0_3 i
  | _ => ⟨S4x10x5x5, .f32⟩

abbrev bufTy : (tb : Table) → Fin (tcTables nBuf tb) → BufTy
  | .hbm, ⟨i, _⟩ => hbmTy i
  | _, _ => ⟨S4x10x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_c_0 : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_1 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_call3_cst : Ref sig .tc := ⟨.hbm, 148, rfl⟩
abbrev main_call3_v0 : Ref sig .tc := ⟨.hbm, 149, rfl⟩
abbrev main_v119 : Ref sig .tc := ⟨.hbm, 150, rfl⟩
abbrev main_c_2 : Ref sig .tc := ⟨.hbm, 151, rfl⟩
abbrev main_call4_v0 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_3 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_call5_cst : Ref sig .tc := ⟨.hbm, 213, rfl⟩
abbrev main_call5_v0 : Ref sig .tc := ⟨.hbm, 214, rfl⟩
abbrev main_v179 : Ref sig .tc := ⟨.hbm, 215, rfl⟩
abbrev main_v180 : Ref sig .tc := ⟨.hbm, 216, rfl⟩
abbrev main_cst_4 : Ref sig .tc := ⟨.hbm, 217, rfl⟩
abbrev main_v181 : Ref sig .tc := ⟨.hbm, 218, rfl⟩
abbrev main_cst_5 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_cst_6 : Ref sig .tc := ⟨.hbm, 223, rfl⟩
abbrev main_v185 : Ref sig .tc := ⟨.hbm, 224, rfl⟩
abbrev main_cst_7 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_cst_8 : Ref sig .tc := ⟨.hbm, 229, rfl⟩
abbrev main_v189 : Ref sig .tc := ⟨.hbm, 230, rfl⟩
abbrev main_cst_9 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_10 : Ref sig .tc := ⟨.hbm, 239, rfl⟩
abbrev main_v197 : Ref sig .tc := ⟨.hbm, 240, rfl⟩
abbrev main_cst_11 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_cst_12 : Ref sig .tc := ⟨.hbm, 245, rfl⟩
abbrev main_v201 : Ref sig .tc := ⟨.hbm, 246, rfl⟩
abbrev main_cst_13 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_14 : Ref sig .tc := ⟨.hbm, 251, rfl⟩
abbrev main_v205 : Ref sig .tc := ⟨.hbm, 252, rfl⟩
abbrev main_cst_15 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_cst_16 : Ref sig .tc := ⟨.hbm, 261, rfl⟩
abbrev main_v213 : Ref sig .tc := ⟨.hbm, 262, rfl⟩
abbrev main_cst_17 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_cst_18 : Ref sig .tc := ⟨.hbm, 267, rfl⟩
abbrev main_v217 : Ref sig .tc := ⟨.hbm, 268, rfl⟩
abbrev main_cst_19 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_20 : Ref sig .tc := ⟨.hbm, 273, rfl⟩
abbrev main_v221 : Ref sig .tc := ⟨.hbm, 274, rfl⟩
abbrev main_cst_21 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_c_22 : Ref sig .tc := ⟨.hbm, 286, rfl⟩
abbrev main_call6_v0 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_23 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_call7_cst : Ref sig .tc := ⟨.hbm, 348, rfl⟩
abbrev main_call7_v0 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_call8_cst : Ref sig .tc := ⟨.hbm, 364, rfl⟩
abbrev main_call8_v0 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_call9_cst : Ref sig .tc := ⟨.hbm, 371, rfl⟩
abbrev main_call9_v0 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_values : Ref sig .tc := ⟨.hbm, 379, rfl⟩
abbrev main_indices : Ref sig .tc := ⟨.hbm, 380, rfl⟩
abbrev main_cst_24 : Ref sig .tc := ⟨.hbm, 381, rfl⟩
abbrev main_v316 : Ref sig .tc := ⟨.hbm, 382, rfl⟩
abbrev main_v317 : Ref sig .tc := ⟨.hbm, 383, rfl⟩
abbrev main_cst_25 : Ref sig .tc := ⟨.hbm, 384, rfl⟩
abbrev main_v318 : Ref sig .tc := ⟨.hbm, 385, rfl⟩
abbrev main_cst_26 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_cst_27 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_call10_c : Ref sig .tc := ⟨.hbm, 398, rfl⟩
abbrev main_call10_v0 : Ref sig .tc := ⟨.hbm, 399, rfl⟩
abbrev main_call10_v1 : Ref sig .tc := ⟨.hbm, 400, rfl⟩
abbrev main_call10_c_0 : Ref sig .tc := ⟨.hbm, 401, rfl⟩
abbrev main_call10_v2 : Ref sig .tc := ⟨.hbm, 402, rfl⟩
abbrev main_call10_v3 : Ref sig .tc := ⟨.hbm, 403, rfl⟩
abbrev main_call10_v4 : Ref sig .tc := ⟨.hbm, 404, rfl⟩
abbrev main_call10_v5 : Ref sig .tc := ⟨.hbm, 405, rfl⟩
abbrev main_call10_c_1 : Ref sig .tc := ⟨.hbm, 406, rfl⟩
abbrev main_call10_c_2 : Ref sig .tc := ⟨.hbm, 407, rfl⟩
abbrev main_call10_v6 : Ref sig .tc := ⟨.hbm, 408, rfl⟩
abbrev main_call10_v7 : Ref sig .tc := ⟨.hbm, 409, rfl⟩
abbrev main_call10_v8 : Ref sig .tc := ⟨.hbm, 410, rfl⟩
abbrev main_call10_v9 : Ref sig .tc := ⟨.hbm, 411, rfl⟩
abbrev main_call10_v10 : Ref sig .tc := ⟨.hbm, 412, rfl⟩
abbrev main_call10_v11 : Ref sig .tc := ⟨.hbm, 413, rfl⟩
abbrev main_call10_c_3 : Ref sig .tc := ⟨.hbm, 414, rfl⟩
abbrev main_call10_v12 : Ref sig .tc := ⟨.hbm, 415, rfl⟩
abbrev main_call10_v13 : Ref sig .tc := ⟨.hbm, 416, rfl⟩
abbrev main_call10_v14 : Ref sig .tc := ⟨.hbm, 417, rfl⟩
abbrev main_call10_c_4 : Ref sig .tc := ⟨.hbm, 418, rfl⟩
abbrev main_call10_v15 : Ref sig .tc := ⟨.hbm, 419, rfl⟩
abbrev main_v329 : Ref sig .tc := ⟨.hbm, 420, rfl⟩
abbrev main_call11_v0 : Ref sig .tc := ⟨.hbm, 421, rfl⟩
abbrev main_call11_v1 : Ref sig .tc := ⟨.hbm, 422, rfl⟩
abbrev main_call11_v2 : Ref sig .tc := ⟨.hbm, 423, rfl⟩
abbrev main_call11_v3 : Ref sig .tc := ⟨.hbm, 424, rfl⟩
abbrev main_call11_v4 : Ref sig .tc := ⟨.hbm, 425, rfl⟩
abbrev main_v330 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_v334 : Ref sig .tc := ⟨.hbm, 430, rfl⟩
abbrev main_cst_28 : Ref sig .tc := ⟨.hbm, 431, rfl⟩
abbrev main_v335 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_call12_cst : Ref sig .tc := ⟨.hbm, 437, rfl⟩
abbrev main_call12_v0 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_v344 : Ref sig .tc := ⟨.hbm, 443, rfl⟩
abbrev main_v345 : Ref sig .tc := ⟨.hbm, 444, rfl⟩
abbrev main_cst_29 : Ref sig .tc := ⟨.hbm, 445, rfl⟩
abbrev main_v346 : Ref sig .tc := ⟨.hbm, 446, rfl⟩
abbrev main_v347 : Ref sig .tc := ⟨.hbm, 447, rfl⟩
abbrev main_cst_30 : Ref sig .tc := ⟨.hbm, 448, rfl⟩
abbrev main_v348 : Ref sig .tc := ⟨.hbm, 449, rfl⟩
abbrev main_v349 : Ref sig .tc := ⟨.hbm, 450, rfl⟩
abbrev main_v350 : Ref sig .tc := ⟨.hbm, 451, rfl⟩

abbrev nD : Nat := 1
abbrev τ : Topo := Topo.v7x

variable {F : FTy → Type} [FloatOps F]
-- ==== Proof.PreFacts.lean ====
/- The facts that the precondition states over its shapes: those it shares with the reference are the reference's. -/
module

public import proofs.«01_k».proof.Pre_no_tie
public import proofs.«01_k».proof.Proof.Gen.ReferenceIdeal
public import Idealize.ShloMosaic.Init

@[expose] public section

namespace Cert.Pre_no_tie.Gen

open Idealize.ShloMosaic

/-- Every fact the precondition states, proved. -/
instance facts : Cert.Pre_no_tie.Facts where
  pads_S4x10x5x5_S4x10x7x7_000_000_110_110 := @Cert.ReferenceIdeal.Gen.pads_S4x10x5x5_S4x10x7x7_000_000_110_110
  h_S_ := @Cert.ReferenceIdeal.Gen.h_S_
  slices_S4x10x7x7_S4x10x5x5_0_0_0_0 := @Cert.ReferenceIdeal.Gen.slices_S4x10x7x7_S4x10x5x5_0_0_0_0
  slices_S64x10x3x3_S64x10x1x1_0_0_0_0 := @Cert.ReferenceIdeal.Gen.slices_S64x10x3x3_S64x10x1x1_0_0_0_0
  shapeCasts_S64x10x1x1_S64x10 := @Cert.ReferenceIdeal.Gen.shapeCasts_S64x10x1x1_S64x10
  transposes_S64x4x5x5_S4x64x5x5_1_0_2_3 := @Cert.ReferenceIdeal.Gen.transposes_S64x4x5x5_S4x64x5x5_1_0_2_3
  bcast_S_S4x64x5x5 := @Cert.ReferenceIdeal.Gen.bcast_S_S4x64x5x5
  slices_S4x10x7x7_S4x10x5x5_0_0_0_1 := @Cert.ReferenceIdeal.Gen.slices_S4x10x7x7_S4x10x5x5_0_0_0_1
  slices_S64x10x3x3_S64x10x1x1_0_0_0_1 := @Cert.ReferenceIdeal.Gen.slices_S64x10x3x3_S64x10x1x1_0_0_0_1
  slices_S4x10x7x7_S4x10x5x5_0_0_0_2 := @Cert.ReferenceIdeal.Gen.slices_S4x10x7x7_S4x10x5x5_0_0_0_2
  slices_S64x10x3x3_S64x10x1x1_0_0_0_2 := @Cert.ReferenceIdeal.Gen.slices_S64x10x3x3_S64x10x1x1_0_0_0_2
  slices_S4x10x7x7_S4x10x5x5_0_0_1_0 := @Cert.ReferenceIdeal.Gen.slices_S4x10x7x7_S4x10x5x5_0_0_1_0
  slices_S64x10x3x3_S64x10x1x1_0_0_1_0 := @Cert.ReferenceIdeal.Gen.slices_S64x10x3x3_S64x10x1x1_0_0_1_0
  slices_S4x10x7x7_S4x10x5x5_0_0_1_1 := @Cert.ReferenceIdeal.Gen.slices_S4x10x7x7_S4x10x5x5_0_0_1_1
  slices_S64x10x3x3_S64x10x1x1_0_0_1_1 := @Cert.ReferenceIdeal.Gen.slices_S64x10x3x3_S64x10x1x1_0_0_1_1
  slices_S4x10x7x7_S4x10x5x5_0_0_1_2 := @Cert.ReferenceIdeal.Gen.slices_S4x10x7x7_S4x10x5x5_0_0_1_2
  slices_S64x10x3x3_S64x10x1x1_0_0_1_2 := @Cert.ReferenceIdeal.Gen.slices_S64x10x3x3_S64x10x1x1_0_0_1_2
  slices_S4x10x7x7_S4x10x5x5_0_0_2_0 := @Cert.ReferenceIdeal.Gen.slices_S4x10x7x7_S4x10x5x5_0_0_2_0
  slices_S64x10x3x3_S64x10x1x1_0_0_2_0 := @Cert.ReferenceIdeal.Gen.slices_S64x10x3x3_S64x10x1x1_0_0_2_0
  slices_S4x10x7x7_S4x10x5x5_0_0_2_1 := @Cert.ReferenceIdeal.Gen.slices_S4x10x7x7_S4x10x5x5_0_0_2_1
  slices_S64x10x3x3_S64x10x1x1_0_0_2_1 := @Cert.ReferenceIdeal.Gen.slices_S64x10x3x3_S64x10x1x1_0_0_2_1
  slices_S4x10x7x7_S4x10x5x5_0_0_2_2 := @Cert.ReferenceIdeal.Gen.slices_S4x10x7x7_S4x10x5x5_0_0_2_2
  slices_S64x10x3x3_S64x10x1x1_0_0_2_2 := @Cert.ReferenceIdeal.Gen.slices_S64x10x3x3_S64x10x1x1_0_0_2_2
  bcast_S64_S1x64x1x1_1 := @Cert.ReferenceIdeal.Gen.bcast_S64_S1x64x1x1_1
  bcast_S1x64x1x1_S4x64x5x5_0_1_2_3 := @Cert.ReferenceIdeal.Gen.bcast_S1x64x1x1_S4x64x5x5_0_1_2_3
  pads_S4x64x5x5_S4x64x7x7_000_000_110_110 := @Cert.ReferenceIdeal.Gen.pads_S4x64x5x5_S4x64x7x7_000_000_110_110
  slices_S4x64x7x7_S4x64x5x5_0_0_0_0 := @Cert.ReferenceIdeal.Gen.slices_S4x64x7x7_S4x64x5x5_0_0_0_0
  slices_S128x64x3x3_S128x64x1x1_0_0_0_0 := @Cert.ReferenceIdeal.Gen.slices_S128x64x3x3_S128x64x1x1_0_0_0_0
  shapeCasts_S128x64x1x1_S128x64 := @Cert.ReferenceIdeal.Gen.shapeCasts_S128x64x1x1_S128x64
  transposes_S128x4x5x5_S4x128x5x5_1_0_2_3 := @Cert.ReferenceIdeal.Gen.transposes_S128x4x5x5_S4x128x5x5_1_0_2_3
  bcast_S_S4x128x5x5 := @Cert.ReferenceIdeal.Gen.bcast_S_S4x128x5x5
  slices_S4x64x7x7_S4x64x5x5_0_0_0_1 := @Cert.ReferenceIdeal.Gen.slices_S4x64x7x7_S4x64x5x5_0_0_0_1
  slices_S128x64x3x3_S128x64x1x1_0_0_0_1 := @Cert.ReferenceIdeal.Gen.slices_S128x64x3x3_S128x64x1x1_0_0_0_1
  slices_S4x64x7x7_S4x64x5x5_0_0_0_2 := @Cert.ReferenceIdeal.Gen.slices_S4x64x7x7_S4x64x5x5_0_0_0_2
  slices_S128x64x3x3_S128x64x1x1_0_0_0_2 := @Cert.ReferenceIdeal.Gen.slices_S128x64x3x3_S128x64x1x1_0_0_0_2
  slices_S4x64x7x7_S4x64x5x5_0_0_1_0 := @Cert.ReferenceIdeal.Gen.slices_S4x64x7x7_S4x64x5x5_0_0_1_0
  slices_S128x64x3x3_S128x64x1x1_0_0_1_0 := @Cert.ReferenceIdeal.Gen.slices_S128x64x3x3_S128x64x1x1_0_0_1_0
  slices_S4x64x7x7_S4x64x5x5_0_0_1_1 := @Cert.ReferenceIdeal.Gen.slices_S4x64x7x7_S4x64x5x5_0_0_1_1
  slices_S128x64x3x3_S128x64x1x1_0_0_1_1 := @Cert.ReferenceIdeal.Gen.slices_S128x64x3x3_S128x64x1x1_0_0_1_1
  slices_S4x64x7x7_S4x64x5x5_0_0_1_2 := @Cert.ReferenceIdeal.Gen.slices_S4x64x7x7_S4x64x5x5_0_0_1_2
  slices_S128x64x3x3_S128x64x1x1_0_0_1_2 := @Cert.ReferenceIdeal.Gen.slices_S128x64x3x3_S128x64x1x1_0_0_1_2
  slices_S4x64x7x7_S4x64x5x5_0_0_2_0 := @Cert.ReferenceIdeal.Gen.slices_S4x64x7x7_S4x64x5x5_0_0_2_0
  slices_S128x64x3x3_S128x64x1x1_0_0_2_0 := @Cert.ReferenceIdeal.Gen.slices_S128x64x3x3_S128x64x1x1_0_0_2_0
  slices_S4x64x7x7_S4x64x5x5_0_0_2_1 := @Cert.ReferenceIdeal.Gen.slices_S4x64x7x7_S4x64x5x5_0_0_2_1
  slices_S128x64x3x3_S128x64x1x1_0_0_2_1 := @Cert.ReferenceIdeal.Gen.slices_S128x64x3x3_S128x64x1x1_0_0_2_1
  slices_S4x64x7x7_S4x64x5x5_0_0_2_2 := @Cert.ReferenceIdeal.Gen.slices_S4x64x7x7_S4x64x5x5_0_0_2_2
  slices_S128x64x3x3_S128x64x1x1_0_0_2_2 := @Cert.ReferenceIdeal.Gen.slices_S128x64x3x3_S128x64x1x1_0_0_2_2
  bcast_S128_S1x128x1x1_1 := @Cert.ReferenceIdeal.Gen.bcast_S128_S1x128x1x1_1
  bcast_S1x128x1x1_S4x128x5x5_0_1_2_3 := @Cert.ReferenceIdeal.Gen.bcast_S1x128x1x1_S4x128x5x5_0_1_2_3
  pads_S4x128x5x5_S4x128x7x7_000_000_110_110 := @Cert.ReferenceIdeal.Gen.pads_S4x128x5x5_S4x128x7x7_000_000_110_110
  slices_S4x128x7x7_S4x128x5x5_0_0_0_0 := @Cert.ReferenceIdeal.Gen.slices_S4x128x7x7_S4x128x5x5_0_0_0_0
  slices_S256x128x3x3_S256x128x1x1_0_0_0_0 := @Cert.ReferenceIdeal.Gen.slices_S256x128x3x3_S256x128x1x1_0_0_0_0
  shapeCasts_S256x128x1x1_S256x128 := @Cert.ReferenceIdeal.Gen.shapeCasts_S256x128x1x1_S256x128
  transposes_S256x4x5x5_S4x256x5x5_1_0_2_3 := @Cert.ReferenceIdeal.Gen.transposes_S256x4x5x5_S4x256x5x5_1_0_2_3
  bcast_S_S4x256x5x5 := @Cert.ReferenceIdeal.Gen.bcast_S_S4x256x5x5
  slices_S4x128x7x7_S4x128x5x5_0_0_0_1 := @Cert.ReferenceIdeal.Gen.slices_S4x128x7x7_S4x128x5x5_0_0_0_1
  slices_S256x128x3x3_S256x128x1x1_0_0_0_1 := @Cert.ReferenceIdeal.Gen.slices_S256x128x3x3_S256x128x1x1_0_0_0_1
  slices_S4x128x7x7_S4x128x5x5_0_0_0_2 := @Cert.ReferenceIdeal.Gen.slices_S4x128x7x7_S4x128x5x5_0_0_0_2
  slices_S256x128x3x3_S256x128x1x1_0_0_0_2 := @Cert.ReferenceIdeal.Gen.slices_S256x128x3x3_S256x128x1x1_0_0_0_2
  slices_S4x128x7x7_S4x128x5x5_0_0_1_0 := @Cert.ReferenceIdeal.Gen.slices_S4x128x7x7_S4x128x5x5_0_0_1_0
  slices_S256x128x3x3_S256x128x1x1_0_0_1_0 := @Cert.ReferenceIdeal.Gen.slices_S256x128x3x3_S256x128x1x1_0_0_1_0
  slices_S4x128x7x7_S4x128x5x5_0_0_1_1 := @Cert.ReferenceIdeal.Gen.slices_S4x128x7x7_S4x128x5x5_0_0_1_1
  slices_S256x128x3x3_S256x128x1x1_0_0_1_1 := @Cert.ReferenceIdeal.Gen.slices_S256x128x3x3_S256x128x1x1_0_0_1_1
  slices_S4x128x7x7_S4x128x5x5_0_0_1_2 := @Cert.ReferenceIdeal.Gen.slices_S4x128x7x7_S4x128x5x5_0_0_1_2
  slices_S256x128x3x3_S256x128x1x1_0_0_1_2 := @Cert.ReferenceIdeal.Gen.slices_S256x128x3x3_S256x128x1x1_0_0_1_2
  slices_S4x128x7x7_S4x128x5x5_0_0_2_0 := @Cert.ReferenceIdeal.Gen.slices_S4x128x7x7_S4x128x5x5_0_0_2_0
  slices_S256x128x3x3_S256x128x1x1_0_0_2_0 := @Cert.ReferenceIdeal.Gen.slices_S256x128x3x3_S256x128x1x1_0_0_2_0
  slices_S4x128x7x7_S4x128x5x5_0_0_2_1 := @Cert.ReferenceIdeal.Gen.slices_S4x128x7x7_S4x128x5x5_0_0_2_1
  slices_S256x128x3x3_S256x128x1x1_0_0_2_1 := @Cert.ReferenceIdeal.Gen.slices_S256x128x3x3_S256x128x1x1_0_0_2_1
  slices_S4x128x7x7_S4x128x5x5_0_0_2_2 := @Cert.ReferenceIdeal.Gen.slices_S4x128x7x7_S4x128x5x5_0_0_2_2
  slices_S256x128x3x3_S256x128x1x1_0_0_2_2 := @Cert.ReferenceIdeal.Gen.slices_S256x128x3x3_S256x128x1x1_0_0_2_2
  bcast_S256_S1x256x1x1_1 := @Cert.ReferenceIdeal.Gen.bcast_S256_S1x256x1x1_1
  bcast_S1x256x1x1_S4x256x5x5_0_1_2_3 := @Cert.ReferenceIdeal.Gen.bcast_S1x256x1x1_S4x256x5x5_0_1_2_3
  slices_S4x256x5x5_S4x256x2x2_0_0_0_0 := @Cert.ReferenceIdeal.Gen.slices_S4x256x5x5_S4x256x2x2_0_0_0_0
  reducesTo_S4x256x2x2_S4x256_d2_3 := @Cert.ReferenceIdeal.Gen.reducesTo_S4x256x2x2_S4x256_d2_3
  bcast_S_S4x256 := @Cert.ReferenceIdeal.Gen.bcast_S_S4x256
  slices_S4x256x5x5_S4x256x2x3_0_0_0_1 := @Cert.ReferenceIdeal.Gen.slices_S4x256x5x5_S4x256x2x3_0_0_0_1
  reducesTo_S4x256x2x3_S4x256_d2_3 := @Cert.ReferenceIdeal.Gen.reducesTo_S4x256x2x3_S4x256_d2_3
  slices_S4x256x5x5_S4x256x2x2_0_0_0_3 := @Cert.ReferenceIdeal.Gen.slices_S4x256x5x5_S4x256x2x2_0_0_0_3
  bcast_S4x256_S4x256x1_0_1 := @Cert.ReferenceIdeal.Gen.bcast_S4x256_S4x256x1_0_1
  concatenates_S4x256x1_S4x256x1_S4x256x1_S4x256x3_d2 := @Cert.ReferenceIdeal.Gen.concatenates_S4x256x1_S4x256x1_S4x256x1_S4x256x3_d2
  slices_S4x256x5x5_S4x256x3x2_0_0_1_0 := @Cert.ReferenceIdeal.Gen.slices_S4x256x5x5_S4x256x3x2_0_0_1_0
  reducesTo_S4x256x3x2_S4x256_d2_3 := @Cert.ReferenceIdeal.Gen.reducesTo_S4x256x3x2_S4x256_d2_3
  slices_S4x256x5x5_S4x256x3x3_0_0_1_1 := @Cert.ReferenceIdeal.Gen.slices_S4x256x5x5_S4x256x3x3_0_0_1_1
  reducesTo_S4x256x3x3_S4x256_d2_3 := @Cert.ReferenceIdeal.Gen.reducesTo_S4x256x3x3_S4x256_d2_3
  slices_S4x256x5x5_S4x256x3x2_0_0_1_3 := @Cert.ReferenceIdeal.Gen.slices_S4x256x5x5_S4x256x3x2_0_0_1_3
  slices_S4x256x5x5_S4x256x2x2_0_0_3_0 := @Cert.ReferenceIdeal.Gen.slices_S4x256x5x5_S4x256x2x2_0_0_3_0
  slices_S4x256x5x5_S4x256x2x3_0_0_3_1 := @Cert.ReferenceIdeal.Gen.slices_S4x256x5x5_S4x256x2x3_0_0_3_1
  slices_S4x256x5x5_S4x256x2x2_0_0_3_3 := @Cert.ReferenceIdeal.Gen.slices_S4x256x5x5_S4x256x2x2_0_0_3_3
  bcast_S4x256x3_S4x256x1x3_0_1_3 := @Cert.ReferenceIdeal.Gen.bcast_S4x256x3_S4x256x1x3_0_1_3
  concatenates_S4x256x1x3_S4x256x1x3_S4x256x1x3_S4x256x3x3_d2 := @Cert.ReferenceIdeal.Gen.concatenates_S4x256x1x3_S4x256x1x3_S4x256x1x3_S4x256x3x3_d2
  pads_S4x256x3x3_S4x256x5x5_000_000_110_110 := @Cert.ReferenceIdeal.Gen.pads_S4x256x3x3_S4x256x5x5_000_000_110_110
  slices_S4x256x5x5_S4x256x3x3_0_0_0_0 := @Cert.ReferenceIdeal.Gen.slices_S4x256x5x5_S4x256x3x3_0_0_0_0
  slices_S512x256x3x3_S512x256x1x1_0_0_0_0 := @Cert.ReferenceIdeal.Gen.slices_S512x256x3x3_S512x256x1x1_0_0_0_0
  shapeCasts_S512x256x1x1_S512x256 := @Cert.ReferenceIdeal.Gen.shapeCasts_S512x256x1x1_S512x256
  transposes_S512x4x3x3_S4x512x3x3_1_0_2_3 := @Cert.ReferenceIdeal.Gen.transposes_S512x4x3x3_S4x512x3x3_1_0_2_3
  bcast_S_S4x512x3x3 := @Cert.ReferenceIdeal.Gen.bcast_S_S4x512x3x3
  slices_S4x256x5x5_S4x256x3x3_0_0_0_1 := @Cert.ReferenceIdeal.Gen.slices_S4x256x5x5_S4x256x3x3_0_0_0_1
  slices_S512x256x3x3_S512x256x1x1_0_0_0_1 := @Cert.ReferenceIdeal.Gen.slices_S512x256x3x3_S512x256x1x1_0_0_0_1
  slices_S4x256x5x5_S4x256x3x3_0_0_0_2 := @Cert.ReferenceIdeal.Gen.slices_S4x256x5x5_S4x256x3x3_0_0_0_2
  slices_S512x256x3x3_S512x256x1x1_0_0_0_2 := @Cert.ReferenceIdeal.Gen.slices_S512x256x3x3_S512x256x1x1_0_0_0_2
  slices_S4x256x5x5_S4x256x3x3_0_0_1_0 := @Cert.ReferenceIdeal.Gen.slices_S4x256x5x5_S4x256x3x3_0_0_1_0
  slices_S512x256x3x3_S512x256x1x1_0_0_1_0 := @Cert.ReferenceIdeal.Gen.slices_S512x256x3x3_S512x256x1x1_0_0_1_0
  slices_S512x256x3x3_S512x256x1x1_0_0_1_1 := @Cert.ReferenceIdeal.Gen.slices_S512x256x3x3_S512x256x1x1_0_0_1_1
  slices_S4x256x5x5_S4x256x3x3_0_0_1_2 := @Cert.ReferenceIdeal.Gen.slices_S4x256x5x5_S4x256x3x3_0_0_1_2
  slices_S512x256x3x3_S512x256x1x1_0_0_1_2 := @Cert.ReferenceIdeal.Gen.slices_S512x256x3x3_S512x256x1x1_0_0_1_2
  slices_S4x256x5x5_S4x256x3x3_0_0_2_0 := @Cert.ReferenceIdeal.Gen.slices_S4x256x5x5_S4x256x3x3_0_0_2_0
  slices_S512x256x3x3_S512x256x1x1_0_0_2_0 := @Cert.ReferenceIdeal.Gen.slices_S512x256x3x3_S512x256x1x1_0_0_2_0
  slices_S4x256x5x5_S4x256x3x3_0_0_2_1 := @Cert.ReferenceIdeal.Gen.slices_S4x256x5x5_S4x256x3x3_0_0_2_1
  slices_S512x256x3x3_S512x256x1x1_0_0_2_1 := @Cert.ReferenceIdeal.Gen.slices_S512x256x3x3_S512x256x1x1_0_0_2_1
  slices_S4x256x5x5_S4x256x3x3_0_0_2_2 := @Cert.ReferenceIdeal.Gen.slices_S4x256x5x5_S4x256x3x3_0_0_2_2
  slices_S512x256x3x3_S512x256x1x1_0_0_2_2 := @Cert.ReferenceIdeal.Gen.slices_S512x256x3x3_S512x256x1x1_0_0_2_2
  bcast_S512_S1x512x1x1_1 := @Cert.ReferenceIdeal.Gen.bcast_S512_S1x512x1x1_1
  bcast_S1x512x1x1_S4x512x3x3_0_1_2_3 := @Cert.ReferenceIdeal.Gen.bcast_S1x512x1x1_S4x512x3x3_0_1_2_3
  shapeCasts_S4x512x3x3_S4x4608 := @Cert.ReferenceIdeal.Gen.shapeCasts_S4x512x3x3_S4x4608
  slices_S9216x512_S4608x512_0_0 := @Cert.ReferenceIdeal.Gen.slices_S9216x512_S4608x512_0_0
  slices_S9216x512_S4608x512_4608_0 := @Cert.ReferenceIdeal.Gen.slices_S9216x512_S4608x512_4608_0
  bcast_S4x512_S4x1x512_0_2 := @Cert.ReferenceIdeal.Gen.bcast_S4x512_S4x1x512_0_2
  bcast_S8192x512_S1x8192x512_1_2 := @Cert.ReferenceIdeal.Gen.bcast_S8192x512_S1x8192x512_1_2
  bcast_S4x1x512_S4x8192x512_0_1_2 := @Cert.ReferenceIdeal.Gen.bcast_S4x1x512_S4x8192x512_0_1_2
  bcast_S1x8192x512_S4x8192x512_0_1_2 := @Cert.ReferenceIdeal.Gen.bcast_S1x8192x512_S4x8192x512_0_1_2
  bcast_S512_S1x1x512_2 := @Cert.ReferenceIdeal.Gen.bcast_S512_S1x1x512_2
  bcast_S1x1x512_S4x8192x512_0_1_2 := @Cert.ReferenceIdeal.Gen.bcast_S1x1x512_S4x8192x512_0_1_2
  bcast_S_S4x8192x512 := @Cert.ReferenceIdeal.Gen.bcast_S_S4x8192x512
  bcast_S256_S1x1x256_2 := @Cert.ReferenceIdeal.Gen.bcast_S256_S1x1x256_2
  bcast_S1x1x256_S4x8192x256_0_1_2 := @Cert.ReferenceIdeal.Gen.bcast_S1x1x256_S4x8192x256_0_1_2
  bcast_S_S4x8192x256 := @Cert.ReferenceIdeal.Gen.bcast_S_S4x8192x256
  bcast_S1_S1x1x1_2 := @Cert.ReferenceIdeal.Gen.bcast_S1_S1x1x1_2
  bcast_S1x1x1_S4x8192x1_0_1_2 := @Cert.ReferenceIdeal.Gen.bcast_S1x1x1_S4x8192x1_0_1_2
  shapeCasts_S4x8192x1_S4x8192 := @Cert.ReferenceIdeal.Gen.shapeCasts_S4x8192x1_S4x8192
  sliceFits_S4x8192_S4x51 := by decide
  slices_S4x51_S4x50_0_0 := by decide
  slices_S4x51_S4x50_0_1 := by decide
  slices_S4x51_S4x1_0_0 := by decide
  bcast_S_S4x1 := by decide
  bcast_S4x1_S4x50_0_1 := @Cert.ReferenceIdeal.Gen.bcast_S4x1_S4x50_0_1
  dot_S64x10_S4x10x5x5_S64x4x5x5_1_1_0_023_n_n_wf := @Cert.ReferenceIdeal.Gen.dot_S64x10_S4x10x5x5_S64x4x5x5_1_1_0_023_n_n_wf
  dot_S128x64_S4x64x5x5_S128x4x5x5_1_1_0_023_n_n_wf := @Cert.ReferenceIdeal.Gen.dot_S128x64_S4x64x5x5_S128x4x5x5_1_1_0_023_n_n_wf
  dot_S256x128_S4x128x5x5_S256x4x5x5_1_1_0_023_n_n_wf := @Cert.ReferenceIdeal.Gen.dot_S256x128_S4x128x5x5_S256x4x5x5_1_1_0_023_n_n_wf
  dot_S512x256_S4x256x3x3_S512x4x3x3_1_1_0_023_n_n_wf := @Cert.ReferenceIdeal.Gen.dot_S512x256_S4x256x3x3_S512x4x3x3_1_1_0_023_n_n_wf
  dot_S4x4608_S4608x512_S4x512_1_0_0_1_n_n_wf := @Cert.ReferenceIdeal.Gen.dot_S4x4608_S4608x512_S4x512_1_0_0_1_n_n_wf
  dot_S8192x4608_S4608x512_S8192x512_1_0_0_1_n_n_wf := @Cert.ReferenceIdeal.Gen.dot_S8192x4608_S4608x512_S8192x512_1_0_0_1_n_n_wf
  dot_S4x8192x512_S512x256_S4x8192x256_2_0_01_1_n_n_wf := @Cert.ReferenceIdeal.Gen.dot_S4x8192x512_S512x256_S4x8192x256_2_0_01_1_n_n_wf
  dot_S4x8192x256_S256x1_S4x8192x1_2_0_01_1_n_n_wf := @Cert.ReferenceIdeal.Gen.dot_S4x8192x256_S256x1_S4x8192x1_2_0_01_1_n_n_wf

end Cert.Pre_no_tie.Gen

end
-- ==== Proof.KernelRun.lean ====
/- What the kernel's run leaves in the result array: the contents at @main's last boundary. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result array at the last boundary's contents, every
    argument as launched and every counter at zero. -/
theorem value : θ_run defs (onTc (τ := τ) (main (F := F))) ⟨m, fun _ => 0, ρ⟩ (fun r => (∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c)⟩), funext fun g => hz g (.inr (no_unscoped g.2))⟩)

end Cert.KernelRun

end
-- ==== Proof.ConvMath.lean ====
/- Arithmetic of the convolutions, over the extended reals. The kernel keeps an image batch as a matrix of rows, one row per
   (image, line, column), and shifts it by 0/1 matrices; the reference pads the images and slices them. -/
module

public import Idealize.ShloMosaic.PureOps.Ideal
public import Idealize.ShloMosaic.Init

@[expose] public section

noncomputable section

namespace Cert.Conv

/-- The sum of the nine taps, in the order in which both programs take them. -/
def nine (f : Fin 9 → EReal) : EReal := f 0 + f 1 + f 2 + f 3 + f 4 + f 5 + f 6 + f 7 + f 8

/-- An image batch padded by one zero on every side, read at a padded position. -/
def padAt {g C : Nat} (X : Fin 4 → Fin C → Fin g → Fin g → EReal) (b : Fin 4) (c : Fin C) (Y Z : Nat) : EReal :=
  if h : (1 ≤ Y ∧ Y - 1 < g) ∧ (1 ≤ Z ∧ Z - 1 < g) then X b c ⟨Y - 1, h.1.2⟩ ⟨Z - 1, h.2.2⟩ else 0

/-- A 3×3 convolution with bias and rectifier, as the reference forms it. -/
def conv {g C O : Nat} (X : Fin 4 → Fin C → Fin g → Fin g → EReal) (w : Fin O → Fin C → Fin 3 → Fin 3 → EReal)
    (bias : Fin O → EReal) (b : Fin 4) (o : Fin O) (y x : Fin g) : EReal :=
  max (nine (fun t => ∑ c, w o c ⟨t / 3, by omega⟩ ⟨t % 3, by omega⟩ * padAt X b c (y + t / 3) (x + t % 3)) + bias o) 0

/-- The same layer as the kernel forms it, on rows. -/
def convRows {N C O : Nat} (G : Fin 9 → Fin N → Fin N → EReal) (H : Fin N → Fin C → EReal) (w : Fin 9 → Fin C → Fin O → EReal)
    (bias : Fin O → EReal) (r : Fin N) (o : Fin O) : EReal :=
  max (nine (fun t => ∑ c, (∑ p, G t r p * H p c) * w t c o) + bias o) 0

/-- Where the shift matrix of tap `t` holds a one: row `r` takes from row `p`. -/
def taken (g t r p : Nat) : Bool :=
  (decide (1 ≤ r % (g * g) / g + t / 3) && decide (r % (g * g) / g + t / 3 - 1 < g)) &&
  ((decide (1 ≤ r % g + t % 3) && decide (r % g + t % 3 - 1 < g)) &&
    p == r / (g * g) * (g * g) + (r % (g * g) / g + t / 3 - 1) * g + (r % g + t % 3 - 1))

/-- The row of an image position. -/
def row (g : Nat) (b y x : Nat) : Nat := b * (g * g) + y * g + x

/-- A position of the four images is one of the rows. -/
theorem row_lt {g : Nat} (b : Fin 4) (y x : Fin g) : row g b y x < 4 * (g * g) := by
  have h1 : y.val * g + x.val < g * g := by
    have := y.isLt; have := x.isLt
    calc y.val * g + x.val < y.val * g + g := by omega
      _ = (y.val + 1) * g := by ring
      _ ≤ g * g := Nat.mul_le_mul_right _ (by omega)
  have h2 : b.val * (g * g) ≤ 3 * (g * g) := Nat.mul_le_mul_right _ (by omega)
  unfold row
  omega

/-- The image of a row. -/
theorem row_div {g : Nat} (b : Nat) (y x : Fin g) : row g b y x / (g * g) = b := by
  have h1 : y.val * g + x.val < g * g := by
    have := y.isLt; have := x.isLt
    calc y.val * g + x.val < y.val * g + g := by omega
      _ = (y.val + 1) * g := by ring
      _ ≤ g * g := Nat.mul_le_mul_right _ (by omega)
  unfold row
  rw [Nat.add_assoc, Nat.mul_comm, Nat.mul_add_div (by omega), Nat.div_eq_of_lt h1, Nat.add_zero]

/-- The place of a row within its image. -/
theorem row_mod {g : Nat} (b : Nat) (y x : Fin g) : row g b y x % (g * g) = y * g + x := by
  have h1 : y.val * g + x.val < g * g := by
    have := y.isLt; have := x.isLt
    calc y.val * g + x.val < y.val * g + g := by omega
      _ = (y.val + 1) * g := by ring
      _ ≤ g * g := Nat.mul_le_mul_right _ (by omega)
  unfold row
  rw [Nat.add_assoc, Nat.mul_comm, Nat.mul_add_mod, Nat.mod_eq_of_lt h1]

/-- The line of a row within its image. -/
theorem row_mod_div {g : Nat} (b : Nat) (y x : Fin g) : row g b y x % (g * g) / g = y := by
  rw [row_mod, Nat.mul_comm, Nat.mul_add_div (by have := x.isLt; omega), Nat.div_eq_of_lt x.isLt, Nat.add_zero]

/-- The column of a row within its image. -/
theorem row_mod' {g : Nat} (b : Nat) (y x : Fin g) : row g b y x % g = x := by
  unfold row
  rw [show b * (g * g) + y.val * g + x.val = g * (b * g + y.val) + x.val by ring, Nat.mul_add_mod, Nat.mod_eq_of_lt x.isLt]

/-- The kernel's shifted row is the padded image's position. -/
theorem shift_sum {g N C : Nat} (hN : N = 4 * (g * g)) (X : Fin 4 → Fin C → Fin g → Fin g → EReal)
    (G : Fin N → EReal) (H : Fin N → Fin C → EReal) (t : Fin 9) (b : Fin 4) (y x : Fin g) (c : Fin C)
    (hG : ∀ p, G p = if taken g t (row g b y x) p then 1 else 0)
    (hH : ∀ (b : Fin 4) (y x : Fin g) (h : row g b y x < N), H ⟨row g b y x, h⟩ c = X b c y x) :
    ∑ p, G p * H p c = padAt X b c (y + t / 3) (x + t % 3) := by
  unfold padAt
  simp only [hG, taken, row_div, row_mod_div, row_mod']
  split
  · rename_i h
    have hq : row g b (y + t / 3 - 1) (x + t % 3 - 1) < N := by
      rw [hN]; exact row_lt b ⟨y + t / 3 - 1, h.1.2⟩ ⟨x + t % 3 - 1, h.2.2⟩
    rw [← hH b ⟨y + t / 3 - 1, h.1.2⟩ ⟨x + t % 3 - 1, h.2.2⟩ hq]
    rw [Finset.sum_eq_single (⟨row g b (y + t / 3 - 1) (x + t % 3 - 1), hq⟩ : Fin N)]
    · rw [if_pos, one_mul]
      simp [h.1.1, h.1.2, h.2.1, h.2.2, row]
    · intro p _ hp
      rw [if_neg, zero_mul]
      intro hc
      simp only [Bool.and_eq_true, beq_iff_eq] at hc
      exact hp (Fin.ext hc.2.2)
    · intro hc; exact absurd (Finset.mem_univ _) hc
  · rename_i h
    refine Finset.sum_eq_zero fun p _ => ?_
    rw [if_neg, zero_mul]
    intro hc
    simp only [Bool.and_eq_true, decide_eq_true_eq] at hc
    exact h ⟨hc.1, hc.2.1⟩

/-- A layer on rows is the layer on images. -/
theorem convRows_eq {g N C O : Nat} (hN : N = 4 * (g * g)) (X : Fin 4 → Fin C → Fin g → Fin g → EReal)
    (w : Fin O → Fin C → Fin 3 → Fin 3 → EReal) (bias : Fin O → EReal)
    (G : Fin 9 → Fin N → Fin N → EReal) (H : Fin N → Fin C → EReal) (w' : Fin 9 → Fin C → Fin O → EReal) (bias' : Fin O → EReal)
    (hG : ∀ t r p, G t r p = if taken g t r p then 1 else 0)
    (hH : ∀ (b : Fin 4) (c : Fin C) (y x : Fin g) (h : row g b y x < N), H ⟨row g b y x, h⟩ c = X b c y x)
    (hw : ∀ (t : Fin 9) c o, w' t c o = w o c ⟨t / 3, by omega⟩ ⟨t % 3, by omega⟩) (hb : ∀ o, bias' o = bias o)
    (b : Fin 4) (o : Fin O) (y x : Fin g) (h : row g b y x < N) :
    convRows G H w' bias' ⟨row g b y x, h⟩ o = conv X w bias b o y x := by
  unfold convRows conv
  have hs : ∀ (t : Fin 9) (c : Fin C), ∑ p, G t ⟨row g b y x, h⟩ p * H p c = padAt X b c (y + t / 3) (x + t % 3) := by
    intro t c
    exact shift_sum hN X (G t ⟨row g b y x, h⟩) H t b y x c (fun p => hG t _ p) (fun b y x h => hH b c y x h)
  have hf : (fun t : Fin 9 => ∑ c, (∑ p, G t ⟨row g b y x, h⟩ p * H p c) * w' t c o)
      = fun t : Fin 9 => ∑ c, w o c ⟨t / 3, by omega⟩ ⟨t % 3, by omega⟩ * padAt X b c (y + t / 3) (x + t % 3) := by
    funext t
    refine Finset.sum_congr rfl fun c _ => ?_
    rw [hs, hw, mul_comm]
  rw [hf, hb]

/-- The first line of the `i`-th window of the pooling. -/
def first (i : Nat) : Nat := if i = 0 then 0 else if i = 1 then 1 else 3
/-- The line after the last of the `i`-th window of the pooling. -/
def last (i : Nat) : Nat := if i = 0 then 2 else if i = 1 then 4 else 5

/-- Whether position `p` lies in the pooling window `r` of the same image. -/
def inWindow (r p : Nat) : Bool :=
  (p / 25 == r / 9) && ((decide (first (r % 9 / 3) ≤ p % 25 / 5) && decide (p % 25 / 5 < last (r % 9 / 3))) &&
    (decide (first (r % 3) ≤ p % 5) && decide (p % 5 < last (r % 3))))

/-- The sum over a pooling window. -/
def window {C : Nat} (X : Fin 4 → Fin C → Fin 5 → Fin 5 → EReal) (b : Fin 4) (c : Fin C) (i j : Fin 3) : EReal :=
  ∑ y : Fin 5, ∑ x : Fin 5, if (first i ≤ y.val ∧ y.val < last i) ∧ (first j ≤ x.val ∧ x.val < last j) then X b c y x else 0

/-- A sum over all rows is a sum over images, lines and columns. -/
theorem sum_rows (f : Fin 100 → EReal) :
    ∑ p, f p = ∑ b : Fin 4, ∑ y : Fin 5, ∑ x : Fin 5, f ⟨row 5 b y x, row_lt b y x⟩ := by
  have e : ∀ b : Fin 4, ∑ y : Fin 5, ∑ x : Fin 5, f ⟨row 5 b y x, row_lt b y x⟩
      = ∑ q : Fin 5 × Fin 5, f ⟨row 5 b q.1 q.2, row_lt b q.1 q.2⟩ := by
    intro b; rw [Fintype.sum_prod_type]
  simp only [e]
  rw [← Fintype.sum_prod_type (f := fun q : Fin 4 × (Fin 5 × Fin 5) => f ⟨row 5 q.1 q.2.1 q.2.2, row_lt q.1 q.2.1 q.2.2⟩)]
  symm
  refine Fintype.sum_bijective (fun q : Fin 4 × (Fin 5 × Fin 5) => (⟨row 5 q.1 q.2.1 q.2.2, row_lt q.1 q.2.1 q.2.2⟩ : Fin 100)) ?_ _ _ (fun _ => rfl)
  rw [Fintype.bijective_iff_injective_and_card]
  refine ⟨?_, by simp⟩
  rintro ⟨b, y, x⟩ ⟨b', y', x'⟩ h
  have h' : row 5 b y x = row 5 b' y' x' := congrArg Fin.val h
  unfold row at h'
  refine Prod.ext (Fin.ext ?_) (Prod.ext (Fin.ext ?_) (Fin.ext ?_)) <;> simp only <;> omega

/-- Multiplication by a number that is not negative passes through a finite sum. -/
theorem mul_sum_real {ι : Type} (u : Finset ι) (f : ι → EReal) (q : ℝ) (hq : 0 ≤ q) :
    ∑ i ∈ u, (q : EReal) * f i = (q : EReal) * ∑ i ∈ u, f i := by
  classical
  induction u using Finset.induction_on with
  | empty => simp
  | insert a u ha ih =>
    rw [Finset.sum_insert ha, Finset.sum_insert ha, ih]
    exact (EReal.left_distrib_of_nonneg_of_ne_top (EReal.coe_nonneg.mpr hq) (EReal.coe_ne_top q) _ _).symm

/-- The pooling on rows is the mean over the window. -/
theorem pool_eq {C : Nat} (X : Fin 4 → Fin C → Fin 5 → Fin 5 → EReal) (H : Fin 100 → Fin C → EReal) (Q : Fin 100 → EReal)
    (q : ℝ) (hq : 0 ≤ q) (b : Fin 4) (c : Fin C) (i j : Fin 3)
    (hQ : ∀ p, Q p = if inWindow (row 3 b i j) p then (q : EReal) else 0)
    (hH : ∀ (b : Fin 4) (c : Fin C) (y x : Fin 5) (h : row 5 b y x < 100), H ⟨row 5 b y x, h⟩ c = X b c y x) :
    ∑ p, Q p * H p c = window X b c i j * (q : EReal) := by
  have h1 : ∀ p, Q p * H p c = (q : EReal) * (if inWindow (row 3 b i j) p then H p c else 0) := by
    intro p
    rw [hQ]; split <;> simp
  simp only [h1]
  rw [mul_sum_real _ _ q hq, mul_comm]
  congr 1
  rw [sum_rows, Finset.sum_eq_single b]
  · unfold window
    refine Finset.sum_congr rfl fun y _ => Finset.sum_congr rfl fun x _ => ?_
    rw [hH]
    congr 1
    unfold inWindow
    have r1 := row_div b.val i j
    have r2 := row_mod_div b.val i j
    have r3 := row_mod' b.val i j
    have s1 := row_div b.val y x
    have s2 := row_mod_div b.val y x
    have s3 := row_mod' b.val y x
    norm_num at r1 r2 s1 s2
    simp only [r1, r2, r3, s1, s2, s3]
    simp
  · intro b' _ hb
    refine Finset.sum_eq_zero fun y _ => Finset.sum_eq_zero fun x _ => ?_
    rw [if_neg]
    unfold inWindow
    have r1 := row_div b.val i j
    have s1 := row_div b'.val y x
    norm_num at r1 s1
    simp only [r1, s1]
    simp only [Bool.and_eq_true, beq_iff_eq, not_and]
    intro h
    exact absurd (Fin.ext h) hb
  · intro h; exact absurd (Finset.mem_univ _) h

end Cert.Conv

end
-- ==== Proof.EncValue.lean ====
/- The encoder kernel's value: three convolution layers on the 5×5 image rows, the pooling, and the fourth layer on the
   pooled rows, each read entry by entry. -/
module

public import proofs.«01_k».proof.Proof.Gen.KernelIdeal.Frame
public import proofs.«01_k».proof.Proof.ConvMath
public import Idealize.ShloMosaic.Lib.Pointwise
public import Idealize.ShloMosaic.Lib.Pipeline.ValueKit
public import Idealize.ShloMosaic.Lib.IdealHost

@[expose] public section

set_option maxRecDepth 16384

noncomputable section

namespace Cert.EncValue

open Cert.KernelIdeal Cert.KernelIdeal.Gen
open Idealize.ShloMosaic Idealize.ShloMosaic.TcCoe

variable (x0 : FVec Ideal S100x10 .f32) (x1 : FVec Ideal S9x100x100 .f32) (x2 : FVec Ideal S9x36x36 .f32) (x3 : FVec Ideal S36x100 .f32)
  (x4 : FVec Ideal S9x10x64 .f32) (x5 : FVec Ideal S1x64 .f32) (x6 : FVec Ideal S9x64x128 .f32) (x7 : FVec Ideal S1x128 .f32)
  (x8 : FVec Ideal S9x128x256 .f32) (x9 : FVec Ideal S1x256 .f32) (x10 : FVec Ideal S9x256x512 .f32) (x11 : FVec Ideal S1x512 .f32)

set_option maxHeartbeats 4000000 in
/-- The first layer's output. -/
theorem layer1 (r : Fin 100) (o : Fin 64) : k0_pay32 (F := Ideal) x0 x1 x2 x3 x4 x5 x6 x7 x8 x9 x10 x11 (ix2 r o)
    = Conv.convRows (fun t r p => x1 (ix3 t r p)) (fun p c => x0 (ix2 p c)) (fun t c o => x4 (ix3 t c o)) (fun o => x5 (ix2 0 o)) r o := by
  unfold Conv.convRows Conv.nine
  pointwise [k0_pay32, k0_pay31, k0_pay30, k0_pay29, k0_pay28, k0_pay27, k0_pay2, k0_pay3, k0_pay4, k0_pay5, k0_pay6, k0_pay7, k0_pay8]

set_option maxHeartbeats 4000000 in
/-- The second layer's output, from the first's. -/
theorem layer2 (r : Fin 100) (o : Fin 128) : k0_pay34 (F := Ideal) x0 x1 x2 x3 x4 x5 x6 x7 x8 x9 x10 x11 (ix2 r o)
    = Conv.convRows (fun t r p => x1 (ix3 t r p)) (fun p c => k0_pay32 (F := Ideal) x0 x1 x2 x3 x4 x5 x6 x7 x8 x9 x10 x11 (ix2 p c)) (fun t c o => x6 (ix3 t c o))
        (fun o => x7 (ix2 0 o)) r o := by
  unfold Conv.convRows Conv.nine
  have e : k0_pay32 (F := Ideal) x0 x1 x2 x3 x4 x5 x6 x7 x8 x9 x10 x11 = k0_pay8 (k0_pay27 (F := Ideal) x0 x1 x2 x3 x4 x5 x6 x7 x8 x9 x10 x11) (k0_pay29 (F := Ideal) x0 x1 x2 x3 x4 x5 x6 x7 x8 x9 x10 x11) (k0_pay30 (F := Ideal) x0 x1 x2 x3 x4 x5 x6 x7 x8 x9 x10 x11) (k0_pay31 (F := Ideal) x0 x1 x2 x3 x4 x5 x6 x7 x8 x9 x10 x11) (k0_pay28 (F := Ideal) x0 x1 x2 x3 x4 x5 x6 x7 x8 x9 x10 x11)
      (View.ld x1 r0_15) (View.ld x4 r0_16) (View.ld x1 r0_17) (View.ld x4 r0_18) (View.ld x5 r0_19) := rfl
  unfold k0_pay34 k0_pay33 k0_pay9
  rw [← e]
  generalize k0_pay32 (F := Ideal) x0 x1 x2 x3 x4 x5 x6 x7 x8 x9 x10 x11 = H
  pointwise [k0_pay10, k0_pay11, k0_pay12, k0_pay13, k0_pay14]

set_option maxHeartbeats 4000000 in
/-- The third layer's taps, from the second layer's output. -/
theorem layer3 (r : Fin 100) (o : Fin 256) : k0_pay35 (F := Ideal) x0 x1 x2 x3 x4 x5 x6 x7 x8 x9 x10 x11 (ix2 r o)
    = Conv.nine (fun t => ∑ c : Fin 128, (∑ p : Fin 100, x1 (ix3 t r p) * k0_pay34 (F := Ideal) x0 x1 x2 x3 x4 x5 x6 x7 x8 x9 x10 x11 (ix2 p c)) * x8 (ix3 t c o)) := by
  unfold Conv.nine
  have e : k0_pay34 (F := Ideal) x0 x1 x2 x3 x4 x5 x6 x7 x8 x9 x10 x11 = k0_pay14 (k0_pay32 (F := Ideal) x0 x1 x2 x3 x4 x5 x6 x7 x8 x9 x10 x11) (k0_pay33 (F := Ideal) x0 x1 x2 x3 x4 x5 x6 x7 x8 x9 x10 x11) (View.ld x1 r0_17) (View.ld x6 r0_28) (View.ld x7 r0_29) := rfl
  unfold k0_pay35 k0_pay15
  rw [← e]
  generalize k0_pay34 (F := Ideal) x0 x1 x2 x3 x4 x5 x6 x7 x8 x9 x10 x11 = H
  pointwise [k0_pay16, k0_pay17, k0_pay18]

set_option maxHeartbeats 4000000 in
/-- The pooled rows, from the third layer's taps. -/
theorem pooled (r : Fin 36) (o : Fin 256) : k0_pay36 (F := Ideal) x0 x1 x2 x3 x4 x5 x6 x7 x8 x9 x10 x11 (ix2 r o)
    = ∑ p : Fin 100, x3 (ix2 r p) * max (k0_pay35 (F := Ideal) x0 x1 x2 x3 x4 x5 x6 x7 x8 x9 x10 x11 (ix2 p o) + x9 (ix2 0 o)) 0 := by
  unfold k0_pay36
  generalize k0_pay35 (F := Ideal) x0 x1 x2 x3 x4 x5 x6 x7 x8 x9 x10 x11 = H
  pointwise [k0_pay19]

set_option maxHeartbeats 4000000 in
/-- What the kernel leaves in its result: the fourth layer on the pooled rows. -/
theorem layer4 (r : Fin 36) (o : Fin 512) : out0_12 (F := Ideal) x0 x1 x2 x3 x4 x5 x6 x7 x8 x9 x10 x11 (ix2 r o)
    = Conv.convRows (fun t r p => x2 (ix3 t r p)) (fun p c => k0_pay36 (F := Ideal) x0 x1 x2 x3 x4 x5 x6 x7 x8 x9 x10 x11 (ix2 p c)) (fun t c o => x10 (ix3 t c o))
        (fun o => x11 (ix2 0 o)) r o := by
  unfold Conv.convRows Conv.nine
  have e : k0_pay36 (F := Ideal) x0 x1 x2 x3 x4 x5 x6 x7 x8 x9 x10 x11 = k0_pay19 (k0_pay35 (F := Ideal) x0 x1 x2 x3 x4 x5 x6 x7 x8 x9 x10 x11) (View.ld x9 r0_39) (View.ld x3 r0_40) := rfl
  unfold out0_12 k0_pay20 k0_pay21
  rw [← e]
  generalize k0_pay36 (F := Ideal) x0 x1 x2 x3 x4 x5 x6 x7 x8 x9 x10 x11 = H
  frame_out
  pointwise [k0_pay1, k0_pay22, k0_pay23, k0_pay24, k0_pay25, k0_pay26]

end Cert.EncValue

end
-- ==== Proof.EncEq.lean ====
/- The encoder kernel's rows are the reference's convolutions and pooling. -/
module

public import proofs.«01_k».proof.Proof.EncValue
public import proofs.«01_k».proof.Proof.ConvMath

@[expose] public section

set_option maxRecDepth 16384

noncomputable section

namespace Cert.EncEq

open Cert.KernelIdeal Cert.KernelIdeal.Gen
open Idealize.ShloMosaic Idealize.ShloMosaic.TcCoe

/-- The pooled features: the mean over each window. -/
def pooled (n : Nat → Nat → Nat) (X : Fin 4 → Fin 256 → Fin 5 → Fin 5 → EReal) (b : Fin 4) (c : Fin 256) (i j : Fin 3) : EReal :=
  Conv.window X b c i j * ((1 / ((n i j : ℕ) : ℝ) : ℝ) : EReal)

/-- The layers on rows are the layers on images. -/
theorem chain (x0 : FVec Ideal S100x10 .f32) (x1 : FVec Ideal S9x100x100 .f32) (x2 : FVec Ideal S9x36x36 .f32) (x3 : FVec Ideal S36x100 .f32)
    (x4 : FVec Ideal S9x10x64 .f32) (x5 : FVec Ideal S1x64 .f32) (x6 : FVec Ideal S9x64x128 .f32) (x7 : FVec Ideal S1x128 .f32)
    (x8 : FVec Ideal S9x128x256 .f32) (x9 : FVec Ideal S1x256 .f32) (x10 : FVec Ideal S9x256x512 .f32) (x11 : FVec Ideal S1x512 .f32)
    (L1 : FVec Ideal S100x64 .f32) (L2 : FVec Ideal S100x128 .f32) (L3 : FVec Ideal S100x256 .f32) (P : FVec Ideal S36x256 .f32) (L4 : FVec Ideal S36x512 .f32)
    (l1 : ∀ r o, L1 (ix2 r o) = Conv.convRows (fun t r p => x1 (ix3 t r p)) (fun p c => x0 (ix2 p c)) (fun t c o => x4 (ix3 t c o)) (fun o => x5 (ix2 0 o)) r o)
    (l2 : ∀ r o, L2 (ix2 r o) = Conv.convRows (fun t r p => x1 (ix3 t r p)) (fun p c => L1 (ix2 p c)) (fun t c o => x6 (ix3 t c o)) (fun o => x7 (ix2 0 o)) r o)
    (l3 : ∀ r o, max (L3 (ix2 r o) + x9 (ix2 0 o)) 0 = Conv.convRows (fun t r p => x1 (ix3 t r p)) (fun p c => L2 (ix2 p c)) (fun t c o => x8 (ix3 t c o)) (fun o => x9 (ix2 0 o)) r o)
    (lp : ∀ (r : Fin 36) (o : Fin 256), P (ix2 r o) = ∑ p : Fin 100, x3 (ix2 r p) * max (L3 (ix2 p o) + x9 (ix2 0 o)) 0)
    (l4 : ∀ r o, L4 (ix2 r o) = Conv.convRows (fun t r p => x2 (ix3 t r p)) (fun p c => P (ix2 p c)) (fun t c o => x10 (ix3 t c o)) (fun o => x11 (ix2 0 o)) r o)
    (n : Nat → Nat → Nat) (X : Fin 4 → Fin 10 → Fin 5 → Fin 5 → EReal)
    (w1 : Fin 64 → Fin 10 → Fin 3 → Fin 3 → EReal) (b1 : Fin 64 → EReal) (w2 : Fin 128 → Fin 64 → Fin 3 → Fin 3 → EReal) (b2 : Fin 128 → EReal)
    (w3 : Fin 256 → Fin 128 → Fin 3 → Fin 3 → EReal) (b3 : Fin 256 → EReal) (w4 : Fin 512 → Fin 256 → Fin 3 → Fin 3 → EReal) (b4 : Fin 512 → EReal)
    (h0 : ∀ (b : Fin 4) (c : Fin 10) (y x : Fin 5) (h : Conv.row 5 b y x < 100), x0 (ix2 ⟨Conv.row 5 b y x, h⟩ c) = X b c y x)
    (h1 : ∀ (t : Fin 9) (r p : Fin 100), x1 (ix3 t r p) = if Conv.taken 5 t r p then 1 else 0)
    (h2 : ∀ (t : Fin 9) (r p : Fin 36), x2 (ix3 t r p) = if Conv.taken 3 t r p then 1 else 0)
    (h3 : ∀ (b : Fin 4) (i j : Fin 3) (h : Conv.row 3 b i j < 36) (p : Fin 100),
      x3 (ix2 ⟨Conv.row 3 b i j, h⟩ p) = if Conv.inWindow (Conv.row 3 b i j) p then ((1 / ((n i j : ℕ) : ℝ) : ℝ) : EReal) else 0)
    (h4 : ∀ (t : Fin 9) c o, x4 (ix3 t c o) = w1 o c ⟨t / 3, by omega⟩ ⟨t % 3, by omega⟩) (h5 : ∀ o, x5 (ix2 0 o) = b1 o)
    (h6 : ∀ (t : Fin 9) c o, x6 (ix3 t c o) = w2 o c ⟨t / 3, by omega⟩ ⟨t % 3, by omega⟩) (h7 : ∀ o, x7 (ix2 0 o) = b2 o)
    (h8 : ∀ (t : Fin 9) c o, x8 (ix3 t c o) = w3 o c ⟨t / 3, by omega⟩ ⟨t % 3, by omega⟩) (h9 : ∀ o, x9 (ix2 0 o) = b3 o)
    (h10 : ∀ (t : Fin 9) c o, x10 (ix3 t c o) = w4 o c ⟨t / 3, by omega⟩ ⟨t % 3, by omega⟩) (h11 : ∀ o, x11 (ix2 0 o) = b4 o)
    (b : Fin 4) (o : Fin 512) (i j : Fin 3) (h : Conv.row 3 b i j < 36) :
    L4 (ix2 ⟨Conv.row 3 b i j, h⟩ o)
      = Conv.conv (pooled n (Conv.conv (Conv.conv (Conv.conv X w1 b1) w2 b2) w3 b3)) w4 b4 b o i j := by
  have e1 : ∀ (b : Fin 4) (o : Fin 64) (y x : Fin 5) (h : Conv.row 5 b y x < 100),
      L1 (ix2 ⟨Conv.row 5 b y x, h⟩ o) = Conv.conv X w1 b1 b o y x := by
    intro b o y x h
    rw [l1]
    exact Conv.convRows_eq (g := 5) rfl X w1 b1 _ _ _ _ h1 h0 h4 h5 b o y x h
  have e2 : ∀ (b : Fin 4) (o : Fin 128) (y x : Fin 5) (h : Conv.row 5 b y x < 100),
      L2 (ix2 ⟨Conv.row 5 b y x, h⟩ o) = Conv.conv (Conv.conv X w1 b1) w2 b2 b o y x := by
    intro b o y x h
    rw [l2]
    exact Conv.convRows_eq (g := 5) rfl (Conv.conv X w1 b1) w2 b2 _ _ _ _ h1 e1 h6 h7 b o y x h
  have e3 : ∀ (b : Fin 4) (o : Fin 256) (y x : Fin 5) (h : Conv.row 5 b y x < 100),
      max (L3 (ix2 ⟨Conv.row 5 b y x, h⟩ o) + x9 (ix2 0 o)) 0
        = Conv.conv (Conv.conv (Conv.conv X w1 b1) w2 b2) w3 b3 b o y x := by
    intro b o y x h
    rw [l3]
    exact Conv.convRows_eq (g := 5) rfl (Conv.conv (Conv.conv X w1 b1) w2 b2) w3 b3 _ _ _ _ h1 e2 h8 h9 b o y x h
  have e4 : ∀ (b : Fin 4) (o : Fin 256) (i j : Fin 3) (h : Conv.row 3 b i j < 36),
      P (ix2 ⟨Conv.row 3 b i j, h⟩ o)
        = pooled n (Conv.conv (Conv.conv (Conv.conv X w1 b1) w2 b2) w3 b3) b o i j := by
    intro b o i j h
    rw [lp]
    exact Conv.pool_eq (Conv.conv (Conv.conv (Conv.conv X w1 b1) w2 b2) w3 b3) (fun p c => max (L3 (ix2 p c) + x9 (ix2 0 c)) 0)
      (fun p => x3 (ix2 ⟨Conv.row 3 b i j, h⟩ p)) _ (by positivity) b o i j (fun p => h3 b i j h p) e3
  rw [l4]
  exact Conv.convRows_eq (g := 3) rfl (pooled n (Conv.conv (Conv.conv (Conv.conv X w1 b1) w2 b2) w3 b3)) w4 b4 _ _ _ _ h2 e4 h10 h11 b o i j h

/-- The encoder's result, row by row: three convolutions, the pooling and the last convolution. -/
theorem encoder (x0 : FVec Ideal S100x10 .f32) (x1 : FVec Ideal S9x100x100 .f32) (x2 : FVec Ideal S9x36x36 .f32) (x3 : FVec Ideal S36x100 .f32)
    (x4 : FVec Ideal S9x10x64 .f32) (x5 : FVec Ideal S1x64 .f32) (x6 : FVec Ideal S9x64x128 .f32) (x7 : FVec Ideal S1x128 .f32)
    (x8 : FVec Ideal S9x128x256 .f32) (x9 : FVec Ideal S1x256 .f32) (x10 : FVec Ideal S9x256x512 .f32) (x11 : FVec Ideal S1x512 .f32)
    (n : Nat → Nat → Nat) (X : Fin 4 → Fin 10 → Fin 5 → Fin 5 → EReal)
    (w1 : Fin 64 → Fin 10 → Fin 3 → Fin 3 → EReal) (b1 : Fin 64 → EReal) (w2 : Fin 128 → Fin 64 → Fin 3 → Fin 3 → EReal) (b2 : Fin 128 → EReal)
    (w3 : Fin 256 → Fin 128 → Fin 3 → Fin 3 → EReal) (b3 : Fin 256 → EReal) (w4 : Fin 512 → Fin 256 → Fin 3 → Fin 3 → EReal) (b4 : Fin 512 → EReal)
    (h0 : ∀ (b : Fin 4) (c : Fin 10) (y x : Fin 5) (h : Conv.row 5 b y x < 100), x0 (ix2 ⟨Conv.row 5 b y x, h⟩ c) = X b c y x)
    (h1 : ∀ (t : Fin 9) (r p : Fin 100), x1 (ix3 t r p) = if Conv.taken 5 t r p then 1 else 0)
    (h2 : ∀ (t : Fin 9) (r p : Fin 36), x2 (ix3 t r p) = if Conv.taken 3 t r p then 1 else 0)
    (h3 : ∀ (b : Fin 4) (i j : Fin 3) (h : Conv.row 3 b i j < 36) (p : Fin 100),
      x3 (ix2 ⟨Conv.row 3 b i j, h⟩ p) = if Conv.inWindow (Conv.row 3 b i j) p then ((1 / ((n i j : ℕ) : ℝ) : ℝ) : EReal) else 0)
    (h4 : ∀ (t : Fin 9) c o, x4 (ix3 t c o) = w1 o c ⟨t / 3, by omega⟩ ⟨t % 3, by omega⟩) (h5 : ∀ o, x5 (ix2 0 o) = b1 o)
    (h6 : ∀ (t : Fin 9) c o, x6 (ix3 t c o) = w2 o c ⟨t / 3, by omega⟩ ⟨t % 3, by omega⟩) (h7 : ∀ o, x7 (ix2 0 o) = b2 o)
    (h8 : ∀ (t : Fin 9) c o, x8 (ix3 t c o) = w3 o c ⟨t / 3, by omega⟩ ⟨t % 3, by omega⟩) (h9 : ∀ o, x9 (ix2 0 o) = b3 o)
    (h10 : ∀ (t : Fin 9) c o, x10 (ix3 t c o) = w4 o c ⟨t / 3, by omega⟩ ⟨t % 3, by omega⟩) (h11 : ∀ o, x11 (ix2 0 o) = b4 o)
    (b : Fin 4) (o : Fin 512) (i j : Fin 3) (h : Conv.row 3 b i j < 36) :
    out0_12 (F := Ideal) x0 x1 x2 x3 x4 x5 x6 x7 x8 x9 x10 x11 (ix2 ⟨Conv.row 3 b i j, h⟩ o)
      = Conv.conv (pooled n (Conv.conv (Conv.conv (Conv.conv X w1 b1) w2 b2) w3 b3)) w4 b4 b o i j := by
  exact chain x0 x1 x2 x3 x4 x5 x6 x7 x8 x9 x10 x11 (k0_pay32 (F := Ideal) x0 x1 x2 x3 x4 x5 x6 x7 x8 x9 x10 x11) (k0_pay34 (F := Ideal) x0 x1 x2 x3 x4 x5 x6 x7 x8 x9 x10 x11) (k0_pay35 (F := Ideal) x0 x1 x2 x3 x4 x5 x6 x7 x8 x9 x10 x11) (k0_pay36 (F := Ideal) x0 x1 x2 x3 x4 x5 x6 x7 x8 x9 x10 x11) (out0_12 (F := Ideal) x0 x1 x2 x3 x4 x5 x6 x7 x8 x9 x10 x11)
    (EncValue.layer1 x0 x1 x2 x3 x4 x5 x6 x7 x8 x9 x10 x11) (EncValue.layer2 x0 x1 x2 x3 x4 x5 x6 x7 x8 x9 x10 x11) (fun r o => by rw [EncValue.layer3]; rfl) (EncValue.pooled x0 x1 x2 x3 x4 x5 x6 x7 x8 x9 x10 x11) (EncValue.layer4 x0 x1 x2 x3 x4 x5 x6 x7 x8 x9 x10 x11)
    n X w1 b1 w2 b2 w3 b3 w4 b4 h0 h1 h2 h3 h4 h5 h6 h7 h8 h9 h10 h11 b o i j h

end Cert.EncEq

end
-- ==== Proof.HeadSims.lean ====
/- The head kernel's and the similarity kernel's values at an index. -/
module

public import proofs.«01_k».proof.Proof.Gen.KernelIdeal.Frame
public import Idealize.ShloMosaic.Lib.Pointwise
public import Idealize.ShloMosaic.Lib.Pipeline.ValueKit
public import Idealize.ShloMosaic.Lib.IdealHost

@[expose] public section

set_option maxRecDepth 16384

noncomputable section

namespace Cert.HeadSims

open Cert.KernelIdeal Cert.KernelIdeal.Gen
open Idealize.ShloMosaic Idealize.ShloMosaic.TcCoe

/-- A two-layer perceptron's output. -/
theorem head (x0 : FVec Ideal S4x4608 .f32) (x1 : FVec Ideal S4608x512 .f32) (x2 : FVec Ideal S1x512 .f32) (x3 : FVec Ideal S512x250 .f32)
    (x4 : FVec Ideal S1x250 .f32) (b : Fin 4) (n : Fin 250) : out1_5 (F := Ideal) x0 x1 x2 x3 x4 (ix2 b n)
    = (∑ k : Fin 512, max ((∑ d : Fin 4608, x0 (ix2 b d) * x1 (ix2 d k)) + x2 (ix2 0 k)) 0 * x3 (ix2 k n)) + x4 (ix2 0 n) := by
  unfold out1_5
  frame_out
  pointwise [k1_pay1]

/-- The similarity of one query with one row of the block of keys. -/
theorem sims (x0 : FVec Ideal S512x4608 .f32) (x1 : FVec Ideal S4608x512 .f32) (x2 : FVec Ideal S4x512 .f32) (x3 : FVec Ideal S1x512 .f32)
    (x4 : FVec Ideal S512x256 .f32) (x5 : FVec Ideal S1x256 .f32) (x6 : FVec Ideal S1x256 .f32) (y : S1x4x512.Idx) :
    out2_7 (F := Ideal) x0 x1 x2 x3 x4 x5 x6 y
    = ∑ k : Fin 256, max ((∑ j : Fin 512, max ((∑ d : Fin 4608, x0 (ix2 (y 2) d) * x1 (ix2 d j)) + x2 (ix2 (y 1) j) + x3 (ix2 0 j)) 0
        * x4 (ix2 j k)) + x5 (ix2 0 k)) 0 * x6 (ix2 0 k) := by
  unfold_out out2_7
  canon_tiles x h
  all_goals (pointwise [k2_pay1, k2_pay2, k2_pay3, k2_pay4, k2_pay5, k2_pay6, k2_pay7, k2_pay8]; blk_point [])

end Cert.HeadSims

end
-- ==== Proof.TopMath.lean ====
/- Arithmetic of the last stage, over the extended reals, one query at a time. The kernel keeps the similarities that are
   at least the 50th largest, found by knocking out the largest 49 times, and divides by the sum once; the reference sorts,
   takes 50, and forms a softmax of them. -/
module

public import Idealize.ShloMosaic.Lib.SortFacts
public import Idealize.ShloMosaic.PureOps.Ideal
public import Idealize.ShloMosaic.Init

@[expose] public section

noncomputable section

namespace Cert.Top

open Idealize.ShloMosaic

/-- The largest value of a family, −∞ if there is none. -/
def top {n : Nat} (f : Fin n → EReal) : EReal := Finset.univ.fold max ⊥ f

/-- The largest value is a value that is attained and that bounds all. -/
theorem top_eq {n : Nat} (f : Fin n → EReal) (a : EReal) (j : Fin n) (hj : f j = a) (h : ∀ i, f i ≤ a) : top f = a := by
  apply le_antisymm
  · unfold top
    rw [Finset.fold_max_le]
    exact ⟨bot_le, fun i _ => h i⟩
  · unfold top
    rw [Finset.le_fold_max]
    exact Or.inr ⟨j, Finset.mem_univ j, hj.ge⟩

/-- One round: every entry that is at least the largest becomes −∞. -/
def knock {n : Nat} (v : Fin n → EReal) : Fin n → EReal := fun j => if top v ≤ v j then ⊥ else v j

/-- The weights of the kernel before division. -/
def weight {n : Nat} (T : EReal) (s : Fin n → EReal) (j : Fin n) : EReal :=
  if top (knock^[49] s) ≤ s j then Ideal.exp ((s j - top s) * T) else 0

/-- The order by which the reference sorts: greater first. -/
def before {n : Nat} (r : Fin n → EReal) (k k' : Fin n) : Bool :=
  FloatOps.cmpfTotal (F := Ideal) (φ := .f32) .gt (r k) (r k') == 1#1

/-- An entry comes before another when it is greater. -/
theorem before_iff {n : Nat} (r : Fin n → EReal) (k k' : Fin n) : before r k k' = true ↔ r k' < r k := by
  unfold before
  show (BitVec.ofBool (decide (r k' < r k)) == 1#1) = true ↔ _
  by_cases h : r k' < r k <;> simp [h]

/-- Sorted: later positions hold values no greater. -/
theorem sorted {n : Nat} (r : Fin n → EReal) (i j : Fin n) (hij : i ≤ j) :
    r (sortedFrom (before r) j) ≤ r (sortedFrom (before r) i) := by
  rcases hij.lt_or_eq with h | rfl
  · have hf : ∀ a b, before r a b = false ↔ r a ≤ r b := by
      intro a b
      rw [← Bool.not_eq_true, before_iff, not_lt]
    have := sortedFrom_noInversion (before r) (before r)
      (by intro a b hab; rw [before_iff] at hab; rw [hf]; exact hab.le) (fun _ _ h => h)
      (by intro a b c; rw [hf, hf, hf]; exact le_trans) i j h
    rwa [hf] at this
  · exact le_rfl

section row

variable {n : Nat} (s : Fin n → EReal) (c : EReal) (σ : Fin n → Fin n) (hn : 51 ≤ n)
  (hσ : Function.Bijective σ)
  (hs : ∀ i j, i ≤ j → s (σ j) + c ≤ s (σ i) + c)
  (hst : ∀ k (hk : k < 50), s (σ ⟨k + 1, by omega⟩) + c < s (σ ⟨k, by omega⟩) + c)
  (htop : s (σ ⟨0, by omega⟩) + c < ⊤)

include hst htop in
/-- The bias is a real number. -/
theorem bias_real : ∃ c' : ℝ, c = (c' : EReal) := by
  have h0 := hst 0 (by omega)
  induction c with
  | bot => simp at h0
  | top =>
    exfalso
    have hb : s (σ ⟨0, by omega⟩) = ⊥ := by
      by_contra hne
      rw [EReal.add_top_of_ne_bot hne] at htop
      exact lt_irrefl _ htop
    simp only [hb, EReal.bot_add] at h0
    exact not_lt_bot h0
  | coe x => exact ⟨x, rfl⟩

include hs hst htop in
/-- The 50 taken similarities are real numbers. -/
theorem taken_real (k : Nat) (hk : k < 50) : ∃ a : ℝ, s (σ ⟨k, by omega⟩) = (a : EReal) := by
  have h1 := hst k hk
  have h2 : s (σ ⟨k, by omega⟩) + c < ⊤ := lt_of_le_of_lt (hs ⟨0, by omega⟩ ⟨k, by omega⟩ (Fin.mk_le_mk.mpr (Nat.zero_le k))) htop
  obtain ⟨c', rfl⟩ := bias_real s c σ hn hst htop
  generalize s (σ ⟨k, by omega⟩) = x at *
  induction x with
  | bot => simp only [EReal.bot_add] at h1; exact absurd h1 not_lt_bot
  | top => simp at h2
  | coe a => exact ⟨a, rfl⟩

include hσ hs hst htop in
/-- Every similarity not among the first `k + 1` is strictly below the `k`-th. -/
theorem below (k : Nat) (hk : k < 50) (i : Fin n) (hi : k < i.val) : s (σ i) < s (σ ⟨k, by omega⟩) := by
  have h1 := hst k hk
  have h2 := hs ⟨k + 1, by omega⟩ i (Fin.mk_le_mk.mpr hi)
  by_contra hle
  rw [not_lt] at hle
  exact absurd (lt_of_le_of_lt h2 h1) (not_lt.mpr (add_le_add_left hle c))

include hσ hs hst htop in
/-- After `k ≤ 49` rounds the first `k` are −∞ and the others are as they were. -/
theorem knock_iter (k : Nat) (hk : k < 50) :
    knock^[k] s = fun j => if ∃ i : Fin n, i.val < k ∧ σ i = j then ⊥ else s j := by
  have key : ∀ k (hk : k < 50), top (fun j => if ∃ i : Fin n, i.val < k ∧ σ i = j then ⊥ else s j) = s (σ ⟨k, by omega⟩) := by
    intro k hk
    apply top_eq _ _ (σ ⟨k, by omega⟩)
    · rw [if_neg]
      rintro ⟨i, hi, he⟩
      have := hσ.1 he
      subst this
      simp at hi
    · intro j
      obtain ⟨i, rfl⟩ := hσ.2 j
      split
      · exact bot_le
      · rename_i hne
        have hik : ¬ i.val < k := fun h => hne ⟨i, h, rfl⟩
        rcases Nat.lt_or_ge k i.val with h | h
        · exact (below s c σ hn hσ hs hst htop k hk i h).le
        · have : i = ⟨k, by omega⟩ := Fin.ext (by simp; omega)
          rw [this]
  induction k with
  | zero =>
    funext j
    rw [if_neg (by rintro ⟨i, hi, _⟩; omega)]
    rfl
  | succ k ih =>
    rw [Function.iterate_succ_apply', ih (by omega) key]
    funext j
    unfold knock
    rw [key k (by omega)]
    obtain ⟨i, rfl⟩ := hσ.2 j
    have hiff : ∀ k, (∃ i' : Fin n, i'.val < k ∧ σ i' = σ i) ↔ i.val < k := by
      intro k
      constructor
      · rintro ⟨i', h, he⟩
        rw [← hσ.1 he]; exact h
      · exact fun h => ⟨i, h, rfl⟩
    simp only [hiff]
    obtain ⟨a, ha⟩ := taken_real s c σ hn hs hst htop k (by omega)
    rcases Nat.lt_trichotomy i.val k with h | h | h
    · rw [if_pos h, if_neg (by rw [ha]; simp), if_pos (by omega)]
    · have : i = ⟨k, by omega⟩ := Fin.ext h
      rw [if_neg (by omega : ¬ i.val < k), if_pos (by rw [this]), if_pos (by omega)]
    · rw [if_neg (by omega : ¬ i.val < k), if_neg (not_le.mpr (below s c σ hn hσ hs hst htop k (by omega) i h)), if_neg (by omega)]

include hσ hs hst htop in
/-- The largest after `k ≤ 49` rounds is the `k`-th of the sorted row. -/
theorem top_knock (k : Nat) (hk : k < 50) : top (knock^[k] s) = s (σ ⟨k, by omega⟩) := by
  rw [knock_iter s c σ hn hσ hs hst htop k hk]
  apply top_eq _ _ (σ ⟨k, by omega⟩)
  · rw [if_neg]
    rintro ⟨i, hi, he⟩
    have := hσ.1 he
    subst this
    simp at hi
  · intro j
    obtain ⟨i, rfl⟩ := hσ.2 j
    split
    · exact bot_le
    · rename_i hne
      have hik : ¬ i.val < k := fun h => hne ⟨i, h, rfl⟩
      rcases Nat.lt_or_ge k i.val with h | h
      · exact (below s c σ hn hσ hs hst htop k hk i h).le
      · have : i = ⟨k, by omega⟩ := Fin.ext (by simp; omega)
        rw [this]

include hσ hs hst htop in
/-- The weight of the `i`-th of the sorted row. -/
theorem weight_sorted (T : EReal) (i : Fin n) :
    weight T s (σ i) = if i.val < 50 then Ideal.exp ((s (σ i) - s (σ ⟨0, by omega⟩)) * T) else 0 := by
  unfold weight
  have h0 := top_knock s c σ hn hσ hs hst htop 0 (by omega)
  simp only [Function.iterate_zero, id_eq] at h0
  rw [top_knock s c σ hn hσ hs hst htop 49 (by omega), h0]
  rcases Nat.lt_or_ge i.val 50 with h | h
  · rw [if_pos h, if_pos]
    rcases Nat.lt_or_ge i.val 49 with h' | h'
    · exact (below s c σ hn hσ hs hst htop i.val (by omega) ⟨49, by omega⟩ h').le
    · have : i = ⟨49, by omega⟩ := Fin.ext (by simp; omega)
      rw [this]
  · rw [if_neg (not_le.mpr (below s c σ hn hσ hs hst htop 49 (by omega) i (by omega))), if_neg (by omega)]

/-- A sum of the weights against anything is a sum over the 50 that are taken. -/
theorem sum_weight (T : EReal) (g : Fin n → EReal) (hw : ∀ i : Fin n,
      weight T s (σ i) = if i.val < 50 then Ideal.exp ((s (σ i) - s (σ ⟨0, by omega⟩)) * T) else 0) (hσ : Function.Bijective σ) :
    ∑ j, weight T s j * g j
      = ∑ k : Fin 50, Ideal.exp ((s (σ ⟨k.val, by omega⟩) - s (σ ⟨0, by omega⟩)) * T) * g (σ ⟨k.val, by omega⟩) := by
  symm
  refine Fintype.sum_of_injective (fun k : Fin 50 => σ ⟨k.val, by omega⟩) ?_ _ _ ?_ ?_
  · intro a b hab
    have := hσ.1 hab
    exact Fin.ext (by simpa using this)
  · intro j hj
    obtain ⟨i, rfl⟩ := hσ.2 j
    rw [hw, if_neg, zero_mul]
    intro h
    exact hj ⟨⟨i.val, h⟩, rfl⟩
  · intro k
    rw [hw, if_pos (by simp)]

end row

/-- A finite sum of real numbers, read in the extended reals. -/
theorem coe_sum {ι : Type} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- A place among the fifty taken is a place of the row. -/
theorem place {n k : Nat} (hn : 51 ≤ n) (hk : k < 50) : k < n := by omega

/-- So is the next. -/
theorem place_succ {n k : Nat} (hn : 51 ≤ n) (hk : k < 50) : k + 1 < n := by omega

/-- So is the first. -/
theorem place_zero {n : Nat} (hn : 51 ≤ n) : 0 < n := by omega

/-- The kernel's last stage at one output element is the reference's. -/
theorem final {n : Nat} (s : Fin n → EReal) (c : EReal) (σ : Fin n → Fin n) (hn : 51 ≤ n)
    (hσ : Function.Bijective σ)
    (hs : ∀ i j, i ≤ j → s (σ j) + c ≤ s (σ i) + c)
    (hst : ∀ k (hk : k < 50), s (σ ⟨k + 1, place_succ hn hk⟩) + c < s (σ ⟨k, place hn hk⟩) + c)
    (htop : s (σ ⟨0, place_zero hn⟩) + c < ⊤)
    (T p : ℝ) (hT : 0 ≤ T) (g : Fin n → ℝ) :
    (∑ j, weight T s j * (g j : EReal)) * Ideal.div p (∑ j, weight T s j)
      = (∑ k : Fin 50, (g (σ ⟨k.val, place hn k.isLt⟩) : EReal)
          * Ideal.div (Ideal.exp ((s (σ ⟨k.val, place hn k.isLt⟩) + c) * T - top fun k : Fin 50 => (s (σ ⟨k.val, place hn k.isLt⟩) + c) * T))
              (∑ k : Fin 50, Ideal.exp ((s (σ ⟨k.val, place hn k.isLt⟩) + c) * T - top fun k : Fin 50 => (s (σ ⟨k.val, place hn k.isLt⟩) + c) * T))) * p := by
  have hw := weight_sorted s c σ hn hσ hs hst htop (T : EReal)
  have h1 := sum_weight s σ hn (T : EReal) (fun j => (g j : EReal)) hw hσ
  have h2 := sum_weight s σ hn (T : EReal) (fun _ => 1) hw hσ
  simp only [mul_one] at h2
  rw [h1, h2]
  obtain ⟨c', rfl⟩ := bias_real s c σ hn hst htop
  have hreal := taken_real s (c' : EReal) σ hn hs hst htop
  choose a ha using hreal
  have ha' : ∀ k : Fin 50, s (σ ⟨k.val, by omega⟩) = (a k.val k.isLt : EReal) := fun k => ha k.val k.isLt
  have ha0 : s (σ ⟨0, by omega⟩) = (a 0 (by omega) : EReal) := ha 0 (by omega)
  have hmono : ∀ k : Fin 50, a k.val k.isLt ≤ a 0 (by omega) := by
    intro k
    have := hs ⟨0, by omega⟩ ⟨k.val, by omega⟩ (Fin.mk_le_mk.mpr (Nat.zero_le _))
    rw [ha' k, ha0, ← EReal.coe_add, ← EReal.coe_add, EReal.coe_le_coe_iff] at this
    linarith
  have htop' : (top fun k : Fin 50 => (s (σ ⟨k.val, by omega⟩) + (c' : EReal)) * (T : EReal)) = (((a 0 (by omega) + c') * T : ℝ) : EReal) := by
    apply top_eq _ _ ⟨0, by omega⟩
    · simp only
      rw [ha0]; norm_cast
    · intro k
      rw [ha' k, ← EReal.coe_add, ← EReal.coe_mul, EReal.coe_le_coe_iff]
      exact mul_le_mul_of_nonneg_right (by linarith [hmono k]) hT
  rw [htop']
  have e1 : ∀ k : Fin 50, Ideal.exp ((s (σ ⟨k.val, by omega⟩) - s (σ ⟨0, by omega⟩)) * (T : EReal))
      = ((Real.exp ((a k.val k.isLt - a 0 (by omega)) * T) : ℝ) : EReal) := by
    intro k
    rw [ha' k, ha0, ← EReal.coe_sub, ← EReal.coe_mul, Ideal.exp_coe]
  have e2 : ∀ k : Fin 50, Ideal.exp ((s (σ ⟨k.val, by omega⟩) + (c' : EReal)) * (T : EReal) - (((a 0 (by omega) + c') * T : ℝ) : EReal))
      = ((Real.exp ((a k.val k.isLt - a 0 (by omega)) * T) : ℝ) : EReal) := by
    intro k
    rw [ha' k, ← EReal.coe_add, ← EReal.coe_mul, ← EReal.coe_sub, Ideal.exp_coe]
    congr 2; ring
  simp only [e1, e2]
  set E : Fin 50 → ℝ := fun k => Real.exp ((a k.val k.isLt - a 0 (by omega)) * T) with hE
  have hpos : 0 < ∑ k : Fin 50, E k := Finset.sum_pos (fun k _ => Real.exp_pos _) ⟨0, Finset.mem_univ _⟩
  have hsum : ∑ k : Fin 50, ((E k : ℝ) : EReal) = ((∑ k : Fin 50, E k : ℝ) : EReal) := (coe_sum _ _).symm
  have hne : ((∑ k : Fin 50, E k : ℝ) : EReal) ≠ 0 := by
    rw [Ne, EReal.coe_eq_zero]; exact hpos.ne'
  have hdiv : ∀ x : ℝ, Ideal.div (x : EReal) ((∑ k : Fin 50, E k : ℝ) : EReal) = ((x / ∑ k : Fin 50, E k : ℝ) : EReal) := by
    intro x
    unfold Ideal.div
    rw [if_neg hne, ← EReal.coe_inv, ← EReal.coe_mul, div_eq_mul_inv]
  change (∑ k : Fin 50, ((E k : ℝ) : EReal) * _) * Ideal.div _ (∑ k : Fin 50, ((E k : ℝ) : EReal))
    = (∑ k : Fin 50, _ * Ideal.div ((E k : ℝ) : EReal) (∑ k : Fin 50, ((E k : ℝ) : EReal))) * _
  rw [hsum]
  simp only [hdiv, ← EReal.coe_mul]
  rw [← coe_sum, ← coe_sum, ← EReal.coe_mul, ← EReal.coe_mul, EReal.coe_eq_coe_iff]
  rw [Finset.sum_mul, Finset.sum_mul]
  refine Finset.sum_congr rfl fun k _ => ?_
  ring

end Cert.Top

end
-- ==== Proof.FinalValue.lean ====
/- The last kernel's value at an index: the knock-out rounds, the weights, and the ten colour channels. -/
module

public import proofs.«01_k».proof.Proof.Gen.KernelIdeal.Frame
public import proofs.«01_k».proof.Proof.TopMath
public import Idealize.ShloMosaic.Lib.Pointwise
public import Idealize.ShloMosaic.Lib.Pipeline.ValueKit
public import Idealize.ShloMosaic.Lib.IdealHost

@[expose] public section

set_option maxRecDepth 16384

noncomputable section

namespace Cert.FinalValue

open Cert.KernelIdeal Cert.KernelIdeal.Gen
open Idealize.ShloMosaic Idealize.ShloMosaic.TcCoe

/-- A counted loop whose rounds do not look at the counter is an iteration. -/
theorem fold_const {σ : Type} {n : Nat} (f : σ → σ) (init : σ) : Scf.fold (fun (_ : Fin n) a => f a) init = f^[n] init := by
  rw [Scf.fold_eq]
  have h : ∀ (l : List (Fin n)) (a : σ), l.foldl (fun acc _ => f acc) a = f^[l.length] a := by
    intro l
    induction l with
    | nil => intro a; rfl
    | cons k l ih => intro a; rw [List.foldl_cons, ih, List.length_cons, Function.iterate_succ_apply]
  rw [h, List.length_finRange]

/-- The pattern of −∞ is −∞. -/
theorem negInf : Ideal.ofBits .f32 0xFF800000#32 = ⊥ := by
  simp [Ideal.ofBits, Ideal.ieee]

/-- The masking constant is −∞. -/
theorem mask : (Named.named κ "mask" 0xF149F2CA#32 : Ideal .f32) = ⊥ := rfl

/-- One round. -/
theorem round (v : FVec Ideal S4x8192 .f32) (b : Fin 4) (j : Fin 8192) :
    k3_pay4 (F := Ideal) v (ix2 b j) = Top.knock (fun j => v (ix2 b j)) j := by
  unfold Top.knock Top.top
  pointwise [k3_pay4]
  rw [negInf, mask]

/-- The rounds. -/
theorem rounds (n : Nat) (v : FVec Ideal S4x8192 .f32) (b : Fin 4) :
    (fun j : Fin 8192 => (k3_pay4 (F := Ideal))^[n] v (ix2 b j)) = Top.knock^[n] fun j => v (ix2 b j) := by
  induction n generalizing v with
  | zero => rfl
  | succ n ih =>
    rw [Function.iterate_succ, Function.iterate_succ, Function.comp_apply, Function.comp_apply, ih]
    exact congrArg (Top.knock^[n]) (funext fun j => round v b j)

/-- The weights. -/
theorem weights (v : FVec Ideal S4x8192 .f32) (b : Fin 4) (j : Fin 8192) :
    k3_pay5 (F := Ideal) v ((k3_pay4 (F := Ideal))^[49] v) (ix2 b j)
      = Top.weight (Ideal.ofBits .f32 0x41200000#32) (fun j => v (ix2 b j)) j := by
  unfold Top.weight
  rw [← rounds]
  generalize (k3_pay4 (F := Ideal))^[49] v = w
  unfold Top.top
  pointwise [k3_pay5, k3_pay3]
  rw [negInf]

variable (V : (c : Dev nD) → (b : Ref sig .tc) → Buf (Elt Ideal) ((c : Thread nD τ).loc b))

/-- Whether a training colour is the channel's, as a number. -/
def hot (a : BitVec 32) (n : Nat) : EReal := if a = BitVec.ofNat 32 n then 1 else 0

/-- A comparison read as a number. -/
theorem hot_eq (a : BitVec 32) (n : Nat) :
    (FloatOps.sitofp .f32 (BitVec.setWidth 32 (IntOp.cmpi .eq a (BitVec.ofNat 32 n))) : Ideal .f32) = hot a n := by
  unfold hot IntOp.cmpi
  by_cases h : a = BitVec.ofNat 32 n
  · simp [h, FloatOps.sitofp]
  · have e : (a == BitVec.ofNat 32 n) = false := beq_eq_false_iff_ne.2 h
    simp [h, e, FloatOps.sitofp]

/-- One channel's piece at an index of the block. -/
theorem piece (W : FVec Ideal S4x8192 .f32) (S : FVec Ideal S4x1 .f32) (M : IVec S8192x25 32) (D : FVec Ideal S4x10x25 .f32)
    (q : EReal) (a a' : Fin 4) (r r' : Fin 25) (n m : Fin 10) (h0 : a'.val = a.val) (h1 : m.val = n.val) (h2 : r'.val = r.val) :
    (∑ j : Fin 8192, W (ix2 a j) * (FloatOps.sitofp .f32 (BitVec.setWidth 32 (IntOp.cmpi .eq (M (ix2 j r)) (BitVec.ofNat 32 n))) : Ideal .f32))
        * S (ix2 a 0) + q * D (ix3 a n r)
      = (∑ j : Fin 8192, W (ix2 a' j) * hot (M (ix2 j r')) m) * S (ix2 a' 0) + q * D (ix3 a' m r') := by
  obtain rfl := Fin.ext h0
  obtain rfl := Fin.ext h1
  obtain rfl := Fin.ext h2
  simp only [hot_eq]

/-- The weights replaced by equal ones. -/
theorem combine (w w' : Fin 8192 → EReal) (h : ∀ j, w j = w' j) (s p : EReal) (hs : s = Ideal.div p (∑ j, w j))
    (g : Fin 8192 → EReal) (d : EReal) :
    (∑ j, w j * g j) * s + d = (∑ j, w' j * g j) * Ideal.div p (∑ j, w' j) + d := by
  obtain rfl := funext h
  rw [hs]

set_option maxHeartbeats 2000000 in
/-- The last call's block: the weights' sums over the rows of one colour, divided by the weights' sum, and the
  decoder's share. -/
theorem fin (c : Dev nD) (t : Fin cfg3.N) (y : S4x10x25.Idx) : outsAt3 (F := Ideal) V c t y
    = (∑ j : Fin 8192, Top.weight (Ideal.ofBits .f32 0x41200000#32) (fun j => (iblk3 V c 0 t : FVec Ideal S4x8192 .f32) (ix2 (y 0) j)) j
          * hot ((iblk3 V c 1 t : IVec S8192x25 32) (ix2 j (y 2))) (y 1))
        * Ideal.div (Ideal.ofBits .f32 0x3F4CCCCD#32)
            (∑ j : Fin 8192, Top.weight (Ideal.ofBits .f32 0x41200000#32) (fun j => (iblk3 V c 0 t : FVec Ideal S4x8192 .f32) (ix2 (y 0) j)) j)
      + Ideal.ofBits .f32 0x3E4CCCCD#32 * (iblk3 V c 2 t : FVec Ideal S4x10x25 .f32) y := by
  have hw := weights (iblk3 V c 0 t : FVec Ideal S4x8192 .f32)
  unfold outsAt3
  frame_out
  have e0 : View.read (Elt Ideal) (View.whole cc3_stg0_0) ((hs3_0 t).unread (iblk3 V c 0 t)) = iblk3 V c 0 t := (hs3_0 t).read_unread _
  have e1 : View.read (Elt Ideal) (View.whole cc3_stg1_0) ((hs3_1 t).unread (iblk3 V c 1 t)) = iblk3 V c 1 t := (hs3_1 t).read_unread _
  have e2 : View.read (Elt Ideal) (View.whole cc3_stg2_0) ((hs3_2 t).unread (iblk3 V c 2 t)) = iblk3 V c 2 t := (hs3_2 t).read_unread _
  have e3 : k3_pay3 (F := Ideal) (iblk3 V c 0 t) = iblk3 V c 0 t := by
    funext j; pointwise [k3_pay3]
  have e4 : k3_pay7 (F := Ideal) (iblk3 V c 1 t) = iblk3 V c 1 t := by
    funext j; pointwise [k3_pay7]
  have ht : k3_t1_loop.trips = 49 := by decide +kernel
  simp only [e0, e1, e2, fold_const, e3, e4, ht]
  unfold k3_pay8
  simp only [e4]
  have h6 : ∀ b : Fin 4, k3_pay6 (F := Ideal) (iblk3 V c 0 t) ((k3_pay4 (F := Ideal))^[49] (iblk3 V c 0 t)) (ix2 b 0)
      = Ideal.div (Ideal.ofBits .f32 0x3F4CCCCD#32)
          (∑ j : Fin 8192, k3_pay5 (F := Ideal) (iblk3 V c 0 t) ((k3_pay4 (F := Ideal))^[49] (iblk3 V c 0 t)) (ix2 b j)) := by
    intro b
    pointwise [k3_pay6]
  refine Eq.trans (b := (∑ j : Fin 8192, k3_pay5 (F := Ideal) (iblk3 V c 0 t) ((k3_pay4 (F := Ideal))^[49] (iblk3 V c 0 t)) (ix2 (y 0) j)
          * hot ((iblk3 V c 1 t : IVec S8192x25 32) (ix2 j (y 2))) (y 1))
        * k3_pay6 (F := Ideal) (iblk3 V c 0 t) ((k3_pay4 (F := Ideal))^[49] (iblk3 V c 0 t)) (ix2 (y 0) 0)
      + Ideal.ofBits .f32 0x3E4CCCCD#32 * (iblk3 V c 2 t : FVec Ideal S4x10x25 .f32) y) ?_ ?_
  swap
  · exact combine (fun j => k3_pay5 (F := Ideal) (iblk3 V c 0 t) ((k3_pay4 (F := Ideal))^[49] (iblk3 V c 0 t)) (ix2 (y 0) j)) _
      (fun j => hw (y 0) j) _ _ (h6 (y 0)) _ _
  clear hw h6 e0 e1 e2 e3 e4 ht
  generalize k3_pay6 (F := Ideal) (iblk3 V c 0 t) ((k3_pay4 (F := Ideal))^[49] (iblk3 V c 0 t)) = S
  generalize k3_pay5 (F := Ideal) (iblk3 V c 0 t) ((k3_pay4 (F := Ideal))^[49] (iblk3 V c 0 t)) = W
  canon_tiles x h
  all_goals pointwise [k3_pay1, k3_pay2, k3_pay9, k3_pay10, k3_pay11, k3_pay12, k3_pay13, k3_pay14, k3_pay15, k3_pay16, k3_pay17, k3_pay18]
  case piece0 => exact (piece W S _ _ _ (x 0) (y 0) (x 2) (y 2) 9 (y 1) h0 (by show (y 1).val = 9; omega) h2).trans (congrArg (fun z => _ + Ideal.ofBits .f32 0x3E4CCCCD#32 * (iblk3 V c 2 t : FVec Ideal S4x10x25 .f32) z) (eq_ix3 y).symm)
  case piece1 => exact (piece W S _ _ _ (x 0) (y 0) (x 2) (y 2) 8 (y 1) h0 (by show (y 1).val = 8; omega) h2).trans (congrArg (fun z => _ + Ideal.ofBits .f32 0x3E4CCCCD#32 * (iblk3 V c 2 t : FVec Ideal S4x10x25 .f32) z) (eq_ix3 y).symm)
  case piece2 => exact (piece W S _ _ _ (x 0) (y 0) (x 2) (y 2) 7 (y 1) h0 (by show (y 1).val = 7; omega) h2).trans (congrArg (fun z => _ + Ideal.ofBits .f32 0x3E4CCCCD#32 * (iblk3 V c 2 t : FVec Ideal S4x10x25 .f32) z) (eq_ix3 y).symm)
  case piece3 => exact (piece W S _ _ _ (x 0) (y 0) (x 2) (y 2) 6 (y 1) h0 (by show (y 1).val = 6; omega) h2).trans (congrArg (fun z => _ + Ideal.ofBits .f32 0x3E4CCCCD#32 * (iblk3 V c 2 t : FVec Ideal S4x10x25 .f32) z) (eq_ix3 y).symm)
  case piece4 => exact (piece W S _ _ _ (x 0) (y 0) (x 2) (y 2) 5 (y 1) h0 (by show (y 1).val = 5; omega) h2).trans (congrArg (fun z => _ + Ideal.ofBits .f32 0x3E4CCCCD#32 * (iblk3 V c 2 t : FVec Ideal S4x10x25 .f32) z) (eq_ix3 y).symm)
  case piece5 => exact (piece W S _ _ _ (x 0) (y 0) (x 2) (y 2) 4 (y 1) h0 (by show (y 1).val = 4; omega) h2).trans (congrArg (fun z => _ + Ideal.ofBits .f32 0x3E4CCCCD#32 * (iblk3 V c 2 t : FVec Ideal S4x10x25 .f32) z) (eq_ix3 y).symm)
  case piece6 => exact (piece W S _ _ _ (x 0) (y 0) (x 2) (y 2) 3 (y 1) h0 (by show (y 1).val = 3; omega) h2).trans (congrArg (fun z => _ + Ideal.ofBits .f32 0x3E4CCCCD#32 * (iblk3 V c 2 t : FVec Ideal S4x10x25 .f32) z) (eq_ix3 y).symm)
  case piece7 => exact (piece W S _ _ _ (x 0) (y 0) (x 2) (y 2) 2 (y 1) h0 (by show (y 1).val = 2; omega) h2).trans (congrArg (fun z => _ + Ideal.ofBits .f32 0x3E4CCCCD#32 * (iblk3 V c 2 t : FVec Ideal S4x10x25 .f32) z) (eq_ix3 y).symm)
  case piece8 => exact (piece W S _ _ _ (x 0) (y 0) (x 2) (y 2) 1 (y 1) h0 (by show (y 1).val = 1; omega) h2).trans (congrArg (fun z => _ + Ideal.ofBits .f32 0x3E4CCCCD#32 * (iblk3 V c 2 t : FVec Ideal S4x10x25 .f32) z) (eq_ix3 y).symm)
  case piece9 => exact (piece W S _ _ _ (x 0) (y 0) (x 2) (y 2) 0 (y 1) h0 (by show (y 1).val = 0; omega) h2).trans (congrArg (fun z => _ + Ideal.ofBits .f32 0x3E4CCCCD#32 * (iblk3 V c 2 t : FVec Ideal S4x10x25 .f32) z) (eq_ix3 y).symm)

end Cert.FinalValue

end
-- ==== Proof.Regions.lean ====
/- What each pipelined call leaves in its result array, as a function of the arrays it stages. -/
module

public import proofs.«01_k».proof.Proof.HeadSims
public import proofs.«01_k».proof.Proof.FinalValue

@[expose] public section

set_option maxRecDepth 16384

noncomputable section

namespace Cert.Regions

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Call 0's blocks lie at the origin. -/
theorem idx0 : ∀ t : Fin cfg0.N, win0_0.index t = ![0, 0] ∧ win0_1.index t = ![0, 0, 0] ∧ win0_2.index t = ![0, 0, 0] ∧ win0_3.index t = ![0, 0] ∧ win0_4.index t = ![0, 0, 0] ∧ win0_5.index t = ![0, 0] ∧ win0_6.index t = ![0, 0, 0] ∧ win0_7.index t = ![0, 0] ∧ win0_8.index t = ![0, 0, 0] ∧ win0_9.index t = ![0, 0] ∧ win0_10.index t = ![0, 0, 0] ∧ win0_11.index t = ![0, 0] :=
  (by decide +kernel : ∀ t : Fin grid0.N, _)

/-- Call 1's blocks lie at the origin. -/
theorem idx1 : ∀ t : Fin cfg1.N, win1_0.index t = ![0, 0] ∧ win1_1.index t = ![0, 0] ∧ win1_2.index t = ![0, 0] ∧ win1_3.index t = ![0, 0] ∧ win1_4.index t = ![0, 0] :=
  (by decide +kernel : ∀ t : Fin grid1.N, _)

/-- Call 3's blocks lie at the origin. -/
theorem idx3 : ∀ t : Fin cfg3.N, win3_0.index t = ![0, 0] ∧ win3_1.index t = ![0, 0] ∧ win3_2.index t = ![0, 0, 0] :=
  (by decide +kernel : ∀ t : Fin grid3.N, _)

/-- Call 0's operand 0 is staged whole. -/
theorem blk0_0 (c : Dev nD) : iblk0 V c 0 t0_0 = V c main_v2 := by
  funext j; blk_ext [iblk0, idx0 t0_0]

/-- Call 0's operand 1 is staged whole. -/
theorem blk0_1 (c : Dev nD) : iblk0 V c 1 t0_0 = V c main_cst := by
  funext j; blk_ext [iblk0, idx0 t0_0]

/-- Call 0's operand 2 is staged whole. -/
theorem blk0_2 (c : Dev nD) : iblk0 V c 2 t0_0 = V c main_cst_0 := by
  funext j; blk_ext [iblk0, idx0 t0_0]

/-- Call 0's operand 3 is staged whole. -/
theorem blk0_3 (c : Dev nD) : iblk0 V c 3 t0_0 = V c main_v4 := by
  funext j; blk_ext [iblk0, idx0 t0_0]

/-- Call 0's operand 4 is staged whole. -/
theorem blk0_4 (c : Dev nD) : iblk0 V c 4 t0_0 = V c main_v6 := by
  funext j; blk_ext [iblk0, idx0 t0_0]

/-- Call 0's operand 5 is staged whole. -/
theorem blk0_5 (c : Dev nD) : iblk0 V c 5 t0_0 = V c main_v7 := by
  funext j; blk_ext [iblk0, idx0 t0_0]

/-- Call 0's operand 6 is staged whole. -/
theorem blk0_6 (c : Dev nD) : iblk0 V c 6 t0_0 = V c main_v9 := by
  funext j; blk_ext [iblk0, idx0 t0_0]

/-- Call 0's operand 7 is staged whole. -/
theorem blk0_7 (c : Dev nD) : iblk0 V c 7 t0_0 = V c main_v10 := by
  funext j; blk_ext [iblk0, idx0 t0_0]

/-- Call 0's operand 8 is staged whole. -/
theorem blk0_8 (c : Dev nD) : iblk0 V c 8 t0_0 = V c main_v12 := by
  funext j; blk_ext [iblk0, idx0 t0_0]

/-- Call 0's operand 9 is staged whole. -/
theorem blk0_9 (c : Dev nD) : iblk0 V c 9 t0_0 = V c main_v13 := by
  funext j; blk_ext [iblk0, idx0 t0_0]

/-- Call 0's operand 10 is staged whole. -/
theorem blk0_10 (c : Dev nD) : iblk0 V c 10 t0_0 = V c main_v15 := by
  funext j; blk_ext [iblk0, idx0 t0_0]

/-- Call 0's operand 11 is staged whole. -/
theorem blk0_11 (c : Dev nD) : iblk0 V c 11 t0_0 = V c main_v16 := by
  funext j; blk_ext [iblk0, idx0 t0_0]

/-- The encoder's call. -/
theorem region0 (c : Dev nD) : (dat0 (F := Ideal) V c).arrAt 12 cfg0.N
    = out0_12 (F := Ideal) (V c main_v2) (V c main_cst) (V c main_cst_0) (V c main_v4) (V c main_v6) (V c main_v7) (V c main_v9)
        (V c main_v10) (V c main_v12) (V c main_v13) (V c main_v15) (V c main_v16) := by
  refine (dat0 V c).arrAt_eq_of_after_last 12 t0_0 (by decide +kernel) _ fun j => ?_
  blk_simp
  rw [after0_12]
  rw [blk0_0 V c, blk0_1 V c, blk0_2 V c, blk0_3 V c, blk0_4 V c, blk0_5 V c, blk0_6 V c, blk0_7 V c, blk0_8 V c, blk0_9 V c, blk0_10 V c, blk0_11 V c]

/-- Call 1's operand 0 is staged whole. -/
theorem blk1_0 (c : Dev nD) : iblk1 V c 0 t1_0 = V c main_v20 := by
  funext j; blk_ext [iblk1, idx1 t1_0]

/-- Call 1's operand 1 is staged whole. -/
theorem blk1_1 (c : Dev nD) : iblk1 V c 1 t1_0 = V c main_arg15 := by
  funext j; blk_ext [iblk1, idx1 t1_0]

/-- Call 1's operand 2 is staged whole. -/
theorem blk1_2 (c : Dev nD) : iblk1 V c 2 t1_0 = V c main_v23 := by
  funext j; blk_ext [iblk1, idx1 t1_0]

/-- Call 1's operand 3 is staged whole. -/
theorem blk1_3 (c : Dev nD) : iblk1 V c 3 t1_0 = V c main_arg17 := by
  funext j; blk_ext [iblk1, idx1 t1_0]

/-- Call 1's operand 4 is staged whole. -/
theorem blk1_4 (c : Dev nD) : iblk1 V c 4 t1_0 = V c main_v24 := by
  funext j; blk_ext [iblk1, idx1 t1_0]

/-- The head's call. -/
theorem region1 (c : Dev nD) : (dat1 (F := Ideal) V c).arrAt 5 cfg1.N
    = out1_5 (F := Ideal) (V c main_v20) (V c main_arg15) (V c main_v23) (V c main_arg17) (V c main_v24) := by
  refine (dat1 V c).arrAt_eq_of_after_last 5 t1_0 (by decide +kernel) _ fun j => ?_
  blk_simp
  rw [after1_5]
  rw [blk1_0 V c, blk1_1 V c, blk1_2 V c, blk1_3 V c, blk1_4 V c]

/-- The last call's result as a function of the similarities, the training outputs and the decoder's output. -/
def mixed (S : FVec Ideal S4x8192 .f32) (M : IVec S8192x25 32) (D : FVec Ideal S4x10x25 .f32) : FVec Ideal S4x10x25 .f32 := fun y =>
  (∑ j : Fin 8192, Top.weight (Ideal.ofBits .f32 0x41200000#32) (fun j => S (ix2 (y 0) j)) j * FinalValue.hot (M (ix2 j (y 2))) (y 1))
      * Ideal.div (Ideal.ofBits .f32 0x3F4CCCCD#32)
          (∑ j : Fin 8192, Top.weight (Ideal.ofBits .f32 0x41200000#32) (fun j => S (ix2 (y 0) j)) j)
    + Ideal.ofBits .f32 0x3E4CCCCD#32 * D y

/-- The similarity call's result as a function of the training inputs, the first layer's matrix, the queries' share, and the
  layers' parameters: element `(t, b, l)` is the similarity of training input `512 t + l`. -/
def similar (X : FVec Ideal S8192x4608 .f32) (W : FVec Ideal S9216x512 .f32) (Q : FVec Ideal S4x512 .f32) (b1 : FVec Ideal S1x512 .f32)
    (W2 : FVec Ideal S512x256 .f32) (b2 w3 : FVec Ideal S1x256 .f32) : FVec Ideal S16x4x512 .f32 := fun y =>
  ∑ k : Fin 256, max ((∑ j : Fin 512, max ((∑ d : Fin 4608,
      X (ix2 ⟨512 * (y 0).val + (y 2).val, by idx_bounds; omega⟩ d) * W (ix2 ⟨4608 + d.val, by omega⟩ j))
      + Q (ix2 (y 1) j) + b1 (ix2 0 j)) 0 * W2 (ix2 j k)) + b2 (ix2 0 k)) 0 * w3 (ix2 0 k)

/-- The windows' index maps of the similarity call. -/
theorem idx : ∀ t : Fin cfg2.N, win2_0.index t = ![t.val, 0] ∧ win2_1.index t = ![1, 0] ∧ win2_2.index t = ![0, 0]
    ∧ win2_3.index t = ![0, 0] ∧ win2_4.index t = ![0, 0] ∧ win2_5.index t = ![0, 0] ∧ win2_6.index t = ![0, 0]
    ∧ win2_7.index t = ![t.val, 0, 0] :=
  (by decide +kernel : ∀ t : Fin grid2.N, _)

/-- Call 3's operand 0 is staged whole. -/
theorem blk3_0 (c : Dev nD) : iblk3 V c 0 t3_0 = V c main_v31 := by
  funext j; blk_ext [iblk3, idx3 t3_0]

/-- Call 3's operand 1 is staged whole. -/
theorem blk3_1 (c : Dev nD) : iblk3 V c 1 t3_0 = V c main_v32 := by
  funext j; blk_ext [iblk3, idx3 t3_0]

/-- Call 3's operand 2 is staged whole. -/
theorem blk3_2 (c : Dev nD) : iblk3 V c 2 t3_0 = V c main_v33 := by
  funext j; blk_ext [iblk3, idx3 t3_0]

/-- The last call. -/
theorem region3 (c : Dev nD) : (dat3 (F := Ideal) V c).arrAt 3 cfg3.N = mixed (V c main_v31) (V c main_v32) (V c main_v33) := by
  refine (dat3 V c).arrAt_eq_of_after_last 3 t3_0 (by decide +kernel) _ fun j => ?_
  blk_simp
  rw [after3_3, FinalValue.fin]
  rw [blk3_0 V c, blk3_1 V c, blk3_2 V c]
  rfl

/-- The similarity call. -/
theorem region2 (c : Dev nD) : (dat2 (F := Ideal) V c).arrAt 7 cfg2.N
    = similar (V c main_arg19) (V c main_arg9) (V c main_v22) (V c main_v26) (V c main_arg11) (V c main_v27) (V c main_v28) := by
  refine (dat2 V c).arrAt_eq_of_covers 7 _ (by decide +kernel) fun t _ y => ?_
  blk_simp
  rw [after2_7]
  refine (HeadSims.sims _ _ _ _ _ _ _ y).trans ?_
  unfold similar
  blk_point [iblk2, idx t]

end Cert.Regions

end
-- ==== Proof.HostReads.lean ====
/- What the operations between the pipelined calls compute, at an index. -/
module

public import proofs.«01_k».proof.Proof.Gen.KernelIdeal.Frame
public import Idealize.ShloMosaic.Lib.Pointwise
public import Idealize.ShloMosaic.Lib.Pipeline.ValueKit
public import Idealize.ShloMosaic.Lib.IdealHost
public import Idealize.ShloMosaic.Lib.StableHlo.RunRead
public import Idealize.ShloMosaic.Lib.StableHlo.ReadAt

@[expose] public section

set_option maxRecDepth 16384

noncomputable section

namespace Cert.HostReads

open Cert.KernelIdeal Cert.KernelIdeal.Gen
open Idealize.ShloMosaic Idealize.ShloMosaic.TcCoe

variable (V : Valuation τ sig (Elt Ideal))

/-- The inputs' rows. -/
theorem v2 (r : Fin 100) (c : Fin 10) : (StableHlo.after hostOps0 V (Proc.devRef .tc main_v2) : FVec Ideal S100x10 .f32) (ix2 r c)
    = (V (Proc.devRef .tc main_arg0) : FVec Ideal S4x10x5x5 .f32) (ix4 ⟨r.val / 25, by omega⟩ c ⟨r.val / 5 % 5, by omega⟩ ⟨r.val % 5, by omega⟩) := by
  after_reads_at

/-- The first layer's shift matrices. -/
theorem cst (i : S9x100x100.Idx) : (StableHlo.after hostOps0 V (Proc.devRef .tc main_cst) : FVec Ideal S9x100x100 .f32) i
    = FloatOps.ofBits (F := Ideal) .f32 (lit0 (S9x100x100.rowMajor i)) := by
  after_reads_simp

/-- The last layer's shift matrices. -/
theorem cst_0 (i : S9x36x36.Idx) : (StableHlo.after hostOps0 V (Proc.devRef .tc main_cst_0) : FVec Ideal S9x36x36 .f32) i
    = FloatOps.ofBits (F := Ideal) .f32 (lit1 (S9x36x36.rowMajor i)) := by
  after_reads_simp

/-- The pooling matrix. -/
theorem v4 (r : Fin 36) (p : Fin 100) : (StableHlo.after hostOps0 V (Proc.devRef .tc main_v4) : FVec Ideal S36x100 .f32) (ix2 r p)
    = Ideal.div (FloatOps.ofBits (F := Ideal) .f32 (lit2 (S36x100.rowMajor (ix2 r p)))) (FloatOps.ofBits (F := Ideal) .f32 (lit3 (S36.rowMajor (ix1 r)))) := by
  after_reads_at

/-- The first layer's taps. -/
theorem v6 (t : Fin 9) (c : Fin 10) (o : Fin 64) : (StableHlo.after hostOps0 V (Proc.devRef .tc main_v6) : FVec Ideal S9x10x64 .f32) (ix3 t c o)
    = (V (Proc.devRef .tc main_arg1) : FVec Ideal S64x10x3x3 .f32) (ix4 o c ⟨t.val / 3, by omega⟩ ⟨t.val % 3, by omega⟩) := by
  after_reads_at

/-- The first layer's bias. -/
theorem v7 (o : Fin 64) : (StableHlo.after hostOps0 V (Proc.devRef .tc main_v7) : FVec Ideal S1x64 .f32) (ix2 0 o)
    = (V (Proc.devRef .tc main_arg2) : FVec Ideal S64 .f32) (ix1 o) := by
  after_reads_at

/-- The second layer's taps. -/
theorem v9 (t : Fin 9) (c : Fin 64) (o : Fin 128) : (StableHlo.after hostOps0 V (Proc.devRef .tc main_v9) : FVec Ideal S9x64x128 .f32) (ix3 t c o)
    = (V (Proc.devRef .tc main_arg3) : FVec Ideal S128x64x3x3 .f32) (ix4 o c ⟨t.val / 3, by omega⟩ ⟨t.val % 3, by omega⟩) := by
  after_reads_at

/-- The second layer's bias. -/
theorem v10 (o : Fin 128) : (StableHlo.after hostOps0 V (Proc.devRef .tc main_v10) : FVec Ideal S1x128 .f32) (ix2 0 o)
    = (V (Proc.devRef .tc main_arg4) : FVec Ideal S128 .f32) (ix1 o) := by
  after_reads_at

/-- The third layer's taps. -/
theorem v12 (t : Fin 9) (c : Fin 128) (o : Fin 256) : (StableHlo.after hostOps0 V (Proc.devRef .tc main_v12) : FVec Ideal S9x128x256 .f32) (ix3 t c o)
    = (V (Proc.devRef .tc main_arg5) : FVec Ideal S256x128x3x3 .f32) (ix4 o c ⟨t.val / 3, by omega⟩ ⟨t.val % 3, by omega⟩) := by
  after_reads_at

/-- The third layer's bias. -/
theorem v13 (o : Fin 256) : (StableHlo.after hostOps0 V (Proc.devRef .tc main_v13) : FVec Ideal S1x256 .f32) (ix2 0 o)
    = (V (Proc.devRef .tc main_arg6) : FVec Ideal S256 .f32) (ix1 o) := by
  after_reads_at

/-- The fourth layer's taps. -/
theorem v15 (t : Fin 9) (c : Fin 256) (o : Fin 512) : (StableHlo.after hostOps0 V (Proc.devRef .tc main_v15) : FVec Ideal S9x256x512 .f32) (ix3 t c o)
    = (V (Proc.devRef .tc main_arg7) : FVec Ideal S512x256x3x3 .f32) (ix4 o c ⟨t.val / 3, by omega⟩ ⟨t.val % 3, by omega⟩) := by
  after_reads_at

/-- The fourth layer's bias. -/
theorem v16 (o : Fin 512) : (StableHlo.after hostOps0 V (Proc.devRef .tc main_v16) : FVec Ideal S1x512 .f32) (ix2 0 o)
    = (V (Proc.devRef .tc main_arg8) : FVec Ideal S512 .f32) (ix1 o) := by
  after_reads_at

/-- A bias as a row. -/
theorem v23 (o : Fin 512) : (StableHlo.after hostOps1 V (Proc.devRef .tc main_v23) : FVec Ideal S1x512 .f32) (ix2 0 o)
    = (V (Proc.devRef .tc main_arg16) : FVec Ideal S512 .f32) (ix1 o) := by
  after_reads_at

/-- A bias as a row. -/
theorem v24 (o : Fin 250) : (StableHlo.after hostOps1 V (Proc.devRef .tc main_v24) : FVec Ideal S1x250 .f32) (ix2 0 o)
    = (V (Proc.devRef .tc main_arg18) : FVec Ideal S250 .f32) (ix1 o) := by
  after_reads_at

/-- A bias as a row. -/
theorem v26 (o : Fin 512) : (StableHlo.after hostOps2 V (Proc.devRef .tc main_v26) : FVec Ideal S1x512 .f32) (ix2 0 o)
    = (V (Proc.devRef .tc main_arg10) : FVec Ideal S512 .f32) (ix1 o) := by
  after_reads_at

/-- A bias as a row. -/
theorem v27 (o : Fin 256) : (StableHlo.after hostOps2 V (Proc.devRef .tc main_v27) : FVec Ideal S1x256 .f32) (ix2 0 o)
    = (V (Proc.devRef .tc main_arg12) : FVec Ideal S256 .f32) (ix1 o) := by
  after_reads_at

/-- The last layer's matrix as a row. -/
theorem v28 (k : Fin 256) : (StableHlo.after hostOps2 V (Proc.devRef .tc main_v28) : FVec Ideal S1x256 .f32) (ix2 0 k)
    = (V (Proc.devRef .tc main_arg13) : FVec Ideal S256x1 .f32) (ix2 k 0) := by
  after_reads_at

/-- The features in the reference's order. -/
theorem v20 (b : Fin 4) (d : Fin 4608) : (StableHlo.after hostOps1 V (Proc.devRef .tc main_v20) : FVec Ideal S4x4608 .f32) (ix2 b d)
    = (V (Proc.devRef .tc main_v17) : FVec Ideal S36x512 .f32) (ix2 ⟨b.val * 9 + d.val % 9, by omega⟩ ⟨d.val / 9, by omega⟩) := by
  after_reads_at

/-- The queries' share of the first layer. -/
theorem v22 (X : FVec Ideal S36x512 .f32) (W : FVec Ideal S9216x512 .f32) (hX : V (Proc.devRef .tc main_v17) = X)
    (hW : V (Proc.devRef .tc main_arg9) = W) (b : Fin 4) (j : Fin 512) : (StableHlo.after hostOps1 V (Proc.devRef .tc main_v22) : FVec Ideal S4x512 .f32) (ix2 b j)
    = ∑ d : Fin 4608, X (ix2 ⟨b.val * 9 + d.val % 9, by omega⟩ ⟨d.val / 9, by omega⟩)
      * W (ix2 ⟨d.val, by omega⟩ j) := by
  subst hX hW
  after_reads_at

/-- The similarities' rows. -/
theorem v31 (b : Fin 4) (j : Fin 8192) : (StableHlo.after hostOps3 V (Proc.devRef .tc main_v31) : FVec Ideal S4x8192 .f32) (ix2 b j)
    = (V (Proc.devRef .tc main_v29) : FVec Ideal S16x4x512 .f32) (ix3 ⟨j.val / 512, by omega⟩ b ⟨j.val % 512, by omega⟩) := by
  after_reads_at

/-- The training outputs, flat. -/
theorem v32 (j : Fin 8192) (r : Fin 25) : (StableHlo.after hostOps3 V (Proc.devRef .tc main_v32) : IVec S8192x25 32) (ix2 j r)
    = (V (Proc.devRef .tc main_arg20) : IVec S8192x5x5 32) (ix3 j ⟨r.val / 5, by omega⟩ ⟨r.val % 5, by omega⟩) := by
  after_reads_at

/-- The decoder's output by channel. -/
theorem v33 (b : Fin 4) (k : Fin 10) (r : Fin 25) : (StableHlo.after hostOps3 V (Proc.devRef .tc main_v33) : FVec Ideal S4x10x25 .f32) (ix3 b k r)
    = (V (Proc.devRef .tc main_v25) : FVec Ideal S4x250 .f32) (ix2 b ⟨k.val * 25 + r.val, by omega⟩) := by
  after_reads_at

/-- The result. -/
theorem v35 (b : Fin 4) (k : Fin 10) (y x : Fin 5) : (StableHlo.after hostOps4 V (Proc.devRef .tc main_v35) : FVec Ideal S4x10x5x5 .f32) (ix4 b k y x)
    = (V (Proc.devRef .tc main_v34) : FVec Ideal S4x10x25 .f32) (ix3 b k ⟨y.val * 5 + x.val, by omega⟩) := by
  after_reads_at

end Cert.HostReads

end
-- ==== Proof.Tables.lean ====
/- The kernel's constant tables, read entry by entry: the nine shift matrices at either size, the pooling mask and the
   window sizes. -/
module

public import proofs.«01_k».proof.KernelIdeal
public import proofs.«01_k».proof.Proof.ConvMath
public import Idealize.ShloMosaic.Lib.Pointwise
public import Idealize.ShloMosaic.Lib.IdealHost
public import Idealize.ShloMosaic.Init

@[expose] public section

set_option maxRecDepth 65536
set_option maxHeartbeats 0

noncomputable section

namespace Cert.Tables

open Idealize.ShloMosaic Cert.KernelIdeal

/-- Tap `t`'s shift matrix on the 5×5 images. -/
theorem lit0_eq (t : Fin 9) : ∀ r p : Fin 100,
    lit0t ((t.val * 100 + r.val) * 100 + p.val) = if Cert.Conv.taken 5 t.val r.val p.val then 0x3F800000#32 else 0#32 := by
  match t with
  | 0 | 1 | 2 | 3 | 4 | 5 | 6 | 7 | 8 => decide +kernel

/-- Tap `t`'s shift matrix on the 3×3 images. -/
theorem lit1_eq (t : Fin 9) : ∀ r p : Fin 36,
    lit1t ((t.val * 36 + r.val) * 36 + p.val) = if Cert.Conv.taken 3 t.val r.val p.val then 0x3F800000#32 else 0#32 := by
  match t with
  | 0 | 1 | 2 | 3 | 4 | 5 | 6 | 7 | 8 => decide +kernel

/-- The pooling mask's entries. -/
theorem lit2_all : ∀ (r : Fin 36) (q : Fin 100), lit2t (r.val * 100 + q.val) = if Cert.Conv.inWindow r.val q.val then 0x3F800000#32 else 0#32 := by
  decide +kernel

/-- The words of the tables, as numbers. -/
theorem one_zero (c : Bool) : FloatOps.ofBits (F := Ideal) .f32 (if c then 0x3F800000#32 else 0#32) = if c then (1 : EReal) else 0 := by
  cases c
  · exact Ideal.ofBits_zero_f32
  · exact Ideal.ofBits_one_f32

/-- The shift matrices on the 5×5 images, as numbers. -/
theorem shift5 (t : Fin 9) (r p : Fin 100) :
    FloatOps.ofBits (F := Ideal) .f32 (lit0 (S9x100x100.rowMajor (ix3 t r p))) = if Cert.Conv.taken 5 t.val r.val p.val then (1 : EReal) else 0 := by
  rw [← one_zero, ← lit0_eq]
  congr 1
  show lit0t (S9x100x100.rowMajor (ix3 t r p)).val = _
  congr 1
  rw [Idealize.ShloMosaic.rowMajor_val3 _ 10000 100 rfl rfl]
  simp only [ix3]
  show t.val * 10000 + r.val * 100 + p.val = _
  omega

/-- The shift matrices on the 3×3 images, as numbers. -/
theorem shift3 (t : Fin 9) (r p : Fin 36) :
    FloatOps.ofBits (F := Ideal) .f32 (lit1 (S9x36x36.rowMajor (ix3 t r p))) = if Cert.Conv.taken 3 t.val r.val p.val then (1 : EReal) else 0 := by
  rw [← one_zero, ← lit1_eq]
  congr 1
  show lit1t (S9x36x36.rowMajor (ix3 t r p)).val = _
  congr 1
  rw [Idealize.ShloMosaic.rowMajor_val3 _ 1296 36 rfl rfl]
  simp only [ix3]
  show t.val * 1296 + r.val * 36 + p.val = _
  omega

/-- The pooling mask, as numbers. -/
theorem mask (r : Fin 36) (p : Fin 100) :
    FloatOps.ofBits (F := Ideal) .f32 (lit2 (S36x100.rowMajor (ix2 r p))) = if Cert.Conv.inWindow r.val p.val then (1 : EReal) else 0 := by
  rw [← one_zero, ← lit2_all r p]
  congr 1
  show lit2t (S36x100.rowMajor (ix2 r p)).val = _
  congr 1
  rw [Idealize.ShloMosaic.rowMajor_val2 _ 100 rfl]
  rfl

/-- The number of positions in a pooling window. -/
def size (i j : Nat) : Nat := (Cert.Conv.last i - Cert.Conv.first i) * (Cert.Conv.last j - Cert.Conv.first j)

/-- The word of 4. -/
theorem four : FloatOps.ofBits (F := Ideal) .f32 0x40800000#32 = ((4 : ℝ) : EReal) := by
  show Ideal.ofBits .f32 _ = _
  simp [Ideal.ofBits, Ideal.ieee, -EReal.coe_mul]; norm_num
/-- The word of 6. -/
theorem six : FloatOps.ofBits (F := Ideal) .f32 0x40C00000#32 = ((6 : ℝ) : EReal) := by
  show Ideal.ofBits .f32 _ = _
  simp [Ideal.ofBits, Ideal.ieee, -EReal.coe_mul]; norm_num
/-- The word of 9. -/
theorem nine : FloatOps.ofBits (F := Ideal) .f32 0x41100000#32 = ((9 : ℝ) : EReal) := by
  show Ideal.ofBits .f32 _ = _
  simp [Ideal.ofBits, Ideal.ieee, -EReal.coe_mul]; norm_num
/-- The word of 10. -/
theorem ten : FloatOps.ofBits (F := Ideal) .f32 0x41200000#32 = ((10 : ℝ) : EReal) := by
  show Ideal.ofBits .f32 _ = _
  simp [Ideal.ofBits, Ideal.ieee, -EReal.coe_mul]; norm_num
/-- The weight of the retrieved memory is a real number. -/
theorem weight_real : FloatOps.ofBits (F := Ideal) .f32 0x3F4CCCCD#32 = ((13421773 / 16777216 : ℝ) : EReal) := by
  show Ideal.ofBits .f32 _ = _
  simp [Ideal.ofBits, Ideal.ieee, -EReal.coe_mul]; norm_num

/-- The words of the table of window sizes. -/
theorem lit3_word : ∀ (b : Fin 4) (i j : Fin 3), lit3 ⟨Cert.Conv.row 3 b i j, Cert.Conv.row_lt b i j⟩
    = if size i j = 4 then 0x40800000#32 else if size i j = 6 then 0x40C00000#32 else 0x41100000#32 := by
  decide +kernel

/-- A window holds four, six or nine positions. -/
theorem size_cases : ∀ i j : Fin 3, size i j = 4 ∨ size i j = 6 ∨ size i j = 9 := by decide

/-- The table of window sizes, as numbers. -/
theorem sizes (b : Fin 4) (i j : Fin 3) : FloatOps.ofBits (F := Ideal) .f32 (lit3 (S36.rowMajor (ix1 ⟨Cert.Conv.row 3 b i j, Cert.Conv.row_lt b i j⟩)))
    = (((size i j : ℕ) : ℝ) : EReal) := by
  have h : (S36.rowMajor (ix1 (⟨Cert.Conv.row 3 b i j, Cert.Conv.row_lt b i j⟩ : Fin 36))) = (⟨Cert.Conv.row 3 b i j, Cert.Conv.row_lt b i j⟩ : Fin 36) := by
    apply Fin.ext
    exact Idealize.ShloMosaic.rowMajor_val1 _
  rw [h, lit3_word]
  rcases size_cases i j with h | h | h <;> rw [h] <;> simp only [if_true, Nat.reduceEqDiff, if_false]
  · rw [four]; norm_num
  · rw [six]; norm_num
  · rw [nine]; norm_num

end Cert.Tables

end
-- ==== Proof.KernelEnc.lean ====
/- The kernel's encoder: what the first call leaves, as the convolutions of the arguments. -/
module

public import proofs.«01_k».proof.Proof.EncEq
public import proofs.«01_k».proof.Proof.Regions
public import proofs.«01_k».proof.Proof.HostReads
public import proofs.«01_k».proof.Proof.Tables
public import proofs.«01_k».proof.Proof.Gen.KernelIdeal.Frame

@[expose] public section

set_option maxRecDepth 16384

noncomputable section

namespace Cert.KernelEnc

open Cert.KernelIdeal Cert.KernelIdeal.Gen
open Idealize.ShloMosaic Idealize.ShloMosaic.TcCoe

/-- The encoder as convolutions, with the windows' sizes. -/
def features (X : Fin 4 → Fin 10 → Fin 5 → Fin 5 → EReal)
    (w1 : Fin 64 → Fin 10 → Fin 3 → Fin 3 → EReal) (b1 : Fin 64 → EReal) (w2 : Fin 128 → Fin 64 → Fin 3 → Fin 3 → EReal) (b2 : Fin 128 → EReal)
    (w3 : Fin 256 → Fin 128 → Fin 3 → Fin 3 → EReal) (b3 : Fin 256 → EReal) (w4 : Fin 512 → Fin 256 → Fin 3 → Fin 3 → EReal) (b4 : Fin 512 → EReal) :
    Fin 4 → Fin 512 → Fin 3 → Fin 3 → EReal :=
  Conv.conv (EncEq.pooled Tables.size (Conv.conv (Conv.conv (Conv.conv X w1 b1) w2 b2) w3 b3)) w4 b4

/-- The pooling matrix as the kernel forms it: a mask divided by the window's size. -/
theorem mask_div (c : Bool) (i j : Fin 3) : Ideal.div (if c then (1 : EReal) else 0) (((Tables.size i j : ℕ) : ℝ) : EReal)
    = if c then ((1 / ((Tables.size i j : ℕ) : ℝ) : ℝ) : EReal) else 0 := by
  have h0 : ((Tables.size i j : ℕ) : ℝ) ≠ 0 := by
    rcases Tables.size_cases i j with h | h | h <;> rw [h] <;> norm_num
  unfold Ideal.div
  rw [if_neg (by exact_mod_cast h0)]
  cases c
  · simp
  · simp only [if_true, one_mul, one_div, EReal.coe_inv]

/-- The row of an image position, split. -/
theorem row5 (b : Fin 4) (y x : Fin 5) : Conv.row 5 b y x / 25 = b.val ∧ Conv.row 5 b y x / 5 % 5 = y.val ∧ Conv.row 5 b y x % 5 = x.val := by
  unfold Conv.row
  omega

variable (m : (ℓ : Loc nD τ sig) → Buf (Elt Ideal) ℓ) (ρ : Dev nD → PrngReg)

/-- What the first call leaves at an image position. -/
theorem enc (A0 : FVec Ideal S4x10x5x5 .f32) (A1 : FVec Ideal S64x10x3x3 .f32) (A2 : FVec Ideal S64 .f32) (A3 : FVec Ideal S128x64x3x3 .f32) (A4 : FVec Ideal S128 .f32)
    (A5 : FVec Ideal S256x128x3x3 .f32) (A6 : FVec Ideal S256 .f32) (A7 : FVec Ideal S512x256x3x3 .f32) (A8 : FVec Ideal S512 .f32) (c : Dev nD)
    (e0 : W0 m ρ c (Proc.devRef .tc main_arg0) = A0) (e1 : W0 m ρ c (Proc.devRef .tc main_arg1) = A1) (e2 : W0 m ρ c (Proc.devRef .tc main_arg2) = A2)
    (e3 : W0 m ρ c (Proc.devRef .tc main_arg3) = A3) (e4 : W0 m ρ c (Proc.devRef .tc main_arg4) = A4) (e5 : W0 m ρ c (Proc.devRef .tc main_arg5) = A5)
    (e6 : W0 m ρ c (Proc.devRef .tc main_arg6) = A6) (e7 : W0 m ρ c (Proc.devRef .tc main_arg7) = A7) (e8 : W0 m ρ c (Proc.devRef .tc main_arg8) = A8)
    (b : Fin 4) (o : Fin 512) (i j : Fin 3) (h : Conv.row 3 b i j < 36) :
    (W2 m ρ c (Proc.devRef .tc main_v17) : FVec Ideal S36x512 .f32) (ix2 ⟨Conv.row 3 b i j, h⟩ o)
      = features (fun b c y x => A0 (ix4 b c y x)) (fun o c i j => A1 (ix4 o c i j)) (fun o => A2 (ix1 o)) (fun o c i j => A3 (ix4 o c i j)) (fun o => A4 (ix1 o))
          (fun o c i j => A5 (ix4 o c i j)) (fun o => A6 (ix1 o)) (fun o c i j => A7 (ix4 o c i j)) (fun o => A8 (ix1 o)) b o i j := by
  have hw : (W2 m ρ c (Proc.devRef .tc main_v17) : FVec Ideal S36x512 .f32) = out0_12 (F := Ideal) (V1 m ρ c main_v2) (V1 m ρ c main_cst) (V1 m ρ c main_cst_0) (V1 m ρ c main_v4) (V1 m ρ c main_v6) (V1 m ρ c main_v7) (V1 m ρ c main_v9)
        (V1 m ρ c main_v10) (V1 m ρ c main_v12) (V1 m ρ c main_v13) (V1 m ρ c main_v15) (V1 m ρ c main_v16) :=
    (W2_arr m ρ c 12).trans (Regions.region0 (V1 m ρ) c)
  rw [hw]
  subst e0 e1 e2 e3 e4 e5 e6 e7 e8
  refine EncEq.encoder (V1 m ρ c main_v2) (V1 m ρ c main_cst) (V1 m ρ c main_cst_0) (V1 m ρ c main_v4) (V1 m ρ c main_v6) (V1 m ρ c main_v7) (V1 m ρ c main_v9)
        (V1 m ρ c main_v10) (V1 m ρ c main_v12) (V1 m ρ c main_v13) (V1 m ρ c main_v15) (V1 m ρ c main_v16) Tables.size _ _ _ _ _ _ _ _ _ ?_ ?_ ?_ ?_
    (HostReads.v6 (W0 m ρ c)) (HostReads.v7 (W0 m ρ c)) (HostReads.v9 (W0 m ρ c)) (HostReads.v10 (W0 m ρ c)) (HostReads.v12 (W0 m ρ c)) (HostReads.v13 (W0 m ρ c))
    (HostReads.v15 (W0 m ρ c)) (HostReads.v16 (W0 m ρ c)) b o i j h
  · intro b k y x h
    have := row5 b y x
    refine (HostReads.v2 (W0 m ρ c) ⟨Conv.row 5 b y x, h⟩ k).trans ?_
    simp only [this.1, this.2.1, this.2.2]
  · intro t r p
    exact (HostReads.cst (W0 m ρ c) (ix3 t r p)).trans (Tables.shift5 t r p)
  · intro t r p
    exact (HostReads.cst_0 (W0 m ρ c) (ix3 t r p)).trans (Tables.shift3 t r p)
  · intro b i j h p
    refine (HostReads.v4 (W0 m ρ c) ⟨Conv.row 3 b i j, h⟩ p).trans ?_
    rw [Tables.mask, Tables.sizes b i j]
    exact mask_div _ i j

end Cert.KernelEnc

end
-- ==== Proof.KernelValue.lean ====
/- The kernel's result at an index, as a function of its arguments. -/
module

public import proofs.«01_k».proof.Proof.KernelEnc

@[expose] public section

set_option maxRecDepth 16384

noncomputable section

namespace Cert.KernelValue

open Cert.KernelIdeal Cert.KernelIdeal.Gen
open Idealize.ShloMosaic Idealize.ShloMosaic.TcCoe

/-- The similarity without its last bias. -/
def score (X : FVec Ideal S8192x4608 .f32) (W : FVec Ideal S9216x512 .f32) (b1 : FVec Ideal S512 .f32) (W2 : FVec Ideal S512x256 .f32)
    (b2 : FVec Ideal S256 .f32) (W3 : FVec Ideal S256x1 .f32) (E : FVec Ideal S4x4608 .f32) (b : Fin 4) (j : Fin 8192) : EReal :=
  ∑ k : Fin 256, max ((∑ i : Fin 512, max ((∑ d : Fin 4608, X (ix2 j d) * W (ix2 ⟨4608 + d.val, by omega⟩ i))
          + (∑ d : Fin 4608, E (ix2 b d) * W (ix2 ⟨d.val, by omega⟩ i)) + b1 (ix1 i)) 0 * W2 (ix2 i k)) + b2 (ix1 k)) 0 * W3 (ix2 k 0)

/-- The decoder's output. -/
def decoded (E : FVec Ideal S4x4608 .f32) (A : FVec Ideal S4608x512 .f32) (a : FVec Ideal S512 .f32) (B : FVec Ideal S512x250 .f32) (d : FVec Ideal S250 .f32) (b : Fin 4) (n : Fin 250) : EReal :=
  (∑ k : Fin 512, max ((∑ d : Fin 4608, E (ix2 b d) * A (ix2 d k)) + a (ix1 k)) 0 * B (ix2 k n)) + d (ix1 n)

/-- The similarity call's result, its operands read. -/
theorem similar_eq (X : FVec Ideal S8192x4608 .f32) (W : FVec Ideal S9216x512 .f32) (b1 : FVec Ideal S512 .f32) (W2 : FVec Ideal S512x256 .f32)
    (b2 : FVec Ideal S256 .f32) (W3 : FVec Ideal S256x1 .f32) (E : FVec Ideal S4x4608 .f32) (Q : FVec Ideal S4x512 .f32) (c1 : FVec Ideal S1x512 .f32)
    (c2 : FVec Ideal S1x256 .f32) (c3 : FVec Ideal S1x256 .f32) (hQ : ∀ b i, Q (ix2 b i) = ∑ d : Fin 4608, E (ix2 b d) * W (ix2 ⟨d.val, by omega⟩ i))
    (h1 : ∀ i, c1 (ix2 0 i) = b1 (ix1 i)) (h2 : ∀ k, c2 (ix2 0 k) = b2 (ix1 k)) (h3 : ∀ k, c3 (ix2 0 k) = W3 (ix2 k 0)) (b : Fin 4) (j : Fin 8192) :
    Regions.similar X W Q c1 W2 c2 c3 (ix3 ⟨j.val / 512, by omega⟩ b ⟨j.val % 512, by omega⟩) = score X W b1 W2 b2 W3 E b j := by
  unfold Regions.similar score
  show (∑ k : Fin 256, max ((∑ i : Fin 512, max ((∑ d : Fin 4608, X (ix2 ⟨512 * (j.val / 512) + j.val % 512, _⟩ d) * W (ix2 ⟨4608 + d.val, _⟩ i)) + Q (ix2 b i) + c1 (ix2 0 i)) 0 * W2 (ix2 i k)) + c2 (ix2 0 k)) 0 * c3 (ix2 0 k)) = _
  simp only [Nat.div_add_mod, Fin.eta, hQ, h1, h2, h3]

variable (m : (ℓ : Loc nD τ sig) → Buf (Elt Ideal) ℓ) (ρ : Dev nD → PrngReg) (c : Dev nD)

/-- The features as the later calls read them. -/
def feats : FVec Ideal S4x4608 .f32 := (W3 m ρ c (Proc.devRef .tc main_v20) : FVec Ideal S4x4608 .f32)

/-- The similarities. -/
theorem sims (X : FVec Ideal S8192x4608 .f32) (W : FVec Ideal S9216x512 .f32) (b1 : FVec Ideal S512 .f32) (W2' : FVec Ideal S512x256 .f32)
    (b2 : FVec Ideal S256 .f32) (W3' : FVec Ideal S256x1 .f32)
    (hX : m ((c : Thread nD τ).loc main_arg19) = X) (hW : m ((c : Thread nD τ).loc main_arg9) = W) (hb1 : m ((c : Thread nD τ).loc main_arg10) = b1)
    (hW2 : m ((c : Thread nD τ).loc main_arg11) = W2') (hb2 : m ((c : Thread nD τ).loc main_arg12) = b2) (hW3 : m ((c : Thread nD τ).loc main_arg13) = W3')
    (b : Fin 4) (j : Fin 8192) :
    (W7 m ρ c (Proc.devRef .tc main_v31) : FVec Ideal S4x8192 .f32) (ix2 b j) = score X W b1 W2' b2 W3' (feats m ρ c) b j := by
  have hw : (W6 m ρ c (Proc.devRef .tc main_v29) : FVec Ideal S16x4x512 .f32) = Regions.similar (V5 m ρ c main_arg19) (V5 m ρ c main_arg9) (V5 m ρ c main_v22) (V5 m ρ c main_v26) (V5 m ρ c main_arg11) (V5 m ρ c main_v27) (V5 m ρ c main_v28) :=
    (W6_arr m ρ c 7).trans (Regions.region2 (V5 m ρ) c)
  have a19 : V5 m ρ c main_arg19 = X := (W5_args m ρ c main_arg19 (by decide)).trans hX
  have a9 : V5 m ρ c main_arg9 = W := (W5_args m ρ c main_arg9 (by decide)).trans hW
  have a11 : V5 m ρ c main_arg11 = W2' := (W5_args m ρ c main_arg11 (by decide)).trans hW2
  have a10 : (W4 m ρ c (Proc.devRef .tc main_arg10)) = b1 := (W4_args m ρ c main_arg10 (by decide)).trans hb1
  have a12 : (W4 m ρ c (Proc.devRef .tc main_arg12)) = b2 := (W4_args m ρ c main_arg12 (by decide)).trans hb2
  have a13 : (W4 m ρ c (Proc.devRef .tc main_arg13)) = W3' := (W4_args m ρ c main_arg13 (by decide)).trans hW3
  have a9' : (W2 m ρ c (Proc.devRef .tc main_arg9)) = W := (W2_args m ρ c main_arg9 (by decide)).trans hW
  have q : ∀ b i, (V5 m ρ c main_v22 : FVec Ideal S4x512 .f32) (ix2 b i) = ∑ d : Fin 4608, feats m ρ c (ix2 b d) * W (ix2 ⟨d.val, by omega⟩ i) := by
    intro b i
    have e : (V5 m ρ c main_v22 : FVec Ideal S4x512 .f32) = (W3 m ρ c (Proc.devRef .tc main_v22) : FVec Ideal S4x512 .f32) :=
      (W5_of m ρ c main_v22 (by decide)).trans (W4_of m ρ c main_v22 (by decide +kernel))
    rw [e]
    obtain ⟨P, hP⟩ : ∃ P : FVec Ideal S36x512 .f32, W2 m ρ c (Proc.devRef .tc main_v17) = P := ⟨_, rfl⟩
    have h20 : ∀ d : Fin 4608, feats m ρ c (ix2 b d) = P (ix2 ⟨b.val * 9 + d.val % 9, by omega⟩ ⟨d.val / 9, by omega⟩) :=
      fun d => (HostReads.v20 (W2 m ρ c) b d).trans (congrFun hP _)
    simp only [h20]
    exact HostReads.v22 (W2 m ρ c) P W hP a9' b i
  refine (HostReads.v31 (W6 m ρ c) b j).trans ?_
  rw [hw, a19, a9, a11]
  exact similar_eq X W b1 W2' b2 W3' (feats m ρ c) (V5 m ρ c main_v22) (V5 m ρ c main_v26) (V5 m ρ c main_v27) (V5 m ρ c main_v28) q
    (fun i => (HostReads.v26 (W4 m ρ c) i).trans (congrFun a10 (ix1 i))) (fun k => (HostReads.v27 (W4 m ρ c) k).trans (congrFun a12 (ix1 k)))
    (fun k => (HostReads.v28 (W4 m ρ c) k).trans (congrFun a13 (ix2 k 0))) b j

/-- The decoder's output, as the last call reads it. -/
theorem dec (A : FVec Ideal S4608x512 .f32) (a : FVec Ideal S512 .f32) (B : FVec Ideal S512x250 .f32) (d : FVec Ideal S250 .f32)
    (hA : m ((c : Thread nD τ).loc main_arg15) = A) (ha : m ((c : Thread nD τ).loc main_arg16) = a) (hB : m ((c : Thread nD τ).loc main_arg17) = B)
    (hd : m ((c : Thread nD τ).loc main_arg18) = d) (b : Fin 4) (k : Fin 10) (r : Fin 25) :
    (W7 m ρ c (Proc.devRef .tc main_v33) : FVec Ideal S4x10x25 .f32) (ix3 b k r) = decoded (feats m ρ c) A a B d b ⟨k.val * 25 + r.val, by omega⟩ := by
  have hw : (W6 m ρ c (Proc.devRef .tc main_v25) : FVec Ideal S4x250 .f32) = out1_5 (F := Ideal) (V3 m ρ c main_v20) (V3 m ρ c main_arg15) (V3 m ρ c main_v23) (V3 m ρ c main_arg17) (V3 m ρ c main_v24) :=
    ((W6_of m ρ c main_v25 (by decide +kernel)).trans (W5_of m ρ c main_v25 (by decide))).trans ((W4_arr m ρ c 5).trans (Regions.region1 (V3 m ρ) c))
  have a15 : V3 m ρ c main_arg15 = A := (W3_args m ρ c main_arg15 (by decide)).trans hA
  have a17 : V3 m ρ c main_arg17 = B := (W3_args m ρ c main_arg17 (by decide)).trans hB
  have a16 : (W2 m ρ c (Proc.devRef .tc main_arg16)) = a := (W2_args m ρ c main_arg16 (by decide)).trans ha
  have a18 : (W2 m ρ c (Proc.devRef .tc main_arg18)) = d := (W2_args m ρ c main_arg18 (by decide)).trans hd
  have e23 : ∀ i, (V3 m ρ c main_v23 : FVec Ideal S1x512 .f32) (ix2 0 i) = a (ix1 i) := fun i => (HostReads.v23 (W2 m ρ c) i).trans (congrFun a16 (ix1 i))
  have e24 : ∀ i, (V3 m ρ c main_v24 : FVec Ideal S1x250 .f32) (ix2 0 i) = d (ix1 i) := fun i => (HostReads.v24 (W2 m ρ c) i).trans (congrFun a18 (ix1 i))
  refine (HostReads.v33 (W6 m ρ c) b k r).trans ?_
  rw [hw, a15, a17]
  refine (HeadSims.head (V3 m ρ c main_v20) A (V3 m ρ c main_v23) B (V3 m ρ c main_v24) b _).trans ?_
  unfold decoded feats
  rw [e24]
  refine congrArg (fun t : EReal => t + _) ?_
  refine Finset.sum_congr rfl fun k _ => ?_
  rw [e23]

/-- The kernel's result at an index. -/
theorem out (M : IVec S8192x5x5 32) (hM : m ((c : Thread nD τ).loc main_arg20) = M) (S : Fin 4 → Fin 8192 → EReal) (D : Fin 4 → Fin 250 → EReal)
    (hS : ∀ b j, (W7 m ρ c (Proc.devRef .tc main_v31) : FVec Ideal S4x8192 .f32) (ix2 b j) = S b j)
    (hD : ∀ b k r, (W7 m ρ c (Proc.devRef .tc main_v33) : FVec Ideal S4x10x25 .f32) (ix3 b k r) = D b ⟨k.val * 25 + r.val, by omega⟩)
    (b : Fin 4) (v : Fin 10) (y z : Fin 5) :
    (W9 m ρ c (Proc.devRef .tc main_v35) : FVec Ideal S4x10x5x5 .f32) (ix4 b v y z)
      = (∑ j : Fin 8192, Top.weight (Ideal.ofBits .f32 0x41200000#32) (S b) j * FinalValue.hot (M (ix3 j y z)) v.val)
          * Ideal.div (Ideal.ofBits .f32 0x3F4CCCCD#32) (∑ j : Fin 8192, Top.weight (Ideal.ofBits .f32 0x41200000#32) (S b) j)
        + Ideal.ofBits .f32 0x3E4CCCCD#32 * D b ⟨v.val * 25 + y.val * 5 + z.val, by omega⟩ := by
  have hw : (W8 m ρ c (Proc.devRef .tc main_v34) : FVec Ideal S4x10x25 .f32) = Regions.mixed (V7 m ρ c main_v31) (V7 m ρ c main_v32) (V7 m ρ c main_v33) :=
    (W8_arr m ρ c 3).trans (Regions.region3 (V7 m ρ) c)
  have a20 : (W6 m ρ c (Proc.devRef .tc main_arg20)) = M := (W6_args m ρ c main_arg20 (by decide)).trans hM
  have e32 : ∀ j, (V7 m ρ c main_v32 : IVec S8192x25 32) (ix2 j ⟨y.val * 5 + z.val, by omega⟩) = M (ix3 j y z) := by
    intro j
    refine (HostReads.v32 (W6 m ρ c) j ⟨y.val * 5 + z.val, by omega⟩).trans ?_
    rw [a20]
    refine congrArg M ?_
    have h1 : (⟨(y.val * 5 + z.val) / 5, by omega⟩ : Fin 5) = y := Fin.ext (by simp only; omega)
    have h2 : (⟨(y.val * 5 + z.val) % 5, by omega⟩ : Fin 5) = z := Fin.ext (by simp only; omega)
    simp only [h1, h2]
  have e33 : (V7 m ρ c main_v33 : FVec Ideal S4x10x25 .f32) (ix3 b v ⟨y.val * 5 + z.val, by omega⟩) = D b ⟨v.val * 25 + (y.val * 5 + z.val), by omega⟩ := hD b v ⟨y.val * 5 + z.val, by omega⟩
  have e31 : (fun j => (V7 m ρ c main_v31 : FVec Ideal S4x8192 .f32) (ix2 b j)) = S b := funext (hS b)
  refine (HostReads.v35 (W8 m ρ c) b v y z).trans ?_
  rw [hw]
  unfold Regions.mixed
  show (∑ j : Fin 8192, Top.weight _ (fun j => (V7 m ρ c main_v31 : FVec Ideal S4x8192 .f32) (ix2 b j)) j * FinalValue.hot ((V7 m ρ c main_v32 : IVec S8192x25 32) (ix2 j ⟨y.val * 5 + z.val, _⟩)) v.val)
    * Ideal.div _ (∑ j : Fin 8192, Top.weight _ (fun j => (V7 m ρ c main_v31 : FVec Ideal S4x8192 .f32) (ix2 b j)) j) + _ * (V7 m ρ c main_v33 : FVec Ideal S4x10x25 .f32) (ix3 b v ⟨y.val * 5 + z.val, _⟩) = _
  rw [e31, e33]
  simp only [e32, Nat.add_assoc]

end Cert.KernelValue

end
-- ==== Proof.RefConv.lean ====
/- The reference's convolutions at an index. -/
module

public import proofs.«01_k».proof.Proof.Gen.ReferenceIdeal.Run
public import Idealize.ShloMosaic.Lib.Pointwise
public import Idealize.ShloMosaic.Lib.IdealHost
public import proofs.«01_k».proof.Proof.ConvMath

@[expose] public section

set_option maxRecDepth 16384

noncomputable section

namespace Cert.RefConv

open Cert.ReferenceIdeal Cert.ReferenceIdeal.Gen Cert.ReferenceIdeal.Value
open Idealize.ShloMosaic Idealize.ShloMosaic.TcCoe

variable (V : Valuation τ sig (Elt Ideal))

/-- Where a padded image holds the image. -/
theorem pad_iff {n0 n1 n2 n3 g : Nat} (b : Fin n0) (c : Fin n1) (y : Fin n2) (x : Fin n3) (m0 m1 : Nat) (hb : b.val < m0) (hc : c.val < m1) :
    (∀ a : Fin 4, (![0, 0, 1, 1] : Fin 4 → Nat) a ≤ ((ix4 b c y x : (⟨4, ![n0, n1, n2, n3]⟩ : Shape).Idx) a).val
      ∧ (((ix4 b c y x : (⟨4, ![n0, n1, n2, n3]⟩ : Shape).Idx) a).val - (![0, 0, 1, 1] : Fin 4 → Nat) a) % ((![0, 0, 0, 0] : Fin 4 → Nat) a + 1) = 0
      ∧ (((ix4 b c y x : (⟨4, ![n0, n1, n2, n3]⟩ : Shape).Idx) a).val - (![0, 0, 1, 1] : Fin 4 → Nat) a) / ((![0, 0, 0, 0] : Fin 4 → Nat) a + 1) < (![m0, m1, g, g] : Fin 4 → Nat) a)
    ↔ (1 ≤ y.val ∧ y.val - 1 < g) ∧ 1 ≤ x.val ∧ x.val - 1 < g := by
  constructor
  · intro h
    have h2 := h 2
    have h3 := h 3
    have e2 : ((ix4 b c y x : (⟨4, ![n0, n1, n2, n3]⟩ : Shape).Idx) 2).val = y.val := rfl
    have e3 : ((ix4 b c y x : (⟨4, ![n0, n1, n2, n3]⟩ : Shape).Idx) 3).val = x.val := rfl
    rw [e2] at h2
    rw [e3] at h3
    simp only [Matrix.cons_val, Nat.div_one, Nat.zero_add] at h2 h3
    exact ⟨⟨h2.1, h2.2.2⟩, h3.1, h3.2.2⟩
  · rintro ⟨⟨h1, h2⟩, h3, h4⟩ a
    match a with
    | 0 => exact ⟨Nat.zero_le _, Nat.mod_one _, by rw [show ((![0, 0, 0, 0] : Fin 4 → Nat) 0 + 1) = 1 from rfl, Nat.div_one]; exact hb⟩
    | 1 => exact ⟨Nat.zero_le _, Nat.mod_one _, by rw [show ((![0, 0, 0, 0] : Fin 4 → Nat) 1 + 1) = 1 from rfl, Nat.div_one]; exact hc⟩
    | 2 => exact ⟨h1, Nat.mod_one _, by rw [show ((![0, 0, 0, 0] : Fin 4 → Nat) 2 + 1) = 1 from rfl, Nat.div_one]; exact h2⟩
    | 3 => exact ⟨h3, Nat.mod_one _, by rw [show ((![0, 0, 0, 0] : Fin 4 → Nat) 3 + 1) = 1 from rfl, Nat.div_one]; exact h4⟩

/-- The padding value is zero. -/
theorem pad_zero : (FloatOps.sitofp .f32 (0#32) : Ideal .f32) = (0 : EReal) := by
  simp [FloatOps.sitofp]

/-- The rectified output of layer 3. -/
def out3 (b : Fin 4) (c : Fin 256) (y x : Fin 5) : EReal := max ((res_main_v178 (F := Ideal) V : FVec Ideal S4x256x5x5 .f32) (ix4 b c y x)) 0

/-- The rectified output of layer 4. -/
def out4 (b : Fin 4) (c : Fin 512) (y x : Fin 3) : EReal := max ((res_main_v290 (F := Ideal) V : FVec Ideal S4x512x3x3 .f32) (ix4 b c y x)) 0

/-- The input of layer 1. -/
def in1 (b : Fin 4) (c : Fin 10) (y x : Fin 5) : EReal := (V (Proc.devRef .tc main_arg0) : FVec Ideal S4x10x5x5 .f32) (ix4 b c y x)

/-- The input of layer 2. -/
def in2 (b : Fin 4) (c : Fin 64) (y x : Fin 5) : EReal := (res_main_v59 (F := Ideal) V : FVec Ideal S4x64x5x5 .f32) (ix4 b c y x)

/-- The input of layer 3. -/
def in3 (b : Fin 4) (c : Fin 128) (y x : Fin 5) : EReal := max ((res_main_v118 (F := Ideal) V : FVec Ideal S4x128x5x5 .f32) (ix4 b c y x)) 0

/-- The input of layer 4. -/
def in4 (b : Fin 4) (c : Fin 256) (y x : Fin 3) : EReal := (res_main_v231 (F := Ideal) V : FVec Ideal S4x256x3x3 .f32) (ix4 b c y x)

/-- The input of layer 1, padded. -/
theorem pad1 (b : Fin 4) (c : Fin 10) (y x : Fin 7) : (res_main_v0 (F := Ideal) V : FVec Ideal S4x10x7x7 .f32) (ix4 b c y x)
    = Conv.padAt (in1 V) b c y x := by
  unfold res_main_v0 Conv.padAt in1
  pointwise
  have hi := pad_iff (g := 5) b c y x 4 10 b.isLt c.isLt
  by_cases h : (1 ≤ y.val ∧ y.val - 1 < 5) ∧ 1 ≤ x.val ∧ x.val - 1 < 5
  · rw [dif_pos h]
    exact dif_pos (hi.2 h)
  · rw [dif_neg h]
    exact (dif_neg fun h' => h (hi.1 h')).trans pad_zero

set_option maxHeartbeats 2000000 in
/-- Layer 1. -/
theorem layer1 (A : FVec Ideal S64x10x3x3 .f32) (B : FVec Ideal S64 .f32) (hA : V (Proc.devRef .tc main_arg1) = A) (hB : V (Proc.devRef .tc main_arg2) = B)
    (b : Fin 4) (o : Fin 64) (y x : Fin 5) : in2 V b o y x
    = Conv.conv (in1 V) (fun o c i j => A (ix4 o c i j)) (fun o => B (ix1 o)) b o y x := by
  have hP := pad1 V
  unfold in2 res_main_v59 Conv.conv Conv.nine
  revert hP
  generalize res_main_v0 (F := Ideal) V = P
  intro hP
  rw [hA, hB]
  pointwise
  simp only [hP, Nat.add_comm]

/-- The input of layer 2, padded. -/
theorem pad2 (b : Fin 4) (c : Fin 64) (y x : Fin 7) : (res_main_v60 (F := Ideal) V : FVec Ideal S4x64x7x7 .f32) (ix4 b c y x)
    = Conv.padAt (in2 V) b c y x := by
  unfold res_main_v60 Conv.padAt in2
  pointwise
  have hi := pad_iff (g := 5) b c y x 4 64 b.isLt c.isLt
  by_cases h : (1 ≤ y.val ∧ y.val - 1 < 5) ∧ 1 ≤ x.val ∧ x.val - 1 < 5
  · rw [dif_pos h]
    exact dif_pos (hi.2 h)
  · rw [dif_neg h]
    exact (dif_neg fun h' => h (hi.1 h')).trans pad_zero

set_option maxHeartbeats 2000000 in
/-- Layer 2. -/
theorem layer2 (A : FVec Ideal S128x64x3x3 .f32) (B : FVec Ideal S128 .f32) (hA : V (Proc.devRef .tc main_arg3) = A) (hB : V (Proc.devRef .tc main_arg4) = B)
    (b : Fin 4) (o : Fin 128) (y x : Fin 5) : in3 V b o y x
    = Conv.conv (in2 V) (fun o c i j => A (ix4 o c i j)) (fun o => B (ix1 o)) b o y x := by
  have hP := pad2 V
  unfold in3 res_main_v118 Conv.conv Conv.nine
  revert hP
  generalize res_main_v60 (F := Ideal) V = P
  intro hP
  rw [hA, hB]
  pointwise
  simp only [hP, Nat.add_comm]

/-- The input of layer 3, padded. -/
theorem pad3 (b : Fin 4) (c : Fin 128) (y x : Fin 7) : (res_main_v120 (F := Ideal) V : FVec Ideal S4x128x7x7 .f32) (ix4 b c y x)
    = Conv.padAt (in3 V) b c y x := by
  unfold res_main_v120 Conv.padAt in3
  pointwise
  have hi := pad_iff (g := 5) b c y x 4 128 b.isLt c.isLt
  by_cases h : (1 ≤ y.val ∧ y.val - 1 < 5) ∧ 1 ≤ x.val ∧ x.val - 1 < 5
  · rw [dif_pos h]
    exact dif_pos (hi.2 h)
  · rw [dif_neg h]
    exact (dif_neg fun h' => h (hi.1 h')).trans pad_zero

set_option maxHeartbeats 2000000 in
/-- Layer 3. -/
theorem layer3 (A : FVec Ideal S256x128x3x3 .f32) (B : FVec Ideal S256 .f32) (hA : V (Proc.devRef .tc main_arg5) = A) (hB : V (Proc.devRef .tc main_arg6) = B)
    (b : Fin 4) (o : Fin 256) (y x : Fin 5) : out3 V b o y x
    = Conv.conv (in3 V) (fun o c i j => A (ix4 o c i j)) (fun o => B (ix1 o)) b o y x := by
  have hP := pad3 V
  unfold out3 res_main_v178 Conv.conv Conv.nine
  revert hP
  generalize res_main_v120 (F := Ideal) V = P
  intro hP
  rw [hA, hB]
  pointwise
  simp only [hP, Nat.add_comm]

/-- The input of layer 4, padded. -/
theorem pad4 (b : Fin 4) (c : Fin 256) (y x : Fin 5) : (res_main_v232 (F := Ideal) V : FVec Ideal S4x256x5x5 .f32) (ix4 b c y x)
    = Conv.padAt (in4 V) b c y x := by
  unfold res_main_v232 Conv.padAt in4
  pointwise
  have hi := pad_iff (g := 3) b c y x 4 256 b.isLt c.isLt
  by_cases h : (1 ≤ y.val ∧ y.val - 1 < 3) ∧ 1 ≤ x.val ∧ x.val - 1 < 3
  · rw [dif_pos h]
    exact dif_pos (hi.2 h)
  · rw [dif_neg h]
    exact (dif_neg fun h' => h (hi.1 h')).trans pad_zero

set_option maxHeartbeats 2000000 in
/-- Layer 4. -/
theorem layer4 (A : FVec Ideal S512x256x3x3 .f32) (B : FVec Ideal S512 .f32) (hA : V (Proc.devRef .tc main_arg7) = A) (hB : V (Proc.devRef .tc main_arg8) = B)
    (b : Fin 4) (o : Fin 512) (y x : Fin 3) : out4 V b o y x
    = Conv.conv (in4 V) (fun o c i j => A (ix4 o c i j)) (fun o => B (ix1 o)) b o y x := by
  have hP := pad4 V
  unfold out4 res_main_v290 Conv.conv Conv.nine
  revert hP
  generalize res_main_v232 (F := Ideal) V = P
  intro hP
  rw [hA, hB]
  pointwise
  simp only [hP, Nat.add_comm]

end Cert.RefConv

end
-- ==== Proof.RefPool.lean ====
/- The reference's pooling at an index. -/
module

public import proofs.«01_k».proof.Proof.Gen.ReferenceIdeal.Run
public import Idealize.ShloMosaic.Lib.Pointwise
public import Idealize.ShloMosaic.Lib.IdealHost
public import proofs.«01_k».proof.Proof.RefConv

@[expose] public section

set_option maxRecDepth 16384

noncomputable section

namespace Cert.RefPool

open Cert.ReferenceIdeal Cert.ReferenceIdeal.Gen Cert.ReferenceIdeal.Value
open Idealize.ShloMosaic Idealize.ShloMosaic.TcCoe

variable (V : Valuation τ sig (Elt Ideal))

/-- Dividing by a real number is multiplying by its reciprocal. -/
theorem div_real (S : EReal) (n : ℝ) (hn : n ≠ 0) : Ideal.div S (n : EReal) = S * ((1 / n : ℝ) : EReal) := by
  unfold Ideal.div
  rw [if_neg (by exact_mod_cast hn), one_div, EReal.coe_inv]

/-- The third layer's result at an index. -/
theorem act (b : Fin 4) (c : Fin 256) (y x : Fin 5) : (res_main_v179 (F := Ideal) V : FVec Ideal S4x256x5x5 .f32) (ix4 b c y x) = RefConv.out3 V b c y x := by
  unfold res_main_v179 RefConv.out3
  pointwise

/-- The number of positions in a pooling window. -/
def size (i j : Nat) : Nat := (Conv.last i - Conv.first i) * (Conv.last j - Conv.first j)

/-- The pooling is the mean over the window. -/
theorem pool (h4 : Ideal.ofBits .f32 0x40800000#32 = ((4 : ℝ) : EReal)) (h6 : Ideal.ofBits .f32 0x40C00000#32 = ((6 : ℝ) : EReal))
    (h9 : Ideal.ofBits .f32 0x41100000#32 = ((9 : ℝ) : EReal)) (b : Fin 4) (c : Fin 256) (i j : Fin 3) :
    RefConv.in4 V b c i j = Conv.window (RefConv.out3 V) b c i j * ((1 / ((size i j : ℕ) : ℝ) : ℝ) : EReal) := by
  have h := act V
  unfold RefConv.in4 res_main_v231
  revert h
  generalize res_main_v179 (F := Ideal) V = P
  intro h
  match i, j with
  | 0, 0 | 0, 1 | 0, 2 | 1, 0 | 1, 1 | 1, 2 | 2, 0 | 2, 1 | 2, 2 =>
    pointwise
    simp only [h4, h6, h9]
    rw [div_real _ _ (by norm_num)]
    simp only [Conv.window, Fin.sum_univ_five, Fin.sum_univ_two, Fin.sum_univ_three, h]
    simp [Conv.first, Conv.last, size]
    try rfl

/-- The features in the reference's order. -/
theorem enc (b : Fin 4) (d : Fin 4608) : (res_main_v292 (F := Ideal) V : FVec Ideal S4x4608 .f32) (ix2 b d)
    = RefConv.out4 V b ⟨d.val / 9, by omega⟩ ⟨d.val / 3 % 3, by omega⟩ ⟨d.val % 3, by omega⟩ := by
  unfold res_main_v292 RefConv.out4
  pointwise

end Cert.RefPool

end
-- ==== Proof.RefTop.lean ====
/- The reference's scores, and what taking the greatest of a row reads. -/
module

public import proofs.«01_k».proof.Proof.Gen.ReferenceIdeal.Run
public import Idealize.ShloMosaic.Lib.Pointwise
public import Idealize.ShloMosaic.Lib.IdealHost
public import proofs.«01_k».proof.Proof.TopMath
public import proofs.«01_k».proof.Proof.RefPool

@[expose] public section

set_option maxRecDepth 16384

noncomputable section

namespace Cert.RefTop

open Cert.ReferenceIdeal Cert.ReferenceIdeal.Gen Cert.ReferenceIdeal.Value
open Idealize.ShloMosaic Idealize.ShloMosaic.TcCoe

/-- The order in which a row is sorted, greatest first. -/
def order (S : FVec Ideal S4x8192 .f32) (b : Fin 4) : Fin 8192 → Fin 8192 := sortedFrom (Top.before fun j => S (ix2 b j))

/-- Sorting a row meets each entry once. -/
theorem order_bijective (S : FVec Ideal S4x8192 .f32) (b : Fin 4) : Function.Bijective (order S b) :=
  ⟨sortedFrom_injective _, sortedFrom_surjective _⟩

section row

variable {N : Nat} (S : FVec Ideal ⟨2, ![4, N]⟩ .f32)

/-- A row's index with its second part replaced. -/
theorem along_row (b : Fin 4) (k k' : Fin N) : (ix2 b k : (⟨2, ![4, N]⟩ : Shape).Idx).along (1 : Fin 2) k' = ix2 b k' := by
  funext a
  unfold Shape.Idx.along
  fin_cases a
  · rfl
  · rfl

/-- The order read through indices is the order of the row. -/
theorem before_row (b : Fin 4) (k : Fin N) :
    (fun i i' : Fin N => FloatOps.cmpfTotal (F := Ideal) (φ := .f32) .gt (S ((ix2 b k : (⟨2, ![4, N]⟩ : Shape).Idx).along (1 : Fin 2) i)) (S ((ix2 b k : (⟨2, ![4, N]⟩ : Shape).Idx).along (1 : Fin 2) i')) == 1#1)
      = Top.before fun j => S (ix2 b j) := by
  funext i i'
  rw [along_row, along_row]
  rfl

/-- A row sorted with its positions: the value at a place. -/
theorem sort_value (I : IVec ⟨2, ![4, N]⟩ 32) (b : Fin 4) (k : Fin N) :
    (Host.sort2 ⟨2, ![4, N]⟩ 1 (fun l r => FloatOps.cmpfTotal (F := Ideal) (φ := .f32) .gt l.1 r.1) S I).1 (ix2 b k) = S (ix2 b (sortedFrom (Top.before fun j => S (ix2 b j)) k)) := by
  unfold Host.sort2
  rw [dif_pos (by decide : 1 < 2)]
  refine (congrArg S (along_row b k _)).trans ?_
  exact congrArg (fun f => S (ix2 b (sortedFrom f k))) (before_row S b k)

/-- A row sorted with its positions: the position at a place. -/
theorem sort_index (I : IVec ⟨2, ![4, N]⟩ 32) (b : Fin 4) (k : Fin N) :
    (Host.sort2 ⟨2, ![4, N]⟩ 1 (fun l r => FloatOps.cmpfTotal (F := Ideal) (φ := .f32) .gt l.1 r.1) S I).2 (ix2 b k) = I (ix2 b (sortedFrom (Top.before fun j => S (ix2 b j)) k)) := by
  unfold Host.sort2
  rw [dif_pos (by decide : 1 < 2)]
  refine (congrArg I (along_row b k _)).trans ?_
  exact congrArg (fun f => I (ix2 b (sortedFrom f k))) (before_row S b k)

/-- Every position of a row. -/
def positions (N : Nat) : IVec ⟨2, ![4, N]⟩ 32 := fun i => if hd : 1 < (⟨2, ![4, N]⟩ : Shape).rank then iotaInDim ⟨2, ![4, N]⟩ 32 ⟨1, hd⟩ i else 0#32

/-- The first places of a row, as places of the row. -/
theorem first_places (m : Nat) (hm : m ≤ N) (h : (⟨2, ![4, N]⟩ : Shape).Slices (fun _ => 0) ⟨2, ![4, m]⟩) {α : Type} (x : (⟨2, ![4, N]⟩ : Shape).Idx → α) (b : Fin 4) (k : Fin m) :
    extractStridedSlice ⟨2, ![4, m]⟩ (fun _ => 0) x h (ix2 b k) = x (ix2 b ⟨k.val, by omega⟩) := by
  unfold extractStridedSlice
  refine congrArg x ?_
  funext a
  fin_cases a
  · exact Fin.ext (Nat.zero_add _)
  · exact Fin.ext (Nat.zero_add _)

/-- The values taken are the row's, in sorted order. -/
theorem top_value (m : Nat) (hm : m ≤ N) (h : (⟨2, ![4, N]⟩ : Shape).Slices (fun _ => 0) ⟨2, ![4, m]⟩) (b : Fin 4) (k : Fin m) :
    (Host.topK ⟨2, ![4, m]⟩ 1 (FloatOps.cmpfTotal (F := Ideal) (φ := .f32) .gt) S h).1 (ix2 b k) = S (ix2 b (sortedFrom (Top.before fun j => S (ix2 b j)) ⟨k.val, by omega⟩)) :=
  (first_places m hm h _ b k).trans (sort_value S (positions N) b ⟨k.val, by omega⟩)

/-- The positions taken. -/
theorem top_index (m : Nat) (hm : m ≤ N) (h : (⟨2, ![4, N]⟩ : Shape).Slices (fun _ => 0) ⟨2, ![4, m]⟩) (b : Fin 4) (k : Fin m) :
    (Host.topK ⟨2, ![4, m]⟩ 1 (FloatOps.cmpfTotal (F := Ideal) (φ := .f32) .gt) S h).2 (ix2 b k) = BitVec.ofNat 32 (sortedFrom (Top.before fun j => S (ix2 b j)) ⟨k.val, by omega⟩).val :=
  ((first_places m hm h _ b k).trans (sort_index S (positions N) b ⟨k.val, by omega⟩)).trans rfl

end row

variable (V : Valuation τ sig (Elt Ideal))

/-- The scores of the reference. -/
theorem score (X : FVec Ideal S8192x4608 .f32) (W : FVec Ideal S9216x512 .f32) (b1 : FVec Ideal S512 .f32) (W2 : FVec Ideal S512x256 .f32)
    (b2 : FVec Ideal S256 .f32) (W3 : FVec Ideal S256x1 .f32) (b3 : FVec Ideal S1 .f32) (E : FVec Ideal S4x4608 .f32)
    (hX : V (Proc.devRef .tc main_arg19) = X) (hW : V (Proc.devRef .tc main_arg9) = W) (hb1 : V (Proc.devRef .tc main_arg10) = b1)
    (hW2 : V (Proc.devRef .tc main_arg11) = W2) (hb2 : V (Proc.devRef .tc main_arg12) = b2) (hW3 : V (Proc.devRef .tc main_arg13) = W3)
    (hb3 : V (Proc.devRef .tc main_arg14) = b3) (hE : res_main_v292 (F := Ideal) V = E) (b : Fin 4) (j : Fin 8192) :
    (res_main_v315 (F := Ideal) V : FVec Ideal S4x8192 .f32) (ix2 b j)
      = (∑ k : Fin 256, max ((∑ i : Fin 512, max ((∑ d : Fin 4608, E (ix2 b d) * W (ix2 ⟨d.val, by omega⟩ i))
          + (∑ d : Fin 4608, X (ix2 j d) * W (ix2 ⟨4608 + d.val, by omega⟩ i)) + b1 (ix1 i)) 0 * W2 (ix2 i k)) + b2 (ix1 k)) 0 * W3 (ix2 k 0)) + b3 (ix1 0) := by
  subst hX hW hb1 hW2 hb2 hW3 hb3 hE
  unfold res_main_v315
  generalize res_main_v292 (F := Ideal) V = P
  pointwise

end Cert.RefTop

end
-- ==== Proof.RefFinal.lean ====
/- The reference's result at an index. -/
module

public import proofs.«01_k».proof.Proof.Gen.ReferenceIdeal.Run
public import Idealize.ShloMosaic.Lib.Pointwise
public import Idealize.ShloMosaic.Lib.IdealHost
public import Idealize.ShloMosaic.Lib.ReduceAll
public import proofs.«01_k».proof.Proof.RefTop
public import proofs.«01_k».proof.Proof.FinalValue

@[expose] public section

set_option maxRecDepth 16384

noncomputable section

namespace Cert.RefFinal

open Cert.ReferenceIdeal Cert.ReferenceIdeal.Gen Cert.ReferenceIdeal.Value
open Idealize.ShloMosaic Idealize.ShloMosaic.TcCoe

/-- A number below 8192 as a word, read back signed. -/
theorem word_toInt (n : Nat) (h : n < 8192) : (BitVec.ofNat 32 n).toInt = n := by
  rw [BitVec.toInt_eq_toNat_of_lt] <;> rw [BitVec.toNat_ofNat, Nat.mod_eq_of_lt] <;> omega

/-- Every place of a positions table is in range. -/
theorem in_range (I : IVec S4x50x1 32) (n : Fin 4 → Fin 50 → Fin 8192) (hI : ∀ b k, I (ix3 b k 0) = BitVec.ofNat 32 (n b k).val) (j : S4x50.Idx) :
    Host.reduce IntOp.andi (andi (cmpi .sge I (broadcastInDim S4x50x1 ![] bcast_S_S4x50x1 (constantI S_ 32 0#32))) (cmpi .sle I (broadcastInDim S4x50x1 ![0, 1, 2] bcast_S1x1x1_S4x50x1_0_1_2 (broadcastInDim S1x1x1 ![2] bcast_S1_S1x1x1_2 (constantI S1 32 8191#32))))) (constantI S_ 1 1#1) reducesTo_S4x50x1_S4x50_d2 h_S_ j = 1#1 := by
  refine Host.reduce_andi_one _ _ _ _ _ rfl ?_
  intro i
  rw [eq_ix3 i]
  have h0 : i 2 = (0 : Fin 1) := Subsingleton.elim (α := Fin 1) _ _
  have hI' := hI (i 0) (i 1)
  have e : (I (ix3 (i 0) (i 1) (i 2))) = BitVec.ofNat 32 (n (i 0) (i 1)).val := by rw [← hI']; congr 2
  show IntOp.andi (IntOp.cmpi .sge (I (ix3 (i 0) (i 1) (i 2))) 0#32) (IntOp.cmpi .sle (I (ix3 (i 0) (i 1) (i 2))) 8191#32) = 1#1
  rw [e]
  generalize n (i 0) (i 1) = q
  have := word_toInt q.val q.isLt
  have e1 : IntOp.cmpi .sge (BitVec.ofNat 32 q.val) 0#32 = 1#1 := by
    unfold IntOp.cmpi
    simp [BitVec.sle, this]
  have e2 : IntOp.cmpi .sle (BitVec.ofNat 32 q.val) 8191#32 = 1#1 := by
    unfold IntOp.cmpi
    have h8 : (8191#32).toInt = 8191 := by decide
    have hq : q.val ≤ 8191 := by omega
    simp only [BitVec.sle, this, h8]
    simp [hq]
  rw [e1, e2]
  rfl

/-- The rows that the positions name. -/
theorem rows {α : Type} (x : S8192x5x5.Idx → α) (I : IVec S4x50x1 32) (n : Fin 4 → Fin 50 → Fin 8192) (hI : ∀ b k, I (ix3 b k 0) = BitVec.ofNat 32 (n b k).val)
    (b : Fin 4) (k : Fin 50) (y z : Fin 5) :
    Host.gather gather_S8192x5x5_S4x50x1_S4x50x5x5_23_0_n_n_0_2_155 x I (ix4 b k y z) = x (ix3 (n b k) y z) := by
  unfold Host.gather
  refine congrArg x ?_
  have hs : gather_S8192x5x5_S4x50x1_S4x50x5x5_23_0_n_n_0_2_155.siIdx (ix4 b k y z) ⟨0, by decide⟩ = ix3 b k 0 := by
    funext a; refine Fin.ext ?_
    match a with
    | ⟨0, _⟩ => rfl
    | ⟨1, _⟩ => rfl
    | ⟨2, _⟩ => rfl
  funext a
  refine Fin.ext ?_
  match a with
  | ⟨0, _⟩ =>
    show gather_S8192x5x5_S4x50x1_S4x50x5x5_23_0_n_n_0_2_155.start (ix4 b k y z) I 0 + gather_S8192x5x5_S4x50x1_S4x50x5x5_23_0_n_n_0_2_155.batchCoord (ix4 b k y z) 0 + gather_S8192x5x5_S4x50x1_S4x50x5x5_23_0_n_n_0_2_155.offCoord (ix4 b k y z) 0 = (n b k).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8192x5x5_S4x50x1_S4x50x5x5_23_0_n_n_0_2_155.startIndexMap from List.mem_singleton.mpr rfl)]
    show min (I (gather_S8192x5x5_S4x50x1_S4x50x5x5_23_0_n_n_0_2_155.siIdx (ix4 b k y z) ⟨0, by decide⟩)).toInt.toNat 8191 = _
    rw [hs, hI, word_toInt _ (n b k).isLt]
    have := (n b k).isLt
    omega
  | ⟨1, _⟩ =>
    show 0 + 0 + y.val = y.val
    omega
  | ⟨2, _⟩ =>
    show 0 + 0 + z.val = z.val
    omega

/-- The one-hot entry as the reference computes it. -/
theorem hot_eq (a : BitVec 32) (n : Nat) :
    (FloatOps.uitofp .f32 (IntOp.cmpi .eq a (BitVec.ofNat 32 n)) : Ideal .f32) = FinalValue.hot a n := by
  unfold FinalValue.hot IntOp.cmpi
  by_cases h : a = BitVec.ofNat 32 n
  · simp [h, FloatOps.uitofp]
  · have e : (a == BitVec.ofNat 32 n) = false := beq_eq_false_iff_ne.2 h
    simp [h, e, FloatOps.uitofp]

variable (V : Valuation τ sig (Elt Ideal))

/-- The positions read. -/
theorem picked (b : Fin 4) (k : Fin 50) :
    (res_main_call10_v5 (F := Ideal) V : IVec S4x50x1 32) (ix3 b k 0)
      = BitVec.ofNat 32 (RefTop.order (res_main_v315 (F := Ideal) V) b ⟨k.val, by omega⟩).val := by
  have h : (res_main_indices (F := Ideal) V : IVec S4x50 32) (ix2 b k) = BitVec.ofNat 32 (RefTop.order (res_main_v315 (F := Ideal) V) b ⟨k.val, by omega⟩).val := by
    unfold res_main_indices
    exact RefTop.top_index (N := 8192) _ 50 (by omega) sliceFits_S4x8192_S4x50 b k
  unfold res_main_call10_v5
  revert h
  generalize res_main_indices (F := Ideal) V = P
  generalize RefTop.order (res_main_v315 (F := Ideal) V) b ⟨k.val, by omega⟩ = q
  intro h
  pointwise
  rw [h]
  have := word_toInt q.val q.isLt
  have e : IntOp.cmpi .slt (BitVec.ofNat 32 q.val) 0#32 = 0#1 := by
    unfold IntOp.cmpi
    simp only [BitVec.slt, this]
    rw [decide_eq_false (by simp)]
    rfl
  rw [e]
  rfl

/-- The largest entry of a row, taken over the indices that reduce into it. -/
theorem fold_row (P : FVec Ideal S4x50 .f32) (b : Fin 4) :
    Finset.fold max ⊥ (P : S4x50.Idx → EReal) (Finset.univ.filter fun i => reducesTo_S4x50_S4_d1.drop i = ix1 b) = Top.top fun k : Fin 50 => (P (ix2 b k) : EReal) := by
  apply le_antisymm
  · rw [Finset.fold_max_le]
    refine ⟨bot_le, fun i hi => ?_⟩
    have hd := congrFun (Finset.mem_filter.1 hi).2 0
    have h0 : i 0 = b := hd
    unfold Top.top
    rw [Finset.le_fold_max]
    refine Or.inr ⟨i 1, Finset.mem_univ _, ?_⟩
    rw [← h0, ← eq_ix2 i]
  · unfold Top.top
    rw [Finset.fold_max_le]
    refine ⟨bot_le, fun k _ => ?_⟩
    rw [Finset.le_fold_max]
    exact Or.inr ⟨ix2 b k, Finset.mem_filter.2 ⟨Finset.mem_univ _, by funext a; fin_cases a; rfl⟩, le_rfl⟩

/-- The scaled score at a place of the order. -/
def scaled (S : FVec Ideal S4x8192 .f32) (b : Fin 4) (k : Fin 50) : EReal :=
  S (ix2 b (RefTop.order S b ⟨k.val, by omega⟩)) * Ideal.ofBits .f32 0x41200000#32

/-- The exponentials. -/
theorem weigh (b : Fin 4) (k : Fin 50) :
    (res_main_v324 (F := Ideal) V : FVec Ideal S4x50 .f32) (ix2 b k)
      = Ideal.exp (scaled (res_main_v315 (F := Ideal) V) b k - Top.top fun k => scaled (res_main_v315 (F := Ideal) V) b k) := by
  have h : ∀ k, (res_main_v317 (F := Ideal) V : FVec Ideal S4x50 .f32) (ix2 b k) = scaled (res_main_v315 (F := Ideal) V) b k := by
    intro k
    unfold res_main_v317 scaled
    show FloatOps.mulf ((Host.topK S4x50 1 (FloatOps.cmpfTotal (F := Ideal) (φ := .f32) .gt) (res_main_v315 (F := Ideal) V) sliceFits_S4x8192_S4x50).1 (ix2 b k)) _ = _
    rw [show (Host.topK S4x50 1 (FloatOps.cmpfTotal (F := Ideal) (φ := .f32) .gt) (res_main_v315 (F := Ideal) V) sliceFits_S4x8192_S4x50).1 (ix2 b k) = _ from
      RefTop.top_value (N := 8192) _ 50 (by omega) sliceFits_S4x8192_S4x50 b k]
    rfl
  unfold res_main_v324
  revert h
  generalize res_main_v317 (F := Ideal) V = P
  generalize res_main_v315 (F := Ideal) V = S
  intro h
  pointwise
  have e := fold_row P b
  simp only [h] at e
  rw [FinalValue.negInf, max_eq_right bot_le, h k]
  exact congrArg (fun t : EReal => Ideal.exp (scaled S b k - t)) e

/-- The result of the reference before its last sum: the part read from the memory. -/
def recalled (M : IVec S8192x5x5 32) (S : FVec Ideal S4x8192 .f32) (b : Fin 4) (v : Fin 10) (y z : Fin 5) : EReal :=
  ∑ k : Fin 50, FinalValue.hot (M (ix3 (RefTop.order S b ⟨k.val, by omega⟩) y z)) v.val
    * Ideal.div (Ideal.exp (scaled S b k - Top.top fun k => scaled S b k)) (∑ k : Fin 50, Ideal.exp (scaled S b k - Top.top fun k => scaled S b k))

/-- The decoder's output. -/
def decoded (E : FVec Ideal S4x4608 .f32) (A : FVec Ideal S4608x512 .f32) (a : FVec Ideal S512 .f32) (B : FVec Ideal S512x250 .f32) (d : FVec Ideal S250 .f32) (b : Fin 4) (n : Fin 250) : EReal :=
  (∑ k : Fin 512, max ((∑ d : Fin 4608, E (ix2 b d) * A (ix2 d k)) + a (ix1 k)) 0 * B (ix2 k n)) + d (ix1 n)

/-- The reference's result at an index. -/
theorem value (E : FVec Ideal S4x4608 .f32) (A : FVec Ideal S4608x512 .f32) (a : FVec Ideal S512 .f32) (B : FVec Ideal S512x250 .f32) (d : FVec Ideal S250 .f32) (M : IVec S8192x5x5 32)
    (hE : res_main_v292 (F := Ideal) V = E) (hA : V (Proc.devRef .tc main_arg15) = A) (ha : V (Proc.devRef .tc main_arg16) = a) (hB : V (Proc.devRef .tc main_arg17) = B)
    (hd : V (Proc.devRef .tc main_arg18) = d) (hM : V (Proc.devRef .tc main_arg20) = M) (b : Fin 4) (v : Fin 10) (y z : Fin 5) :
    (val7 V (Proc.devRef .tc main_v350) : FVec Ideal S4x10x5x5 .f32) (ix4 b v y z)
      = recalled M (res_main_v315 (F := Ideal) V) b v y z * Ideal.ofBits .f32 0x3F4CCCCD#32
        + decoded E A a B d b ⟨v.val * 25 + y.val * 5 + z.val, by omega⟩ * Ideal.ofBits .f32 0x3E4CCCCD#32 := by
  have hw := weigh V b
  have hp := picked V
  have hr := rows (V (Proc.devRef .tc main_arg20)) (res_main_call10_v5 (F := Ideal) V) _ hp b
  have hg := in_range (res_main_call10_v5 (F := Ideal) V) _ hp
  rw [val7_main_v350]
  subst hE hA ha hB hd hM
  unfold recalled decoded
  revert hw hr hg
  generalize Host.gather gather_S8192x5x5_S4x50x1_S4x50x5x5_23_0_n_n_0_2_155 (V (Proc.devRef .tc main_arg20)) (res_main_call10_v5 (F := Ideal) V) = G
  generalize Host.reduce IntOp.andi (andi (cmpi .sge (res_main_call10_v5 (F := Ideal) V) (broadcastInDim S4x50x1 ![] bcast_S_S4x50x1 (constantI S_ 32 0#32))) (cmpi .sle (res_main_call10_v5 (F := Ideal) V) (broadcastInDim S4x50x1 ![0, 1, 2] bcast_S1x1x1_S4x50x1_0_1_2 (broadcastInDim S1x1x1 ![2] bcast_S1_S1x1x1_2 (constantI S1 32 8191#32))))) (constantI S_ 1 1#1) reducesTo_S4x50x1_S4x50_d2 h_S_ = R
  generalize res_main_v324 (F := Ideal) V = Wt
  generalize res_main_v292 (F := Ideal) V = E
  generalize res_main_v315 (F := Ideal) V = S
  intro hw hr hg
  pointwise
  simp only [hw, hr, hg]
  refine congrArg (fun t : EReal => t * Ideal.ofBits .f32 0x3F4CCCCD#32 + _) ?_
  refine Finset.sum_congr rfl fun k _ => ?_
  refine congrArg (fun t : EReal => t * _) ?_
  exact hot_eq _ _

end Cert.RefFinal

end
-- ==== Proof.PreRead.lean ====
/- The precondition, read of the reference's scores. -/
module

public import proofs.«01_k».proof.Pre_no_tie
public import proofs.«01_k».proof.Proof.PreFacts
public import proofs.«01_k».proof.Proof.RefTop

@[expose] public section

set_option maxRecDepth 16384

noncomputable section

namespace Cert.PreRead

open Cert.ReferenceIdeal Cert.ReferenceIdeal.Gen Cert.ReferenceIdeal.Value
open Idealize.ShloMosaic Idealize.ShloMosaic.TcCoe

/-- The precondition's test, of the scores. -/
def test (S : FVec Ideal S4x8192 .f32) : IVec Cert.Pre_no_tie.S4x50 1 :=
  andi (cmpf .ogt (extractStridedSlice Cert.Pre_no_tie.S4x50 ![0, 0] (Host.topK Cert.Pre_no_tie.S4x51 1 (FloatOps.cmpfTotal .gt) S Cert.Pre_no_tie.Facts.sliceFits_S4x8192_S4x51).1 Cert.Pre_no_tie.Facts.slices_S4x51_S4x50_0_0)
      (extractStridedSlice Cert.Pre_no_tie.S4x50 ![0, 1] (Host.topK Cert.Pre_no_tie.S4x51 1 (FloatOps.cmpfTotal .gt) S Cert.Pre_no_tie.Facts.sliceFits_S4x8192_S4x51).1 Cert.Pre_no_tie.Facts.slices_S4x51_S4x50_0_1))
    (broadcastInDim Cert.Pre_no_tie.S4x50 ![0, 1] Cert.Pre_no_tie.Facts.bcast_S4x1_S4x50_0_1
      (cmpf .olt (extractStridedSlice Cert.Pre_no_tie.S4x1 ![0, 0] (Host.topK Cert.Pre_no_tie.S4x51 1 (FloatOps.cmpfTotal .gt) S Cert.Pre_no_tie.Facts.sliceFits_S4x8192_S4x51).1 Cert.Pre_no_tie.Facts.slices_S4x51_S4x1_0_0)
        (broadcastInDim Cert.Pre_no_tie.S4x1 ![] Cert.Pre_no_tie.Facts.bcast_S_S4x1 (constant Cert.Pre_no_tie.S_ .f32 0x7F800000#32))))

variable (V : Valuation τ sig (Elt Ideal))

set_option maxHeartbeats 4000000 in
/-- The precondition is the test of the reference's scores. -/
theorem fn_eq : Cert.Pre_no_tie.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) = test (res_main_v315 (F := Ideal) V) := rfl

/-- Infinity. -/
theorem posInf : Ideal.ofBits .f32 0x7F800000#32 = ⊤ := by
  simp [Ideal.ofBits, Ideal.ieee]

/-- Read at an index: each value taken is above the next, and the largest is below infinity. -/
theorem read (S : FVec Ideal S4x8192 .f32) (h : test S = fun _ => 1#1) (b : Fin 4) (k : Fin 50) :
    S (ix2 b (RefTop.order S b ⟨k.val + 1, by omega⟩)) < S (ix2 b (RefTop.order S b ⟨k.val, by omega⟩)) ∧ S (ix2 b (RefTop.order S b ⟨0, by omega⟩)) < ⊤ := by
  have hT : ∀ k : Fin 51, (Host.topK Cert.Pre_no_tie.S4x51 1 (FloatOps.cmpfTotal (F := Ideal) (φ := .f32) .gt) S Cert.Pre_no_tie.Facts.sliceFits_S4x8192_S4x51).1 (ix2 b k) = S (ix2 b (RefTop.order S b ⟨k.val, by omega⟩)) :=
    fun k => RefTop.top_value (N := 8192) S 51 (by omega) _ b k
  have h' := congrFun h (ix2 b k)
  unfold test at h'
  have key : ∀ (T : FVec Ideal Cert.Pre_no_tie.S4x51 .f32), (andi (cmpf .ogt (extractStridedSlice Cert.Pre_no_tie.S4x50 ![0, 0] T Cert.Pre_no_tie.Facts.slices_S4x51_S4x50_0_0)
      (extractStridedSlice Cert.Pre_no_tie.S4x50 ![0, 1] T Cert.Pre_no_tie.Facts.slices_S4x51_S4x50_0_1))
    (broadcastInDim Cert.Pre_no_tie.S4x50 ![0, 1] Cert.Pre_no_tie.Facts.bcast_S4x1_S4x50_0_1
      (cmpf .olt (extractStridedSlice Cert.Pre_no_tie.S4x1 ![0, 0] T Cert.Pre_no_tie.Facts.slices_S4x51_S4x1_0_0)
        (broadcastInDim Cert.Pre_no_tie.S4x1 ![] Cert.Pre_no_tie.Facts.bcast_S_S4x1 (constant Cert.Pre_no_tie.S_ .f32 0x7F800000#32))))) (ix2 b k)
      = IntOp.andi (BitVec.ofBool (decide (T (ix2 b ⟨k.val + 1, by omega⟩) < T (ix2 b ⟨k.val, by omega⟩)))) (BitVec.ofBool (decide (T (ix2 b ⟨0, by omega⟩) < Ideal.ofBits .f32 0x7F800000#32))) := by
    intro T
    pointwise
    simp only [Nat.add_comm]
  rw [key] at h'
  revert h' hT
  generalize (Host.topK Cert.Pre_no_tie.S4x51 1 (FloatOps.cmpfTotal (F := Ideal) (φ := .f32) .gt) S Cert.Pre_no_tie.Facts.sliceFits_S4x8192_S4x51).1 = T
  intro hT h'
  have e1 := hT ⟨k.val, by omega⟩
  have e2 := hT ⟨k.val + 1, by omega⟩
  have e3 := hT ⟨0, by omega⟩
  rw [e1, e2, e3, posInf] at h'
  revert h'
  generalize S (ix2 b (RefTop.order S b ⟨k.val + 1, by omega⟩)) = p
  generalize S (ix2 b (RefTop.order S b ⟨k.val, by omega⟩)) = q
  generalize S (ix2 b (RefTop.order S b ⟨0, by omega⟩)) = r
  intro h'
  by_cases h1 : p < q
  · by_cases h2 : r < ⊤
    · exact ⟨h1, h2⟩
    · rw [decide_eq_false h2] at h'
      simp [IntOp.andi] at h'
  · rw [decide_eq_false h1] at h'
    simp [IntOp.andi] at h'

end Cert.PreRead

end
-- ==== Proof.Agree.lean ====
/- The kernel's result and the reference's are the same function of the arguments. -/
module

public import proofs.«01_k».proof.Proof.KernelValue
public import proofs.«01_k».proof.Proof.RefFinal
public import proofs.«01_k».proof.Proof.PreRead

@[expose] public section

set_option maxRecDepth 16384

noncomputable section

namespace Cert.Agree

open Cert.ReferenceIdeal Cert.ReferenceIdeal.Gen Cert.ReferenceIdeal.Value
open Idealize.ShloMosaic Idealize.ShloMosaic.TcCoe

variable (V : Valuation τ sig (Elt Ideal))

/-- The reference's encoder as convolutions of its arguments. -/
theorem features (A0 : FVec Ideal S4x10x5x5 .f32) (A1 : FVec Ideal S64x10x3x3 .f32) (A2 : FVec Ideal S64 .f32) (A3 : FVec Ideal S128x64x3x3 .f32) (A4 : FVec Ideal S128 .f32)
    (A5 : FVec Ideal S256x128x3x3 .f32) (A6 : FVec Ideal S256 .f32) (A7 : FVec Ideal S512x256x3x3 .f32) (A8 : FVec Ideal S512 .f32)
    (e0 : V (Proc.devRef .tc main_arg0) = A0) (e1 : V (Proc.devRef .tc main_arg1) = A1) (e2 : V (Proc.devRef .tc main_arg2) = A2)
    (e3 : V (Proc.devRef .tc main_arg3) = A3) (e4 : V (Proc.devRef .tc main_arg4) = A4) (e5 : V (Proc.devRef .tc main_arg5) = A5)
    (e6 : V (Proc.devRef .tc main_arg6) = A6) (e7 : V (Proc.devRef .tc main_arg7) = A7) (e8 : V (Proc.devRef .tc main_arg8) = A8) :
    RefConv.out4 V = KernelEnc.features (fun b c y x => A0 (ix4 b c y x)) (fun o c i j => A1 (ix4 o c i j)) (fun o => A2 (ix1 o)) (fun o c i j => A3 (ix4 o c i j)) (fun o => A4 (ix1 o))
          (fun o c i j => A5 (ix4 o c i j)) (fun o => A6 (ix1 o)) (fun o c i j => A7 (ix4 o c i j)) (fun o => A8 (ix1 o)) := by
  have h1 : RefConv.in1 V = fun b c y x => A0 (ix4 b c y x) := by
    funext b c y x
    exact congrFun e0 (ix4 b c y x)
  have h2 : RefConv.in2 V = _ := funext fun b => funext fun o => funext fun y => funext fun x => RefConv.layer1 V A1 A2 e1 e2 b o y x
  have h3 : RefConv.in3 V = _ := funext fun b => funext fun o => funext fun y => funext fun x => RefConv.layer2 V A3 A4 e3 e4 b o y x
  have h4 : RefConv.out3 V = _ := funext fun b => funext fun o => funext fun y => funext fun x => RefConv.layer3 V A5 A6 e5 e6 b o y x
  have h5 : RefConv.in4 V = EncEq.pooled Tables.size (RefConv.out3 V) := funext fun b => funext fun o => funext fun i => funext fun j =>
    RefPool.pool V Tables.four Tables.six Tables.nine b o i j
  have h6 : RefConv.out4 V = _ := funext fun b => funext fun o => funext fun y => funext fun x => RefConv.layer4 V A7 A8 e7 e8 b o y x
  rw [h6, h5, h4, h3, h2, h1]
  rfl

/-- What the last call forms is what the reference forms, once the row's greatest entries are apart. -/
theorem last (S : FVec Ideal S4x8192 .f32) (M : IVec S8192x5x5 32) (s : Fin 8192 → EReal) (c : EReal) (b : Fin 4) (v : Fin 10) (y z : Fin 5)
    (hS : ∀ j, S (ix2 b j) = s j + c)
    (hpre : ∀ k : Fin 50, S (ix2 b (RefTop.order S b ⟨k.val + 1, by omega⟩)) < S (ix2 b (RefTop.order S b ⟨k.val, by omega⟩)) ∧ S (ix2 b (RefTop.order S b ⟨0, by omega⟩)) < ⊤)
    (D : EReal) :
    (∑ j : Fin 8192, Top.weight (Ideal.ofBits .f32 0x41200000#32) s j * FinalValue.hot (M (ix3 j y z)) v.val)
          * Ideal.div (Ideal.ofBits .f32 0x3F4CCCCD#32) (∑ j : Fin 8192, Top.weight (Ideal.ofBits .f32 0x41200000#32) s j)
        + Ideal.ofBits .f32 0x3E4CCCCD#32 * D
      = RefFinal.recalled M S b v y z * Ideal.ofBits .f32 0x3F4CCCCD#32 + D * Ideal.ofBits .f32 0x3E4CCCCD#32 := by
  have hT : Ideal.ofBits .f32 0x41200000#32 = ((10 : ℝ) : EReal) := Tables.ten
  have hp : Ideal.ofBits .f32 0x3F4CCCCD#32 = ((13421773 / 16777216 : ℝ) : EReal) := Tables.weight_real
  have hg : ∀ j, FinalValue.hot (M (ix3 j y z)) v.val = (((if M (ix3 j y z) = BitVec.ofNat 32 v.val then 1 else 0 : ℝ)) : EReal) := by
    intro j
    unfold FinalValue.hot
    split <;> simp
  have hs : ∀ i j, i ≤ j → s (RefTop.order S b j) + c ≤ s (RefTop.order S b i) + c := by
    intro i j hij
    rw [← hS, ← hS]
    exact Top.sorted (fun j => S (ix2 b j)) i j hij
  have hf := Top.final s c (RefTop.order S b) (by norm_num) (RefTop.order_bijective S b) hs
    (fun k hk => by
      have := (hpre ⟨k, hk⟩).1
      rw [hS, hS] at this
      exact this)
    (by
      have := (hpre 0).2
      rw [hS] at this
      exact this) 10 (13421773 / 16777216) (by norm_num) (fun j => if M (ix3 j y z) = BitVec.ofNat 32 v.val then 1 else 0)
  unfold RefFinal.recalled RefFinal.scaled
  simp only [hS]
  rw [hT, hp, mul_comm (Ideal.ofBits .f32 0x3E4CCCCD#32) D]
  simp only [hg]
  exact congrArg (fun t : EReal => t + D * Ideal.ofBits .f32 0x3E4CCCCD#32) hf

/-- The features of both programs are the same. -/
theorem feats_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (F : Fin 4 → Fin 512 → Fin 3 → Fin 3 → EReal)
    (hk : ∀ (b : Fin 4) (o : Fin 512) (i j : Fin 3) (h : Conv.row 3 b i j < 36), (Cert.KernelIdeal.Gen.W2 m ρ c (Proc.devRef .tc Cert.KernelIdeal.main_v17) : FVec Ideal Cert.KernelIdeal.S36x512 .f32) (ix2 ⟨Conv.row 3 b i j, h⟩ o) = F b o i j)
    (hr : RefConv.out4 V = F) :
    res_main_v292 (F := Ideal) V = KernelValue.feats m ρ c := by
  have h : ∀ (b : Fin 4) (d : Fin 4608), (res_main_v292 (F := Ideal) V : FVec Ideal S4x4608 .f32) (ix2 b d) = KernelValue.feats m ρ c (ix2 b d) := by
    intro b d
    rw [RefPool.enc, hr]
    have hrow : b.val * 9 + d.val % 9 = Conv.row 3 b (d.val / 3 % 3) (d.val % 3) := by
      unfold Conv.row
      omega
    refine Eq.trans ?_ (HostReads.v20 (Cert.KernelIdeal.Gen.W2 m ρ c) b d).symm
    simp only [hrow]
    exact (hk b ⟨d.val / 9, by omega⟩ ⟨d.val / 3 % 3, by omega⟩ ⟨d.val % 3, by omega⟩ _).symm
  funext y
  have := h (y 0) (y 1)
  rwa [← eq_ix2 y] at this

/-- The two programs' results agree. -/
theorem equal (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (A0 : FVec Ideal S4x10x5x5 .f32) (A1 : FVec Ideal S64x10x3x3 .f32) (A2 : FVec Ideal S64 .f32) (A3 : FVec Ideal S128x64x3x3 .f32) (A4 : FVec Ideal S128 .f32) (A5 : FVec Ideal S256x128x3x3 .f32) (A6 : FVec Ideal S256 .f32) (A7 : FVec Ideal S512x256x3x3 .f32) (A8 : FVec Ideal S512 .f32) (A9 : FVec Ideal S9216x512 .f32) (A10 : FVec Ideal S512 .f32) (A11 : FVec Ideal S512x256 .f32) (A12 : FVec Ideal S256 .f32) (A13 : FVec Ideal S256x1 .f32) (A14 : FVec Ideal S1 .f32) (A15 : FVec Ideal S4608x512 .f32) (A16 : FVec Ideal S512 .f32) (A17 : FVec Ideal S512x250 .f32) (A18 : FVec Ideal S250 .f32) (A19 : FVec Ideal S8192x4608 .f32) (A20 : IVec S8192x5x5 32)
    (k0 : m ((c : Thread Cert.KernelIdeal.nD Cert.KernelIdeal.τ).loc Cert.KernelIdeal.main_arg0) = A0)
    (k1 : m ((c : Thread Cert.KernelIdeal.nD Cert.KernelIdeal.τ).loc Cert.KernelIdeal.main_arg1) = A1)
    (k2 : m ((c : Thread Cert.KernelIdeal.nD Cert.KernelIdeal.τ).loc Cert.KernelIdeal.main_arg2) = A2)
    (k3 : m ((c : Thread Cert.KernelIdeal.nD Cert.KernelIdeal.τ).loc Cert.KernelIdeal.main_arg3) = A3)
    (k4 : m ((c : Thread Cert.KernelIdeal.nD Cert.KernelIdeal.τ).loc Cert.KernelIdeal.main_arg4) = A4)
    (k5 : m ((c : Thread Cert.KernelIdeal.nD Cert.KernelIdeal.τ).loc Cert.KernelIdeal.main_arg5) = A5)
    (k6 : m ((c : Thread Cert.KernelIdeal.nD Cert.KernelIdeal.τ).loc Cert.KernelIdeal.main_arg6) = A6)
    (k7 : m ((c : Thread Cert.KernelIdeal.nD Cert.KernelIdeal.τ).loc Cert.KernelIdeal.main_arg7) = A7)
    (k8 : m ((c : Thread Cert.KernelIdeal.nD Cert.KernelIdeal.τ).loc Cert.KernelIdeal.main_arg8) = A8)
    (k9 : m ((c : Thread Cert.KernelIdeal.nD Cert.KernelIdeal.τ).loc Cert.KernelIdeal.main_arg9) = A9)
    (k10 : m ((c : Thread Cert.KernelIdeal.nD Cert.KernelIdeal.τ).loc Cert.KernelIdeal.main_arg10) = A10)
    (k11 : m ((c : Thread Cert.KernelIdeal.nD Cert.KernelIdeal.τ).loc Cert.KernelIdeal.main_arg11) = A11)
    (k12 : m ((c : Thread Cert.KernelIdeal.nD Cert.KernelIdeal.τ).loc Cert.KernelIdeal.main_arg12) = A12)
    (k13 : m ((c : Thread Cert.KernelIdeal.nD Cert.KernelIdeal.τ).loc Cert.KernelIdeal.main_arg13) = A13)
    (k14 : m ((c : Thread Cert.KernelIdeal.nD Cert.KernelIdeal.τ).loc Cert.KernelIdeal.main_arg14) = A14)
    (k15 : m ((c : Thread Cert.KernelIdeal.nD Cert.KernelIdeal.τ).loc Cert.KernelIdeal.main_arg15) = A15)
    (k16 : m ((c : Thread Cert.KernelIdeal.nD Cert.KernelIdeal.τ).loc Cert.KernelIdeal.main_arg16) = A16)
    (k17 : m ((c : Thread Cert.KernelIdeal.nD Cert.KernelIdeal.τ).loc Cert.KernelIdeal.main_arg17) = A17)
    (k18 : m ((c : Thread Cert.KernelIdeal.nD Cert.KernelIdeal.τ).loc Cert.KernelIdeal.main_arg18) = A18)
    (k19 : m ((c : Thread Cert.KernelIdeal.nD Cert.KernelIdeal.τ).loc Cert.KernelIdeal.main_arg19) = A19)
    (k20 : m ((c : Thread Cert.KernelIdeal.nD Cert.KernelIdeal.τ).loc Cert.KernelIdeal.main_arg20) = A20)
    (r0 : V (Proc.devRef .tc main_arg0) = A0)
    (r1 : V (Proc.devRef .tc main_arg1) = A1)
    (r2 : V (Proc.devRef .tc main_arg2) = A2)
    (r3 : V (Proc.devRef .tc main_arg3) = A3)
    (r4 : V (Proc.devRef .tc main_arg4) = A4)
    (r5 : V (Proc.devRef .tc main_arg5) = A5)
    (r6 : V (Proc.devRef .tc main_arg6) = A6)
    (r7 : V (Proc.devRef .tc main_arg7) = A7)
    (r8 : V (Proc.devRef .tc main_arg8) = A8)
    (r9 : V (Proc.devRef .tc main_arg9) = A9)
    (r10 : V (Proc.devRef .tc main_arg10) = A10)
    (r11 : V (Proc.devRef .tc main_arg11) = A11)
    (r12 : V (Proc.devRef .tc main_arg12) = A12)
    (r13 : V (Proc.devRef .tc main_arg13) = A13)
    (r14 : V (Proc.devRef .tc main_arg14) = A14)
    (r15 : V (Proc.devRef .tc main_arg15) = A15)
    (r16 : V (Proc.devRef .tc main_arg16) = A16)
    (r17 : V (Proc.devRef .tc main_arg17) = A17)
    (r18 : V (Proc.devRef .tc main_arg18) = A18)
    (r19 : V (Proc.devRef .tc main_arg19) = A19)
    (r20 : V (Proc.devRef .tc main_arg20) = A20)
    (hpre : Cert.Pre_no_tie.fn (F := Ideal) A0 A1 A2 A3 A4 A5 A6 A7 A8 A9 A10 A11 A12 A13 A14 A15 A16 A17 A18 A19 A20 = fun _ => 1#1) :
    (Cert.KernelIdeal.Gen.W9 m ρ c (Proc.devRef .tc Cert.KernelIdeal.main_v35) : FVec Ideal Cert.KernelIdeal.S4x10x5x5 .f32)
      = (val7 V (Proc.devRef .tc main_v350) : FVec Ideal S4x10x5x5 .f32) := by
  have hp : PreRead.test (res_main_v315 (F := Ideal) V) = fun _ => 1#1 := by
    rw [← PreRead.fn_eq V]
    rw [r0, r1, r2, r3, r4, r5, r6, r7, r8, r9, r10, r11, r12, r13, r14, r15, r16, r17, r18, r19, r20]
    exact hpre
  have hE := feats_eq V m ρ c _ (fun b o i j h => KernelEnc.enc m ρ A0 A1 A2 A3 A4 A5 A6 A7 A8 c k0 k1 k2 k3 k4 k5 k6 k7 k8 b o i j h)
    (features V A0 A1 A2 A3 A4 A5 A6 A7 A8 r0 r1 r2 r3 r4 r5 r6 r7 r8)
  have hS : ∀ b j, (res_main_v315 (F := Ideal) V : FVec Ideal S4x8192 .f32) (ix2 b j) = KernelValue.score A19 A9 A10 A11 A12 A13 (KernelValue.feats m ρ c) b j + A14 (ix1 0) := by
    intro b j
    rw [RefTop.score V A19 A9 A10 A11 A12 A13 A14 (KernelValue.feats m ρ c) r19 r9 r10 r11 r12 r13 r14 hE b j]
    unfold KernelValue.score
    refine congrArg (fun t : EReal => t + _) ?_
    refine Finset.sum_congr rfl fun k _ => ?_
    refine congrArg (fun t : EReal => max (t + _) 0 * _) ?_
    refine Finset.sum_congr rfl fun i _ => ?_
    refine congrArg (fun t : EReal => max (t + _) 0 * _) ?_
    exact add_comm _ _
  have key : ∀ (b : Fin 4) (v : Fin 10) (y z : Fin 5),
      (Cert.KernelIdeal.Gen.W9 m ρ c (Proc.devRef .tc Cert.KernelIdeal.main_v35) : FVec Ideal Cert.KernelIdeal.S4x10x5x5 .f32) (ix4 b v y z)
        = (val7 V (Proc.devRef .tc main_v350) : FVec Ideal S4x10x5x5 .f32) (ix4 b v y z) := by
    intro b v y z
    refine (KernelValue.out m ρ c A20 k20 (fun b j => KernelValue.score A19 A9 A10 A11 A12 A13 (KernelValue.feats m ρ c) b j) (fun b n => KernelValue.decoded (KernelValue.feats m ρ c) A15 A16 A17 A18 b n)
      (KernelValue.sims m ρ c A19 A9 A10 A11 A12 A13 k19 k9 k10 k11 k12 k13) (KernelValue.dec m ρ c A15 A16 A17 A18 k15 k16 k17 k18) b v y z).trans ?_
    refine (last (res_main_v315 (F := Ideal) V) A20 (fun j => KernelValue.score A19 A9 A10 A11 A12 A13 (KernelValue.feats m ρ c) b j) (A14 (ix1 0)) b v y z (hS b)
      (PreRead.read (res_main_v315 (F := Ideal) V) hp b) _).trans ?_
    exact (RefFinal.value V (KernelValue.feats m ρ c) A15 A16 A17 A18 A20 hE r15 r16 r17 r18 r20 b v y z).symm
  funext y
  have := key (y 0) (y 1) (y 2) (y 3)
  rwa [← eq_ix4 y] at this

end Cert.Agree

end
-- ==== Proof.Algebraic.lean ====
/- The value claim: the kernel over the extended reals computes what the reference computes, on arguments without a tie among
   the greatest similarities. -/
module

public import proofs.«01_k».proof.Defs
public import proofs.«01_k».proof.Proof.Gen.Kernel
public import proofs.«01_k».proof.Proof.KernelRun
public import proofs.«01_k».proof.Proof.Agree
public import Idealize.ShloMosaic.Lib.Claim
public import Idealize.ShloMosaic.Adequacy

@[expose] public section

set_option maxRecDepth 16384

noncomputable section

namespace Cert.Proof

open Idealize.ShloMosaic Idealize.SL.Sem

/-- The kernel's result equals the reference's, element by element. -/
theorem algebraic : Cert.algebraic_KernelIdeal_ReferenceIdeal_pre_no_tie (hKernelIdeal := Cert.KernelIdeal.Gen.facts)
    (hReferenceIdeal := Cert.ReferenceIdeal.Gen.facts) (hPre_no_tie := Cert.Pre_no_tie.Gen.facts) := by
  intro m g m' g' hpre hagree
  refine ⟨fun c => Cert.KernelIdeal.Gen.W9 m g c (Proc.devRef .tc Cert.KernelIdeal.main_v35), ?_, ?_⟩
  · exact (θ_run (Cert.KernelIdeal.defs (F := Ideal)) _ _).mono (fun r h => h.1) (Cert.KernelRun.value (F := Ideal) m g)
  · refine (θ_run (Cert.ReferenceIdeal.defs (F := Ideal)) _ _).mono (fun r h c => ⟨?_, (h c).2⟩) (Cert.ReferenceIdeal.Value.run (F := Ideal) m' g')
    obtain ⟨h0, h1, h2, h3, h4, h5, h6, h7, h8, h9, h10, h11, h12, h13, h14, h15, h16, h17, h18, h19, h20⟩ := hagree c
    refine (h c).1.trans ?_
    refine (Cert.ReferenceIdeal.Value.val7_main_v350 (F := Ideal) (StableHlo.launchContents m' c)).symm.trans ?_
    exact (Cert.Agree.equal (StableHlo.launchContents m' c) m g c _ _ _ _ _ _ _ _ _ _ _ _ _ _ _ _ _ _ _ _ _ rfl rfl rfl rfl rfl rfl rfl rfl rfl rfl rfl rfl rfl rfl rfl rfl rfl rfl rfl rfl rfl
      h0 h1 h2 h3 h4 h5 h6 h7 h8 h9 h10 h11 h12 h13 h14 h15 h16 h17 h18 h19 h20 (hpre c)).symm

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.PreFacts
public import proofs.«01_k».proof.Proof.Algebraic
public import Idealize.ShloMosaic.Lib.Claim
public import Idealize.ShloMosaic.Adequacy
public import Idealize.ShloMosaic.Init

@[expose] public section

noncomputable section

namespace Cert.Proof

open Idealize.ShloMosaic Idealize.SL.Sem

/-- The kernel as written runs, leaves its arguments alone and leaves every counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals. It declares no counter. -/
theorem frame_reference : Cert.quiescent_ReferenceIdeal := by
  intro m ρ _
  exact (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m ρ)

/-- The named constant: the kernel's −10³⁰ stands for −∞. -/
theorem preserves : Cert.preserves_Kernel_KernelIdeal :=
  IdealRules.named_const.statement Cert.KernelIdeal.κ "mask" .f32 0xF149F2CA#32 ⊥ rfl

/-- The five claims. -/
theorem claim : Cert.Claim := by
  refine ⟨Cert.Kernel.Gen.facts, Cert.KernelIdeal.Gen.facts, Cert.ReferenceIdeal.Gen.facts, Cert.Pre_no_tie.Gen.facts,
    frame_kernel, frame_kernelIdeal, ?_, frame_reference, ?_, preserves, ?_⟩
  · exact fun m ρ _ => frame_kernelIdeal m ρ trivial
  · exact fun m ρ _ => frame_reference m ρ trivial
  · exact algebraic

end Cert.Proof

end
